-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "far" .f32 0x7F61B1E6#32 ⊤

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S676x1536 : Shape := ⟨2, ![676, 1536]⟩
abbrev S16384x1536 : Shape := ⟨2, ![16384, 1536]⟩
abbrev S224x26 : Shape := ⟨2, ![224, 26]⟩
abbrev S_ : Shape := ⟨0, ![]⟩
abbrev S676 : Shape := ⟨1, ![676]⟩
abbrev S676x1 : Shape := ⟨2, ![676, 1]⟩
abbrev S16384 : Shape := ⟨1, ![16384]⟩
abbrev S16384x1 : Shape := ⟨2, ![16384, 1]⟩
abbrev S1x16384 : Shape := ⟨2, ![1, 16384]⟩
abbrev S676x16384 : Shape := ⟨2, ![676, 16384]⟩
abbrev S1536x16384 : Shape := ⟨2, ![1536, 16384]⟩
abbrev S16384x16384 : Shape := ⟨2, ![16384, 16384]⟩

class Facts : Prop where
  bcast_S_S676x1536 : S_.BroadcastsInDim S676x1536 (![] : Fin 0 → Fin S676x1536.rank)
  reducesTo_S676x1536_S_d0_1 : S676x1536.ReducesTo [0, 1] S_
  h_S_ : 0 < S_.numel
  bcast_S_S16384x1536 : S_.BroadcastsInDim S16384x1536 (![] : Fin 0 → Fin S16384x1536.rank)
  reducesTo_S16384x1536_S_d0_1 : S16384x1536.ReducesTo [0, 1] S_
  reducesTo_S676x1536_S676_d1 : S676x1536.ReducesTo [1] S676
  bcast_S676_S676x1_0 : S676.BroadcastsInDim S676x1 (![0] : Fin 1 → Fin S676x1.rank)
  reducesTo_S16384x1536_S16384_d1 : S16384x1536.ReducesTo [1] S16384
  bcast_S16384_S16384x1_0 : S16384.BroadcastsInDim S16384x1 (![0] : Fin 1 → Fin S16384x1.rank)
  transposes_S16384x1_S1x16384_1_0 : S16384x1.Transposes [1, 0] S1x16384
  bcast_S676x1_S676x16384_0_1 : S676x1.BroadcastsInDim S676x16384 (![0, 1] : Fin 2 → Fin S676x16384.rank)
  bcast_S1x16384_S676x16384_0_1 : S1x16384.BroadcastsInDim S676x16384 (![0, 1] : Fin 2 → Fin S676x16384.rank)
  transposes_S16384x1536_S1536x16384_1_0 : S16384x1536.Transposes [1, 0] S1536x16384
  bcast_S_S676x16384 : S_.BroadcastsInDim S676x16384 (![] : Fin 0 → Fin S676x16384.rank)
  reducesTo_S676x16384_S_d0_1 : S676x16384.ReducesTo [0, 1] S_
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S_d0_1 : S16384x16384.ReducesTo [0, 1] S_
  dot_S676x1536_S1536x16384_S676x16384_1_0_0_1_n_n_wf : DotDims.WF S676x1536 S1536x16384 S676x16384 [1] [0] [0] [1] [] []
  dot_S16384x1536_S1536x16384_S16384x16384_1_0_0_1_n_n_wf : DotDims.WF S16384x1536 S1536x16384 S16384x16384 [1] [0] [0] [1] [] []

variable [Facts]

def dot_S676x1536_S1536x16384_S676x16384_1_0_0_1_n_n : DotDims S676x1536 S1536x16384 S676x16384 where
  lhsContracting := [1]
  rhsContracting := [0]
  lhsNonContracting := [0]
  rhsNonContracting := [1]
  lhsBatch := []
  rhsBatch := []
  wf := dot_S676x1536_S1536x16384_S676x16384_1_0_0_1_n_n_wf
def dot_S16384x1536_S1536x16384_S16384x16384_1_0_0_1_n_n : DotDims S16384x1536 S1536x16384 S16384x16384 where
  lhsContracting := [1]
  rhsContracting := [0]
  lhsNonContracting := [0]
  rhsNonContracting := [1]
  lhsBatch := []
  rhsBatch := []
  wf := dot_S16384x1536_S1536x16384_S16384x16384_1_0_0_1_n_n_wf
def fn_part2 {F : FTy → Type} [FloatOps F] (main_arg1 : FVec F S16384x1536 .f32) (main_v30 : IVec S_ 1) (main_v33 : FVec F S16384x1 .f32) (main_v35 : FVec F S16384 .f32) : IVec S_ 1 :=
  let main_v36 : FVec F S16384x1 .f32 := broadcastInDim S16384x1 ![0] bcast_S16384_S16384x1_0 main_v35
  let main_v37 : FVec F S1x16384 .f32 := (transpose S1x16384 [1, 0] · transposes_S16384x1_S1x16384_1_0) main_v36
  let main_v38 : FVec F S16384x16384 .f32 := broadcastInDim S16384x16384 ![0, 1] bcast_S16384x1_S16384x16384_0_1 main_v33
  let main_v39 : FVec F S16384x16384 .f32 := broadcastInDim S16384x16384 ![0, 1] bcast_S1x16384_S16384x16384_0_1 main_v37
  let main_v40 : FVec F S16384x16384 .f32 := addf main_v38 main_v39
  let main_v41 : FVec F S1536x16384 .f32 := (transpose S1536x16384 [1, 0] · transposes_S16384x1536_S1536x16384_1_0) main_arg1
  let main_v42 : FVec F S16384x16384 .f32 := (fun l r => Host.dotGeneral dot_S16384x1536_S1536x16384_S16384x16384_1_0_0_1_n_n none l r) main_arg1 main_v41
  let main_cst_10 : FVec F S_ .f32 := constant S_ .f32 0x40000000#32
  let main_v43 : FVec F S16384x16384 .f32 := broadcastInDim S16384x16384 ![] bcast_S_S16384x16384 main_cst_10
  let main_v44 : FVec F S16384x16384 .f32 := mulf main_v43 main_v42
  let main_v45 : FVec F S16384x16384 .f32 := subf main_v40 main_v44
  let main_cst_11 : FVec F S_ .f32 := constant S_ .f32 0x00000000#32
  let main_v46 : FVec F S16384x16384 .f32 := broadcastInDim S16384x16384 ![] bcast_S_S16384x16384 main_cst_11
  let main_v47 : IVec S16384x16384 1 := cmpf .ole main_v45 main_v46
  let main_cst_12 : FVec F S_ .f32 := constant S_ .f32 0x2B8CBCCC#32
  let main_v48 : FVec F S16384x16384 .f32 := broadcastInDim S16384x16384 ![] bcast_S_S16384x16384 main_cst_12
  let main_v49 : IVec S16384x16384 1 := cmpf .ogt main_v45 main_v48
  let main_v50 : IVec S16384x16384 1 := ori main_v47 main_v49
  let main_c_13 : IVec S_ 1 := constantI S_ 1 1#1
  let main_v51 : IVec S_ 1 := (fun x v => Host.reduce IntOp.andi x v reducesTo_S16384x16384_S_d0_1 h_S_) main_v50 main_c_13
  let main_v52 : IVec S_ 1 := andi main_v30 main_v51
  main_v52

def fn_part1 {F : FTy → Type} [FloatOps F] (main_arg0 : FVec F S676x1536 .f32) (main_arg1 : FVec F S16384x1536 .f32) (main_v8 : IVec S_ 1) (main_v16 : FVec F S676x16384 .f32) (main_v17 : FVec F S676x16384 .f32) : IVec S_ 1 :=
  let main_v18 : FVec F S676x16384 .f32 := addf main_v16 main_v17
  let main_v19 : FVec F S1536x16384 .f32 := (transpose S1536x16384 [1, 0] · transposes_S16384x1536_S1536x16384_1_0) main_arg1
  let main_v20 : FVec F S676x16384 .f32 := (fun l r => Host.dotGeneral dot_S676x1536_S1536x16384_S676x16384_1_0_0_1_n_n none l r) main_arg0 main_v19
  let main_cst_4 : FVec F S_ .f32 := constant S_ .f32 0x40000000#32
  let main_v21 : FVec F S676x16384 .f32 := broadcastInDim S676x16384 ![] bcast_S_S676x16384 main_cst_4
  let main_v22 : FVec F S676x16384 .f32 := mulf main_v21 main_v20
  let main_v23 : FVec F S676x16384 .f32 := subf main_v18 main_v22
  let main_cst_5 : FVec F S_ .f32 := constant S_ .f32 0x00000000#32
  let main_v24 : FVec F S676x16384 .f32 := broadcastInDim S676x16384 ![] bcast_S_S676x16384 main_cst_5
  let main_v25 : IVec S676x16384 1 := cmpf .ole main_v23 main_v24
  let main_cst_6 : FVec F S_ .f32 := constant S_ .f32 0x2B8CBCCC#32
  let main_v26 : FVec F S676x16384 .f32 := broadcastInDim S676x16384 ![] bcast_S_S676x16384 main_cst_6
  let main_v27 : IVec S676x16384 1 := cmpf .ogt main_v23 main_v26
  let main_v28 : IVec S676x16384 1 := ori main_v25 main_v27
  let main_c_7 : IVec S_ 1 := constantI S_ 1 1#1
  let main_v29 : IVec S_ 1 := (fun x v => Host.reduce IntOp.andi x v reducesTo_S676x16384_S_d0_1 h_S_) main_v28 main_c_7
  let main_v30 : IVec S_ 1 := andi main_v8 main_v29
  let main_v31 : FVec F S16384x1536 .f32 := mulf main_arg1 main_arg1
  let main_cst_8 : FVec F S_ .f32 := constant S_ .f32 0x00000000#32
  let main_v32 : FVec F S16384 .f32 := (fun x v => Host.reduceAdd x v reducesTo_S16384x1536_S16384_d1 h_S_) main_v31 main_cst_8
  let main_v33 : FVec F S16384x1 .f32 := broadcastInDim S16384x1 ![0] bcast_S16384_S16384x1_0 main_v32
  let main_v34 : FVec F S16384x1536 .f32 := mulf main_arg1 main_arg1
  let main_cst_9 : FVec F S_ .f32 := constant S_ .f32 0x00000000#32
  let main_v35 : FVec F S16384 .f32 := (fun x v => Host.reduceAdd x v reducesTo_S16384x1536_S16384_d1 h_S_) main_v34 main_cst_9
  fn_part2 (F := F) main_arg1 main_v30 main_v33 main_v35

def fn {F : FTy → Type} [FloatOps F] (main_arg0 : FVec F S676x1536 .f32) (main_arg1 : FVec F S16384x1536 .f32) (main_arg2 : FVec F S224x26 .f32) : IVec S_ 1 :=
  let main_v0 : FVec F S676x1536 .f32 := Host.absf main_arg0
  let main_cst : FVec F S_ .f32 := constant S_ .f32 0x7F800000#32
  let main_v1 : FVec F S676x1536 .f32 := broadcastInDim S676x1536 ![] bcast_S_S676x1536 main_cst
  let main_v2 : IVec S676x1536 1 := cmpf .olt main_v0 main_v1
  let main_c : IVec S_ 1 := constantI S_ 1 1#1
  let main_v3 : IVec S_ 1 := (fun x v => Host.reduce IntOp.andi x v reducesTo_S676x1536_S_d0_1 h_S_) main_v2 main_c
  let main_v4 : FVec F S16384x1536 .f32 := Host.absf main_arg1
  let main_cst_0 : FVec F S_ .f32 := constant S_ .f32 0x7F800000#32
  let main_v5 : FVec F S16384x1536 .f32 := broadcastInDim S16384x1536 ![] bcast_S_S16384x1536 main_cst_0
  let main_v6 : IVec S16384x1536 1 := cmpf .olt main_v4 main_v5
  let main_c_1 : IVec S_ 1 := constantI S_ 1 1#1
  let main_v7 : IVec S_ 1 := (fun x v => Host.reduce IntOp.andi x v reducesTo_S16384x1536_S_d0_1 h_S_) main_v6 main_c_1
  let main_v8 : IVec S_ 1 := andi main_v3 main_v7
  let main_v9 : FVec F S676x1536 .f32 := mulf main_arg0 main_arg0
  let main_cst_2 : FVec F S_ .f32 := constant S_ .f32 0x00000000#32
  let main_v10 : FVec F S676 .f32 := (fun x v => Host.reduceAdd x v reducesTo_S676x1536_S676_d1 h_S_) main_v9 main_cst_2
  let main_v11 : FVec F S676x1 .f32 := broadcastInDim S676x1 ![0] bcast_S676_S676x1_0 main_v10
  let main_v12 : FVec F S16384x1536 .f32 := mulf main_arg1 main_arg1
  let main_cst_3 : FVec F S_ .f32 := constant S_ .f32 0x00000000#32
  let main_v13 : FVec F S16384 .f32 := (fun x v => Host.reduceAdd x v reducesTo_S16384x1536_S16384_d1 h_S_) main_v12 main_cst_3
  let main_v14 : FVec F S16384x1 .f32 := broadcastInDim S16384x1 ![0] bcast_S16384_S16384x1_0 main_v13
  let main_v15 : FVec F S1x16384 .f32 := (transpose S1x16384 [1, 0] · transposes_S16384x1_S1x16384_1_0) main_v14
  let main_v16 : FVec F S676x16384 .f32 := broadcastInDim S676x16384 ![0, 1] bcast_S676x1_S676x16384_0_1 main_v11
  let main_v17 : FVec F S676x16384 .f32 := broadcastInDim S676x16384 ![0, 1] bcast_S1x16384_S676x16384_0_1 main_v15
  fn_part1 (F := F) main_arg0 main_arg1 main_v8 main_v16 main_v17
-- ==== Kernel.lean ====
abbrev S676x1536 : Shape := ⟨2, ![676, 1536]⟩
abbrev S16384x1536 : Shape := ⟨2, ![16384, 1536]⟩
abbrev S224x26 : Shape := ⟨2, ![224, 26]⟩
abbrev S1x676 : Shape := ⟨2, ![1, 676]⟩
abbrev S4x1x4096 : Shape := ⟨3, ![4, 1, 4096]⟩
abbrev S1x1536 : Shape := ⟨2, ![1, 1536]⟩
abbrev S1x1 : Shape := ⟨2, ![1, 1]⟩
abbrev S2048x1536 : Shape := ⟨2, ![2048, 1536]⟩
abbrev S1x1x2048 : Shape := ⟨3, ![1, 1, 2048]⟩
abbrev S2048x676 : Shape := ⟨2, ![2048, 676]⟩
abbrev S2048 : Shape := ⟨1, ![2048]⟩
abbrev S2048x1 : Shape := ⟨2, ![2048, 1]⟩
abbrev S1x2048 : Shape := ⟨2, ![1, 2048]⟩
abbrev S676 : Shape := ⟨1, ![676]⟩
abbrev S676x1 : Shape := ⟨2, ![676, 1]⟩
abbrev S1x1x676 : Shape := ⟨3, ![1, 1, 676]⟩
abbrev S1 : Shape := ⟨1, ![1]⟩
abbrev S1x1x1 : Shape := ⟨3, ![1, 1, 1]⟩
abbrev S1536 : Shape := ⟨1, ![1536]⟩
abbrev S_ : Shape := ⟨0, ![]⟩
abbrev S26x26 : Shape := ⟨2, ![26, 26]⟩
abbrev S224x224 : Shape := ⟨2, ![224, 224]⟩
abbrev S4096x1536 : Shape := ⟨2, ![4096, 1536]⟩
abbrev S1x1x4096 : Shape := ⟨3, ![1, 1, 4096]⟩
abbrev S4x4096 : Shape := ⟨2, ![4, 4096]⟩
abbrev S1x4096 : Shape := ⟨2, ![1, 4096]⟩
abbrev S2x1536 : Shape := ⟨2, ![2, 1536]⟩
abbrev S2x4096 : Shape := ⟨2, ![2, 4096]⟩
abbrev S1x1x1536 : Shape := ⟨3, ![1, 1, 1536]⟩
abbrev S1x4x4096 : Shape := ⟨3, ![1, 4, 4096]⟩
abbrev S1x1x224x224 : Shape := ⟨4, ![1, 1, 224, 224]⟩

abbrev nBuf : Space → Nat
  | .hbm => 31
  | .vmem => 27
  | .smem => 0
  | _ => 0

abbrev bufTy : (tb : Table) → Fin (tcTables nBuf tb) → BufTy
  | .hbm, ⟨0, _⟩ => ⟨S676x1536, .f32⟩
  | .hbm, ⟨1, _⟩ => ⟨S16384x1536, .f32⟩
  | .hbm, ⟨2, _⟩ => ⟨S224x26, .f32⟩
  | .hbm, ⟨3, _⟩ => ⟨S1x676, .f32⟩
  | .hbm, ⟨4, _⟩ => ⟨S1x676, .i32⟩
  | .hbm, ⟨5, _⟩ => ⟨S4x1x4096, .f32⟩
  | .hbm, ⟨6, _⟩ => ⟨S16384x1536, .bf16⟩
  | .hbm, ⟨7, _⟩ => ⟨S1x1536, .f32⟩
  | .hbm, ⟨8, _⟩ => ⟨S1x1, .i32⟩
  | .hbm, ⟨9, _⟩ => ⟨S1x1, .i32⟩
  | .hbm, ⟨10, _⟩ => ⟨S1x1, .f32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1x1536, .f32⟩
  | .hbm, ⟨26, _⟩ => ⟨S26x26, .f32⟩
  | .hbm, ⟨27, _⟩ => ⟨S1x1, .f32⟩
  | .hbm, ⟨28, _⟩ => ⟨S224x224, .f32⟩
  | .hbm, ⟨29, _⟩ => ⟨S_, .f32⟩
  | .hbm, ⟨30, _⟩ => ⟨S1x1x224x224, .f32⟩
  | .local _ .vmem, ⟨0, _⟩ => ⟨S676x1536, .f32⟩
  | .local _ .vmem, ⟨1, _⟩ => ⟨S2048x1536, .f32⟩
  | .local _ .vmem, ⟨2, _⟩ => ⟨S2048x1536, .f32⟩
  | .local _ .vmem, ⟨3, _⟩ => ⟨S1x676, .f32⟩
  | .local _ .vmem, ⟨4, _⟩ => ⟨S1x676, .i32⟩
  | .local _ .vmem, ⟨5, _⟩ => ⟨S1x1x2048, .f32⟩
  | .local _ .vmem, ⟨6, _⟩ => ⟨S1x1x2048, .f32⟩
  | .local _ .vmem, ⟨7, _⟩ => ⟨S2048x1536, .bf16⟩
  | .local _ .vmem, ⟨8, _⟩ => ⟨S2048x1536, .bf16⟩
  | .local _ .vmem, ⟨9, _⟩ => ⟨S1x1536, .f32⟩
  | .local _ .vmem, ⟨10, _⟩ => ⟨S1x1, .i32⟩
  | .local _ .vmem, ⟨11, _⟩ => ⟨S1x1, .i32⟩
  | .local _ .vmem, ⟨12, _⟩ => ⟨S1x1, .f32⟩
  | .local _ .vmem, ⟨13, _⟩ => ⟨S676x1536, .f32⟩
  | .local _ .vmem, ⟨14, _⟩ => ⟨S4096x1536, .bf16⟩
  | .local _ .vmem, ⟨15, _⟩ => ⟨S4096x1536, .bf16⟩
  | .local _ .vmem, ⟨16, _⟩ => ⟨S1x1x4096, .f32⟩
  | .local _ .vmem, ⟨17, _⟩ => ⟨S1x1x4096, .f32⟩
  | .local _ .vmem, ⟨18, _⟩ => ⟨S1x1536, .f32⟩
  | .local _ .vmem, ⟨19, _⟩ => ⟨S1x1536, .f32⟩
  | .local _ .vmem, ⟨20, _⟩ => ⟨S1x1, .f32⟩
  | .local _ .vmem, ⟨21, _⟩ => ⟨S26x26, .f32⟩
  | .local _ .vmem, ⟨22, _⟩ => ⟨S224x26, .f32⟩
  | .local _ .vmem, ⟨23, _⟩ => ⟨S1x1, .f32⟩
  | .local _ .vmem, ⟨24, _⟩ => ⟨S224x224, .f32⟩
  | .local _ .vmem, ⟨25, _⟩ => ⟨S4x4096, .f32⟩
  | .local _ .vmem, ⟨26, _⟩ => ⟨S4x4096, .f32⟩
  | _, _ => ⟨S676x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev main_v0_7 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_c_1 : Ref sig .tc := ⟨.hbm, 17, rfl⟩
abbrev main_c_2 : Ref sig .tc := ⟨.hbm, 18, rfl⟩
abbrev main_v5 : Ref sig .tc := ⟨.hbm, 19, rfl⟩
abbrev main_c_3 : Ref sig .tc := ⟨.hbm, 20, rfl⟩
abbrev main_c_4 : Ref sig .tc := ⟨.hbm, 21, rfl⟩
abbrev main_v6 : Ref sig .tc := ⟨.hbm, 22, rfl⟩
abbrev main_c_5 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10_0 : Ref sig .tc := ⟨.hbm, 27, rfl⟩
abbrev main_v10_1 : Ref sig .tc := ⟨.hbm, 28, rfl⟩
abbrev main_v11 : Ref sig .tc := ⟨.hbm, 29, rfl⟩
abbrev main_v12 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_scratch0 : Ref sig .tc := ⟨.vmem, 25, rfl⟩
abbrev cc1_scratch1 : Ref sig .tc := ⟨.vmem, 26, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c0_i32_14 : BitVec 32 := 0#32
  let v29 : BitVec 1 := Scalar.cmpi .eq arg0 c0_i32_14
  let v30 : BitVec 32 := Scalar.extui v29
  let c0_i32_15 : BitVec 32 := 0#32
  let v31 : BitVec 1 := Scalar.cmpi .ne v30 c0_i32_15
  v31

def k0_cond3 (i : grid0.Coords) : BitVec 1 :=
  let arg0 : BitVec 32 := BitVec.ofNat 32 (i 0).val
  let c0_i32_16 : BitVec 32 := 0#32
  let v32 : BitVec 1 := Scalar.cmpi .sgt arg0 c0_i32_16
  let v33 : BitVec 32 := Scalar.extui v32
  let c0_i32_17 : BitVec 32 := 0#32
  let v34 : BitVec 1 := Scalar.cmpi .ne v33 c0_i32_17
  v34

def k0_cond4 (i : grid0.Coords) : BitVec 1 :=
  let arg0 : BitVec 32 := BitVec.ofNat 32 (i 0).val
  let c7_i32 : BitVec 32 := 7#32
  let v35 : BitVec 1 := Scalar.cmpi .eq arg0 c7_i32
  let v36 : BitVec 32 := Scalar.extui v35
  let c0_i32_18 : BitVec 32 := 0#32
  let v37 : BitVec 1 := Scalar.cmpi .ne v36 c0_i32_18
  v37

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S676x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x676 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x676 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![4], ![false]⟩

def k1_off1 (i : grid1.Coords) : Fin 2 → Nat :=
  let arg0 : BitVec 32 := BitVec.ofNat 32 (i 0).val
  let v27 : Index := Scalar.indexCast arg0
  let c0_11 : Index := 0#32
  ![v27.toNat, 0]
def k1_cond2 (i : grid1.Coords) : BitVec 1 :=
  let arg0 : BitVec 32 := BitVec.ofNat 32 (i 0).val
  let c3_i32 : BitVec 32 := 3#32
  let v44 : BitVec 1 := Scalar.cmpi .eq arg0 c3_i32
  let v45 : BitVec 32 := Scalar.extui v44
  let c0_i32_15 : BitVec 32 := 0#32
  let v46 : BitVec 1 := Scalar.cmpi .ne v45 c0_i32_15
  v46

def k1_cond1 (i : grid1.Coords) : BitVec 1 :=
  let arg0 : BitVec 32 := BitVec.ofNat 32 (i 0).val
  let c0_i32 : BitVec 32 := 0#32
  let v41 : BitVec 1 := Scalar.cmpi .eq arg0 c0_i32
  let v42 : BitVec 32 := Scalar.extui v41
  let c0_i32_14 : BitVec 32 := 0#32
  let v43 : BitVec 1 := Scalar.cmpi .ne v42 c0_i32_14
  v43

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4096x1536 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1536 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1536 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S26x26 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S224x26 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S224x224 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]
-- ==== KernelIdeal.lean ====
variable {F : FTy → Type} [FloatOps F] [Named F]
def κ : String → Option EReal := fun
  | "far" => some ⊤
  | _ => none
-- ==== ReferenceIdeal.lean ====
abbrev S676x1536 : Shape := ⟨2, ![676, 1536]⟩
abbrev S16384x1536 : Shape := ⟨2, ![16384, 1536]⟩
abbrev S224x26 : Shape := ⟨2, ![224, 26]⟩
abbrev S_ : Shape := ⟨0, ![]⟩
abbrev S676 : Shape := ⟨1, ![676]⟩
abbrev S676x1 : Shape := ⟨2, ![676, 1]⟩
abbrev S16384 : Shape := ⟨1, ![16384]⟩
abbrev S16384x1 : Shape := ⟨2, ![16384, 1]⟩
abbrev S1x16384 : Shape := ⟨2, ![1, 16384]⟩
abbrev S676x16384 : Shape := ⟨2, ![676, 16384]⟩
abbrev S1536x16384 : Shape := ⟨2, ![1536, 16384]⟩
abbrev S1x1536 : Shape := ⟨2, ![1, 1536]⟩
abbrev S1536 : Shape := ⟨1, ![1536]⟩
abbrev S1 : Shape := ⟨1, ![1]⟩
abbrev S1x1 : Shape := ⟨2, ![1, 1]⟩
abbrev S1x3 : Shape := ⟨2, ![1, 3]⟩
abbrev S1x2 : Shape := ⟨2, ![1, 2]⟩
abbrev S2 : Shape := ⟨1, ![2]⟩
abbrev S2x1 : Shape := ⟨2, ![2, 1]⟩
abbrev S2x1536 : Shape := ⟨2, ![2, 1536]⟩
abbrev S26x26 : Shape := ⟨2, ![26, 26]⟩
abbrev S26x224 : Shape := ⟨2, ![26, 224]⟩
abbrev S224x224 : Shape := ⟨2, ![224, 224]⟩
abbrev S1x1x224x224 : Shape := ⟨4, ![1, 1, 224, 224]⟩

abbrev nBuf : Space → Nat
  | .hbm => 137
  | .vmem => 0
  | .smem => 0
  | _ => 0

abbrev hbmTy0_0 (i : Nat) : BufTy := match i % 128 with
  | 0 => ⟨S676x1536, .f32⟩
  | 1 => ⟨S16384x1536, .f32⟩
  | 2 => ⟨S224x26, .f32⟩
  | 3 => ⟨S676x1536, .f32⟩
  | 4 => ⟨S_, .f32⟩
  | 5 => ⟨S676, .f32⟩
  | 6 => ⟨S676x1, .f32⟩
  | 7 => ⟨S16384x1536, .f32⟩
  | 8 => ⟨S_, .f32⟩
  | 9 => ⟨S16384, .f32⟩
  | 10 => ⟨S16384x1, .f32⟩
  | 11 => ⟨S1x16384, .f32⟩
  | 12 => ⟨S676x16384, .f32⟩
  | 13 => ⟨S676x16384, .f32⟩
  | 14 => ⟨S676x16384, .f32⟩
  | 15 => ⟨S1536x16384, .f32⟩
  | 16 => ⟨S676x16384, .f32⟩
  | 17 => ⟨S_, .f32⟩
  | 18 => ⟨S676x16384, .f32⟩
  | 19 => ⟨S676x16384, .f32⟩
  | 20 => ⟨S676x16384, .f32⟩
  | 21 => ⟨S_, .f32⟩
  | 22 => ⟨S676x16384, .f32⟩
  | 23 => ⟨S676x16384, .f32⟩
  | 24 => ⟨S676x16384, .f32⟩
  | 25 => ⟨S_, .f32⟩
  | 26 => ⟨S676, .f32⟩
  | 27 => ⟨S676x16384, .i32⟩
  | 28 => ⟨S_, .f32⟩
  | 29 => ⟨S_, .i32⟩
  | 30 => ⟨S676, .f32⟩
  | 31 => ⟨S676, .i32⟩
  | 32 => ⟨S676, .i32⟩
  | 33 => ⟨S_, .f32⟩
  | 34 => ⟨S_, .i32⟩
  | 35 => ⟨S_, .f32⟩
  | 36 => ⟨S_, .i32⟩
  | 37 => ⟨S_, .f32⟩
  | 38 => ⟨S_, .f32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S_, .i32⟩
  | 50 => ⟨S_, .i32⟩
  | 51 => ⟨S_, .i32⟩
  | 52 => ⟨S1x1536, .f32⟩
  | 53 => ⟨S1536, .f32⟩
  | 54 => ⟨S1x1536, .f32⟩
  | 55 => ⟨S_, .i32⟩
  | 56 => ⟨S_, .i1⟩
  | 57 => ⟨S_, .i32⟩
  | 58 => ⟨S_, .i32⟩
  | 59 => ⟨S_, .i32⟩
  | 60 => ⟨S1, .i32⟩
  | 61 => ⟨S_, .i32⟩
  | 62 => ⟨S_, .i32⟩
  | 63 => ⟨S_, .i1⟩
  | 64 => ⟨S_, .i32⟩
  | 65 => ⟨S_, .i32⟩
  | 66 => ⟨S_, .i32⟩
  | 67 => ⟨S_, .i32⟩
  | 68 => ⟨S_, .i32⟩
  | 69 => ⟨S_, .i1⟩
  | 70 => ⟨S_, .i32⟩
  | 71 => ⟨S_, .i32⟩
  | 72 => ⟨S_, .i32⟩
  | 73 => ⟨S_, .i32⟩
  | 74 => ⟨S_, .i32⟩
  | 75 => ⟨S1x1536, .f32⟩
  | 76 => ⟨S1536, .f32⟩
  | 77 => ⟨S1x1536, .f32⟩
  | 78 => ⟨S1x1536, .f32⟩
  | 79 => ⟨S_, .f32⟩
  | 80 => ⟨S1, .f32⟩
  | 81 => ⟨S1x1, .f32⟩
  | 82 => ⟨S16384x1536, .f32⟩
  | 83 => ⟨S_, .f32⟩
  | 84 => ⟨S16384, .f32⟩
  | 85 => ⟨S16384x1, .f32⟩
  | 86 => ⟨S1x16384, .f32⟩
  | 87 => ⟨S1x16384, .f32⟩
  | 88 => ⟨S1x16384, .f32⟩
  | 89 => ⟨S1536x16384, .f32⟩
  | 90 => ⟨S1x16384, .f32⟩
  | 91 => ⟨S_, .f32⟩
  | 92 => ⟨S1x16384, .f32⟩
  | 93 => ⟨S1x16384, .f32⟩
  | 94 => ⟨S1x16384, .f32⟩
  | 95 => ⟨S_, .f32⟩
  | 96 => ⟨S1x16384, .f32⟩
  | 97 => ⟨S1x16384, .f32⟩
  | 98 => ⟨S1x16384, .f32⟩
  | 99 => ⟨S1x16384, .f32⟩
  | 100 => ⟨S1x3, .f32⟩
  | 101 => ⟨S1x3, .i32⟩
  | 102 => ⟨S1x2, .i32⟩
  | 103 => ⟨S2, .i32⟩
  | 104 => ⟨S_, .i32⟩
  | 105 => ⟨S2, .i32⟩
  | 106 => ⟨S2, .i1⟩
  | 107 => ⟨S_, .i32⟩
  | 108 => ⟨S2, .i32⟩
  | 109 => ⟨S2, .i32⟩
  | 110 => ⟨S2, .i32⟩
  | 111 => ⟨S2x1, .i32⟩
  | 112 => ⟨S2x1536, .f32⟩
  | 113 => ⟨S2x1536, .f32⟩
  | 114 => ⟨S2x1536, .f32⟩
  | 115 => ⟨S2x1536, .f32⟩
  | 116 => ⟨S_, .f32⟩
  | 117 => ⟨S2, .f32⟩
  | 118 => ⟨S2, .f32⟩
  | 119 => ⟨S_, .f32⟩
  | 120 => ⟨S_, .f32⟩
  | 121 => ⟨S_, .f32⟩
  | 122 => ⟨S_, .f32⟩
  | 123 => ⟨S2, .f32⟩
  | 124 => ⟨S2, .f32⟩
  | 125 => ⟨S2, .f32⟩
  | 126 => ⟨S_, .f32⟩
  | 127 => ⟨S_, .f32⟩
  | _ => ⟨S676x1536, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S26x26, .f32⟩
  | 5 => ⟨S224x26, .f32⟩
  | 6 => ⟨S26x224, .f32⟩
  | 7 => ⟨S224x224, .f32⟩
  | 8 => ⟨S1x1x224x224, .f32⟩
  | _ => ⟨S676x1536, .f32⟩

abbrev hbmTy (i : Nat) : BufTy := match i / 128 with
  | 0 => hbmTy0_0 i
  | 1 => hbmTy0_1 i
  | _ => ⟨S676x1536, .f32⟩

abbrev bufTy : (tb : Table) → Fin (tcTables nBuf tb) → BufTy
  | .hbm, ⟨i, _⟩ => hbmTy i
  | _, _ => ⟨S676x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_call0_v0 : Ref sig .tc := ⟨.hbm, 27, rfl⟩
abbrev main_call0_cst : Ref sig .tc := ⟨.hbm, 28, rfl⟩
abbrev main_call0_c : Ref sig .tc := ⟨.hbm, 29, rfl⟩
abbrev main_call0_v1_0 : Ref sig .tc := ⟨.hbm, 30, rfl⟩
abbrev main_v19 : Ref sig .tc := ⟨.hbm, 31, rfl⟩
abbrev main_call1_v0 : Ref sig .tc := ⟨.hbm, 32, rfl⟩
abbrev main_call1_cst : Ref sig .tc := ⟨.hbm, 33, rfl⟩
abbrev main_call1_c : Ref sig .tc := ⟨.hbm, 34, rfl⟩
abbrev main_call1_v1_0 : Ref sig .tc := ⟨.hbm, 35, rfl⟩
abbrev main_v20 : Ref sig .tc := ⟨.hbm, 36, rfl⟩
abbrev main_cst_4 : Ref sig .tc := ⟨.hbm, 37, rfl⟩
abbrev main_v21 : Ref sig .tc := ⟨.hbm, 38, rfl⟩
abbrev main_c : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_c_6 : Ref sig .tc := ⟨.hbm, 44, rfl⟩
abbrev main_c_7 : Ref sig .tc := ⟨.hbm, 45, rfl⟩
abbrev main_v25 : Ref sig .tc := ⟨.hbm, 46, rfl⟩
abbrev main_c_8 : Ref sig .tc := ⟨.hbm, 47, rfl⟩
abbrev main_c_9 : Ref sig .tc := ⟨.hbm, 48, rfl⟩
abbrev main_v26 : Ref sig .tc := ⟨.hbm, 49, rfl⟩
abbrev main_c_10 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_11 : Ref sig .tc := ⟨.hbm, 55, rfl⟩
abbrev main_v31 : Ref sig .tc := ⟨.hbm, 56, rfl⟩
abbrev main_c_12 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_13 : Ref sig .tc := ⟨.hbm, 62, rfl⟩
abbrev main_v36 : Ref sig .tc := ⟨.hbm, 63, rfl⟩
abbrev main_c_14 : Ref sig .tc := ⟨.hbm, 64, rfl⟩
abbrev main_v37 : Ref sig .tc := ⟨.hbm, 65, rfl⟩
abbrev main_v38 : Ref sig .tc := ⟨.hbm, 66, rfl⟩
abbrev main_c_15 : Ref sig .tc := ⟨.hbm, 67, rfl⟩
abbrev main_c_16 : Ref sig .tc := ⟨.hbm, 68, rfl⟩
abbrev main_v39 : Ref sig .tc := ⟨.hbm, 69, rfl⟩
abbrev main_c_17 : Ref sig .tc := ⟨.hbm, 70, rfl⟩
abbrev main_c_18 : Ref sig .tc := ⟨.hbm, 71, rfl⟩
abbrev main_v40 : Ref sig .tc := ⟨.hbm, 72, rfl⟩
abbrev main_c_19 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_20 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_21 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_22 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_23 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_values : Ref sig .tc := ⟨.hbm, 100, rfl⟩
abbrev main_indices : Ref sig .tc := ⟨.hbm, 101, rfl⟩
abbrev main_v63 : Ref sig .tc := ⟨.hbm, 102, rfl⟩
abbrev main_v64 : Ref sig .tc := ⟨.hbm, 103, rfl⟩
abbrev main_c_24 : Ref sig .tc := ⟨.hbm, 104, rfl⟩
abbrev main_v65 : Ref sig .tc := ⟨.hbm, 105, rfl⟩
abbrev main_v66 : Ref sig .tc := ⟨.hbm, 106, rfl⟩
abbrev main_c_25 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_cst_26 : Ref sig .tc := ⟨.hbm, 116, rfl⟩
abbrev main_v75 : Ref sig .tc := ⟨.hbm, 117, rfl⟩
abbrev main_v76 : Ref sig .tc := ⟨.hbm, 118, rfl⟩
abbrev main_cst_27 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_cst_28 : Ref sig .tc := ⟨.hbm, 126, rfl⟩
abbrev main_v83 : Ref sig .tc := ⟨.hbm, 127, rfl⟩
abbrev main_v84 : Ref sig .tc := ⟨.hbm, 128, rfl⟩
abbrev main_cst_29 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩

abbrev nD : Nat := 1
abbrev τ : Topo := Topo.v7x

variable {F : FTy → Type} [FloatOps F]
-- ==== Proof.Whole.lean ====
module

public import proofs.«01_k».proof.Proof.Gen.KernelIdeal.Launch
public import Idealize.ShloMosaic.Lib.VecWindow
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Loads and stores of a whole buffer: a load reads what the buffer reads, a store leaves its payload -/

variable {sp : Space} {e : EltTy}

/-- A load of the whole of a `S676x1536` view reads the view. -/
theorem ra_S676x1536 (v : View sig .tc sp S676x1536 e) (f : v.ty.Contents (Elt F)) (inb : ∀ a, (![0, 0] : Fin S676x1536.rank → ℕ) a + (![676, 1536] : Fin S676x1536.rank → ℕ) a ≤ S676x1536.size a) :
    v.readAt (Elt F) (Rect.unit (s := S676x1536) ![0, 0] ![676, 1536] inb).toLoadRect f = v.read (Elt F) f := View.readAt_full v f inb
/-- A store of the whole of a `S676x1536` view leaves its payload. -/
theorem rw_S676x1536 (v : View sig .tc sp S676x1536 e) (f : v.ty.Contents (Elt F)) (inb : ∀ a, (![0, 0] : Fin S676x1536.rank → ℕ) a + (![676, 1536] : Fin S676x1536.rank → ℕ) a ≤ S676x1536.size a) (w : (Rect.unit (s := S676x1536) ![0, 0] ![676, 1536] inb).shape.Idx → Elt F e) (L : List (View.Piece (Elt F) S676x1536 e)) :
    v.read (Elt F) (v.writes (Elt F) f (⟨Rect.unit (s := S676x1536) ![0, 0] ![676, 1536] inb, w⟩ :: L)) = w := View.read_writes_full v f inb w L
/-- A load of the whole of a `S676x1536` view after a whole store reads the payload. -/
theorem rc_S676x1536 (v : View sig .tc sp S676x1536 e) (inb : ∀ a, (![0, 0] : Fin S676x1536.rank → ℕ) a + (![676, 1536] : Fin S676x1536.rank → ℕ) a ≤ S676x1536.size a) (inb' : ∀ a, (![0, 0] : Fin S676x1536.rank → ℕ) a + (![676, 1536] : Fin S676x1536.rank → ℕ) a ≤ S676x1536.size a) (w : (Rect.unit (s := S676x1536) ![0, 0] ![676, 1536] inb').shape.Idx → Elt F e) (L : List (View.Piece (Elt F) S676x1536 e)) :
    v.readCov (⟨Rect.unit (s := S676x1536) ![0, 0] ![676, 1536] inb', w⟩ :: L) (Rect.unit (s := S676x1536) ![0, 0] ![676, 1536] inb).toLoadRect = w := View.readCov_full v inb inb' w L
/-- A load of the whole of a `S2048x1536` view reads the view. -/
theorem ra_S2048x1536 (v : View sig .tc sp S2048x1536 e) (f : v.ty.Contents (Elt F)) (inb : ∀ a, (![0, 0] : Fin S2048x1536.rank → ℕ) a + (![2048, 1536] : Fin S2048x1536.rank → ℕ) a ≤ S2048x1536.size a) :
    v.readAt (Elt F) (Rect.unit (s := S2048x1536) ![0, 0] ![2048, 1536] inb).toLoadRect f = v.read (Elt F) f := View.readAt_full v f inb
/-- A store of the whole of a `S2048x1536` view leaves its payload. -/
theorem rw_S2048x1536 (v : View sig .tc sp S2048x1536 e) (f : v.ty.Contents (Elt F)) (inb : ∀ a, (![0, 0] : Fin S2048x1536.rank → ℕ) a + (![2048, 1536] : Fin S2048x1536.rank → ℕ) a ≤ S2048x1536.size a) (w : (Rect.unit (s := S2048x1536) ![0, 0] ![2048, 1536] inb).shape.Idx → Elt F e) (L : List (View.Piece (Elt F) S2048x1536 e)) :
    v.read (Elt F) (v.writes (Elt F) f (⟨Rect.unit (s := S2048x1536) ![0, 0] ![2048, 1536] inb, w⟩ :: L)) = w := View.read_writes_full v f inb w L
/-- A load of the whole of a `S2048x1536` view after a whole store reads the payload. -/
theorem rc_S2048x1536 (v : View sig .tc sp S2048x1536 e) (inb : ∀ a, (![0, 0] : Fin S2048x1536.rank → ℕ) a + (![2048, 1536] : Fin S2048x1536.rank → ℕ) a ≤ S2048x1536.size a) (inb' : ∀ a, (![0, 0] : Fin S2048x1536.rank → ℕ) a + (![2048, 1536] : Fin S2048x1536.rank → ℕ) a ≤ S2048x1536.size a) (w : (Rect.unit (s := S2048x1536) ![0, 0] ![2048, 1536] inb').shape.Idx → Elt F e) (L : List (View.Piece (Elt F) S2048x1536 e)) :
    v.readCov (⟨Rect.unit (s := S2048x1536) ![0, 0] ![2048, 1536] inb', w⟩ :: L) (Rect.unit (s := S2048x1536) ![0, 0] ![2048, 1536] inb).toLoadRect = w := View.readCov_full v inb inb' w L
/-- A load of the whole of a `S1x676` view reads the view. -/
theorem ra_S1x676 (v : View sig .tc sp S1x676 e) (f : v.ty.Contents (Elt F)) (inb : ∀ a, (![0, 0] : Fin S1x676.rank → ℕ) a + (![1, 676] : Fin S1x676.rank → ℕ) a ≤ S1x676.size a) :
    v.readAt (Elt F) (Rect.unit (s := S1x676) ![0, 0] ![1, 676] inb).toLoadRect f = v.read (Elt F) f := View.readAt_full v f inb
/-- A store of the whole of a `S1x676` view leaves its payload. -/
theorem rw_S1x676 (v : View sig .tc sp S1x676 e) (f : v.ty.Contents (Elt F)) (inb : ∀ a, (![0, 0] : Fin S1x676.rank → ℕ) a + (![1, 676] : Fin S1x676.rank → ℕ) a ≤ S1x676.size a) (w : (Rect.unit (s := S1x676) ![0, 0] ![1, 676] inb).shape.Idx → Elt F e) (L : List (View.Piece (Elt F) S1x676 e)) :
    v.read (Elt F) (v.writes (Elt F) f (⟨Rect.unit (s := S1x676) ![0, 0] ![1, 676] inb, w⟩ :: L)) = w := View.read_writes_full v f inb w L
/-- A load of the whole of a `S1x676` view after a whole store reads the payload. -/
theorem rc_S1x676 (v : View sig .tc sp S1x676 e) (inb : ∀ a, (![0, 0] : Fin S1x676.rank → ℕ) a + (![1, 676] : Fin S1x676.rank → ℕ) a ≤ S1x676.size a) (inb' : ∀ a, (![0, 0] : Fin S1x676.rank → ℕ) a + (![1, 676] : Fin S1x676.rank → ℕ) a ≤ S1x676.size a) (w : (Rect.unit (s := S1x676) ![0, 0] ![1, 676] inb').shape.Idx → Elt F e) (L : List (View.Piece (Elt F) S1x676 e)) :
    v.readCov (⟨Rect.unit (s := S1x676) ![0, 0] ![1, 676] inb', w⟩ :: L) (Rect.unit (s := S1x676) ![0, 0] ![1, 676] inb).toLoadRect = w := View.readCov_full v inb inb' w L
/-- A load of the whole of a `S1x1x2048` view reads the view. -/
theorem ra_S1x1x2048 (v : View sig .tc sp S1x1x2048 e) (f : v.ty.Contents (Elt F)) (inb : ∀ a, (![0, 0, 0] : Fin S1x1x2048.rank → ℕ) a + (![1, 1, 2048] : Fin S1x1x2048.rank → ℕ) a ≤ S1x1x2048.size a) :
    v.readAt (Elt F) (Rect.unit (s := S1x1x2048) ![0, 0, 0] ![1, 1, 2048] inb).toLoadRect f = v.read (Elt F) f := View.readAt_full v f inb
/-- A store of the whole of a `S1x1x2048` view leaves its payload. -/
theorem rw_S1x1x2048 (v : View sig .tc sp S1x1x2048 e) (f : v.ty.Contents (Elt F)) (inb : ∀ a, (![0, 0, 0] : Fin S1x1x2048.rank → ℕ) a + (![1, 1, 2048] : Fin S1x1x2048.rank → ℕ) a ≤ S1x1x2048.size a) (w : (Rect.unit (s := S1x1x2048) ![0, 0, 0] ![1, 1, 2048] inb).shape.Idx → Elt F e) (L : List (View.Piece (Elt F) S1x1x2048 e)) :
    v.read (Elt F) (v.writes (Elt F) f (⟨Rect.unit (s := S1x1x2048) ![0, 0, 0] ![1, 1, 2048] inb, w⟩ :: L)) = w := View.read_writes_full v f inb w L
/-- A load of the whole of a `S1x1x2048` view after a whole store reads the payload. -/
theorem rc_S1x1x2048 (v : View sig .tc sp S1x1x2048 e) (inb : ∀ a, (![0, 0, 0] : Fin S1x1x2048.rank → ℕ) a + (![1, 1, 2048] : Fin S1x1x2048.rank → ℕ) a ≤ S1x1x2048.size a) (inb' : ∀ a, (![0, 0, 0] : Fin S1x1x2048.rank → ℕ) a + (![1, 1, 2048] : Fin S1x1x2048.rank → ℕ) a ≤ S1x1x2048.size a) (w : (Rect.unit (s := S1x1x2048) ![0, 0, 0] ![1, 1, 2048] inb').shape.Idx → Elt F e) (L : List (View.Piece (Elt F) S1x1x2048 e)) :
    v.readCov (⟨Rect.unit (s := S1x1x2048) ![0, 0, 0] ![1, 1, 2048] inb', w⟩ :: L) (Rect.unit (s := S1x1x2048) ![0, 0, 0] ![1, 1, 2048] inb).toLoadRect = w := View.readCov_full v inb inb' w L
/-- A load of the whole of a `S1x1536` view reads the view. -/
theorem ra_S1x1536 (v : View sig .tc sp S1x1536 e) (f : v.ty.Contents (Elt F)) (inb : ∀ a, (![0, 0] : Fin S1x1536.rank → ℕ) a + (![1, 1536] : Fin S1x1536.rank → ℕ) a ≤ S1x1536.size a) :
    v.readAt (Elt F) (Rect.unit (s := S1x1536) ![0, 0] ![1, 1536] inb).toLoadRect f = v.read (Elt F) f := View.readAt_full v f inb
/-- A store of the whole of a `S1x1536` view leaves its payload. -/
theorem rw_S1x1536 (v : View sig .tc sp S1x1536 e) (f : v.ty.Contents (Elt F)) (inb : ∀ a, (![0, 0] : Fin S1x1536.rank → ℕ) a + (![1, 1536] : Fin S1x1536.rank → ℕ) a ≤ S1x1536.size a) (w : (Rect.unit (s := S1x1536) ![0, 0] ![1, 1536] inb).shape.Idx → Elt F e) (L : List (View.Piece (Elt F) S1x1536 e)) :
    v.read (Elt F) (v.writes (Elt F) f (⟨Rect.unit (s := S1x1536) ![0, 0] ![1, 1536] inb, w⟩ :: L)) = w := View.read_writes_full v f inb w L
/-- A load of the whole of a `S1x1536` view after a whole store reads the payload. -/
theorem rc_S1x1536 (v : View sig .tc sp S1x1536 e) (inb : ∀ a, (![0, 0] : Fin S1x1536.rank → ℕ) a + (![1, 1536] : Fin S1x1536.rank → ℕ) a ≤ S1x1536.size a) (inb' : ∀ a, (![0, 0] : Fin S1x1536.rank → ℕ) a + (![1, 1536] : Fin S1x1536.rank → ℕ) a ≤ S1x1536.size a) (w : (Rect.unit (s := S1x1536) ![0, 0] ![1, 1536] inb').shape.Idx → Elt F e) (L : List (View.Piece (Elt F) S1x1536 e)) :
    v.readCov (⟨Rect.unit (s := S1x1536) ![0, 0] ![1, 1536] inb', w⟩ :: L) (Rect.unit (s := S1x1536) ![0, 0] ![1, 1536] inb).toLoadRect = w := View.readCov_full v inb inb' w L
/-- A load of the whole of a `S1x1` view reads the view. -/
theorem ra_S1x1 (v : View sig .tc sp S1x1 e) (f : v.ty.Contents (Elt F)) (inb : ∀ a, (![0, 0] : Fin S1x1.rank → ℕ) a + (![1, 1] : Fin S1x1.rank → ℕ) a ≤ S1x1.size a) :
    v.readAt (Elt F) (Rect.unit (s := S1x1) ![0, 0] ![1, 1] inb).toLoadRect f = v.read (Elt F) f := View.readAt_full v f inb
/-- A store of the whole of a `S1x1` view leaves its payload. -/
theorem rw_S1x1 (v : View sig .tc sp S1x1 e) (f : v.ty.Contents (Elt F)) (inb : ∀ a, (![0, 0] : Fin S1x1.rank → ℕ) a + (![1, 1] : Fin S1x1.rank → ℕ) a ≤ S1x1.size a) (w : (Rect.unit (s := S1x1) ![0, 0] ![1, 1] inb).shape.Idx → Elt F e) (L : List (View.Piece (Elt F) S1x1 e)) :
    v.read (Elt F) (v.writes (Elt F) f (⟨Rect.unit (s := S1x1) ![0, 0] ![1, 1] inb, w⟩ :: L)) = w := View.read_writes_full v f inb w L
/-- A load of the whole of a `S1x1` view after a whole store reads the payload. -/
theorem rc_S1x1 (v : View sig .tc sp S1x1 e) (inb : ∀ a, (![0, 0] : Fin S1x1.rank → ℕ) a + (![1, 1] : Fin S1x1.rank → ℕ) a ≤ S1x1.size a) (inb' : ∀ a, (![0, 0] : Fin S1x1.rank → ℕ) a + (![1, 1] : Fin S1x1.rank → ℕ) a ≤ S1x1.size a) (w : (Rect.unit (s := S1x1) ![0, 0] ![1, 1] inb').shape.Idx → Elt F e) (L : List (View.Piece (Elt F) S1x1 e)) :
    v.readCov (⟨Rect.unit (s := S1x1) ![0, 0] ![1, 1] inb', w⟩ :: L) (Rect.unit (s := S1x1) ![0, 0] ![1, 1] inb).toLoadRect = w := View.readCov_full v inb inb' w L
/-- A load of the whole of a `S4096x1536` view reads the view. -/
theorem ra_S4096x1536 (v : View sig .tc sp S4096x1536 e) (f : v.ty.Contents (Elt F)) (inb : ∀ a, (![0, 0] : Fin S4096x1536.rank → ℕ) a + (![4096, 1536] : Fin S4096x1536.rank → ℕ) a ≤ S4096x1536.size a) :
    v.readAt (Elt F) (Rect.unit (s := S4096x1536) ![0, 0] ![4096, 1536] inb).toLoadRect f = v.read (Elt F) f := View.readAt_full v f inb
/-- A store of the whole of a `S4096x1536` view leaves its payload. -/
theorem rw_S4096x1536 (v : View sig .tc sp S4096x1536 e) (f : v.ty.Contents (Elt F)) (inb : ∀ a, (![0, 0] : Fin S4096x1536.rank → ℕ) a + (![4096, 1536] : Fin S4096x1536.rank → ℕ) a ≤ S4096x1536.size a) (w : (Rect.unit (s := S4096x1536) ![0, 0] ![4096, 1536] inb).shape.Idx → Elt F e) (L : List (View.Piece (Elt F) S4096x1536 e)) :
    v.read (Elt F) (v.writes (Elt F) f (⟨Rect.unit (s := S4096x1536) ![0, 0] ![4096, 1536] inb, w⟩ :: L)) = w := View.read_writes_full v f inb w L
/-- A load of the whole of a `S4096x1536` view after a whole store reads the payload. -/
theorem rc_S4096x1536 (v : View sig .tc sp S4096x1536 e) (inb : ∀ a, (![0, 0] : Fin S4096x1536.rank → ℕ) a + (![4096, 1536] : Fin S4096x1536.rank → ℕ) a ≤ S4096x1536.size a) (inb' : ∀ a, (![0, 0] : Fin S4096x1536.rank → ℕ) a + (![4096, 1536] : Fin S4096x1536.rank → ℕ) a ≤ S4096x1536.size a) (w : (Rect.unit (s := S4096x1536) ![0, 0] ![4096, 1536] inb').shape.Idx → Elt F e) (L : List (View.Piece (Elt F) S4096x1536 e)) :
    v.readCov (⟨Rect.unit (s := S4096x1536) ![0, 0] ![4096, 1536] inb', w⟩ :: L) (Rect.unit (s := S4096x1536) ![0, 0] ![4096, 1536] inb).toLoadRect = w := View.readCov_full v inb inb' w L
/-- A load of the whole of a `S1x1x4096` view reads the view. -/
theorem ra_S1x1x4096 (v : View sig .tc sp S1x1x4096 e) (f : v.ty.Contents (Elt F)) (inb : ∀ a, (![0, 0, 0] : Fin S1x1x4096.rank → ℕ) a + (![1, 1, 4096] : Fin S1x1x4096.rank → ℕ) a ≤ S1x1x4096.size a) :
    v.readAt (Elt F) (Rect.unit (s := S1x1x4096) ![0, 0, 0] ![1, 1, 4096] inb).toLoadRect f = v.read (Elt F) f := View.readAt_full v f inb
/-- A store of the whole of a `S1x1x4096` view leaves its payload. -/
theorem rw_S1x1x4096 (v : View sig .tc sp S1x1x4096 e) (f : v.ty.Contents (Elt F)) (inb : ∀ a, (![0, 0, 0] : Fin S1x1x4096.rank → ℕ) a + (![1, 1, 4096] : Fin S1x1x4096.rank → ℕ) a ≤ S1x1x4096.size a) (w : (Rect.unit (s := S1x1x4096) ![0, 0, 0] ![1, 1, 4096] inb).shape.Idx → Elt F e) (L : List (View.Piece (Elt F) S1x1x4096 e)) :
    v.read (Elt F) (v.writes (Elt F) f (⟨Rect.unit (s := S1x1x4096) ![0, 0, 0] ![1, 1, 4096] inb, w⟩ :: L)) = w := View.read_writes_full v f inb w L
/-- A load of the whole of a `S1x1x4096` view after a whole store reads the payload. -/
theorem rc_S1x1x4096 (v : View sig .tc sp S1x1x4096 e) (inb : ∀ a, (![0, 0, 0] : Fin S1x1x4096.rank → ℕ) a + (![1, 1, 4096] : Fin S1x1x4096.rank → ℕ) a ≤ S1x1x4096.size a) (inb' : ∀ a, (![0, 0, 0] : Fin S1x1x4096.rank → ℕ) a + (![1, 1, 4096] : Fin S1x1x4096.rank → ℕ) a ≤ S1x1x4096.size a) (w : (Rect.unit (s := S1x1x4096) ![0, 0, 0] ![1, 1, 4096] inb').shape.Idx → Elt F e) (L : List (View.Piece (Elt F) S1x1x4096 e)) :
    v.readCov (⟨Rect.unit (s := S1x1x4096) ![0, 0, 0] ![1, 1, 4096] inb', w⟩ :: L) (Rect.unit (s := S1x1x4096) ![0, 0, 0] ![1, 1, 4096] inb).toLoadRect = w := View.readCov_full v inb inb' w L
/-- A load of the whole of a `S26x26` view reads the view. -/
theorem ra_S26x26 (v : View sig .tc sp S26x26 e) (f : v.ty.Contents (Elt F)) (inb : ∀ a, (![0, 0] : Fin S26x26.rank → ℕ) a + (![26, 26] : Fin S26x26.rank → ℕ) a ≤ S26x26.size a) :
    v.readAt (Elt F) (Rect.unit (s := S26x26) ![0, 0] ![26, 26] inb).toLoadRect f = v.read (Elt F) f := View.readAt_full v f inb
/-- A store of the whole of a `S26x26` view leaves its payload. -/
theorem rw_S26x26 (v : View sig .tc sp S26x26 e) (f : v.ty.Contents (Elt F)) (inb : ∀ a, (![0, 0] : Fin S26x26.rank → ℕ) a + (![26, 26] : Fin S26x26.rank → ℕ) a ≤ S26x26.size a) (w : (Rect.unit (s := S26x26) ![0, 0] ![26, 26] inb).shape.Idx → Elt F e) (L : List (View.Piece (Elt F) S26x26 e)) :
    v.read (Elt F) (v.writes (Elt F) f (⟨Rect.unit (s := S26x26) ![0, 0] ![26, 26] inb, w⟩ :: L)) = w := View.read_writes_full v f inb w L
/-- A load of the whole of a `S26x26` view after a whole store reads the payload. -/
theorem rc_S26x26 (v : View sig .tc sp S26x26 e) (inb : ∀ a, (![0, 0] : Fin S26x26.rank → ℕ) a + (![26, 26] : Fin S26x26.rank → ℕ) a ≤ S26x26.size a) (inb' : ∀ a, (![0, 0] : Fin S26x26.rank → ℕ) a + (![26, 26] : Fin S26x26.rank → ℕ) a ≤ S26x26.size a) (w : (Rect.unit (s := S26x26) ![0, 0] ![26, 26] inb').shape.Idx → Elt F e) (L : List (View.Piece (Elt F) S26x26 e)) :
    v.readCov (⟨Rect.unit (s := S26x26) ![0, 0] ![26, 26] inb', w⟩ :: L) (Rect.unit (s := S26x26) ![0, 0] ![26, 26] inb).toLoadRect = w := View.readCov_full v inb inb' w L
/-- A load of the whole of a `S224x26` view reads the view. -/
theorem ra_S224x26 (v : View sig .tc sp S224x26 e) (f : v.ty.Contents (Elt F)) (inb : ∀ a, (![0, 0] : Fin S224x26.rank → ℕ) a + (![224, 26] : Fin S224x26.rank → ℕ) a ≤ S224x26.size a) :
    v.readAt (Elt F) (Rect.unit (s := S224x26) ![0, 0] ![224, 26] inb).toLoadRect f = v.read (Elt F) f := View.readAt_full v f inb
/-- A store of the whole of a `S224x26` view leaves its payload. -/
theorem rw_S224x26 (v : View sig .tc sp S224x26 e) (f : v.ty.Contents (Elt F)) (inb : ∀ a, (![0, 0] : Fin S224x26.rank → ℕ) a + (![224, 26] : Fin S224x26.rank → ℕ) a ≤ S224x26.size a) (w : (Rect.unit (s := S224x26) ![0, 0] ![224, 26] inb).shape.Idx → Elt F e) (L : List (View.Piece (Elt F) S224x26 e)) :
    v.read (Elt F) (v.writes (Elt F) f (⟨Rect.unit (s := S224x26) ![0, 0] ![224, 26] inb, w⟩ :: L)) = w := View.read_writes_full v f inb w L
/-- A load of the whole of a `S224x26` view after a whole store reads the payload. -/
theorem rc_S224x26 (v : View sig .tc sp S224x26 e) (inb : ∀ a, (![0, 0] : Fin S224x26.rank → ℕ) a + (![224, 26] : Fin S224x26.rank → ℕ) a ≤ S224x26.size a) (inb' : ∀ a, (![0, 0] : Fin S224x26.rank → ℕ) a + (![224, 26] : Fin S224x26.rank → ℕ) a ≤ S224x26.size a) (w : (Rect.unit (s := S224x26) ![0, 0] ![224, 26] inb').shape.Idx → Elt F e) (L : List (View.Piece (Elt F) S224x26 e)) :
    v.readCov (⟨Rect.unit (s := S224x26) ![0, 0] ![224, 26] inb', w⟩ :: L) (Rect.unit (s := S224x26) ![0, 0] ![224, 26] inb).toLoadRect = w := View.readCov_full v inb inb' w L
/-- A load of the whole of a `S224x224` view reads the view. -/
theorem ra_S224x224 (v : View sig .tc sp S224x224 e) (f : v.ty.Contents (Elt F)) (inb : ∀ a, (![0, 0] : Fin S224x224.rank → ℕ) a + (![224, 224] : Fin S224x224.rank → ℕ) a ≤ S224x224.size a) :
    v.readAt (Elt F) (Rect.unit (s := S224x224) ![0, 0] ![224, 224] inb).toLoadRect f = v.read (Elt F) f := View.readAt_full v f inb
/-- A store of the whole of a `S224x224` view leaves its payload. -/
theorem rw_S224x224 (v : View sig .tc sp S224x224 e) (f : v.ty.Contents (Elt F)) (inb : ∀ a, (![0, 0] : Fin S224x224.rank → ℕ) a + (![224, 224] : Fin S224x224.rank → ℕ) a ≤ S224x224.size a) (w : (Rect.unit (s := S224x224) ![0, 0] ![224, 224] inb).shape.Idx → Elt F e) (L : List (View.Piece (Elt F) S224x224 e)) :
    v.read (Elt F) (v.writes (Elt F) f (⟨Rect.unit (s := S224x224) ![0, 0] ![224, 224] inb, w⟩ :: L)) = w := View.read_writes_full v f inb w L
/-- A load of the whole of a `S224x224` view after a whole store reads the payload. -/
theorem rc_S224x224 (v : View sig .tc sp S224x224 e) (inb : ∀ a, (![0, 0] : Fin S224x224.rank → ℕ) a + (![224, 224] : Fin S224x224.rank → ℕ) a ≤ S224x224.size a) (inb' : ∀ a, (![0, 0] : Fin S224x224.rank → ℕ) a + (![224, 224] : Fin S224x224.rank → ℕ) a ≤ S224x224.size a) (w : (Rect.unit (s := S224x224) ![0, 0] ![224, 224] inb').shape.Idx → Elt F e) (L : List (View.Piece (Elt F) S224x224 e)) :
    v.readCov (⟨Rect.unit (s := S224x224) ![0, 0] ![224, 224] inb', w⟩ :: L) (Rect.unit (s := S224x224) ![0, 0] ![224, 224] inb).toLoadRect = w := View.readCov_full v inb inb' w L
/-- A load of the whole of a `S4x4096` view reads the view. -/
theorem ra_S4x4096 (v : View sig .tc sp S4x4096 e) (f : v.ty.Contents (Elt F)) (inb : ∀ a, (![0, 0] : Fin S4x4096.rank → ℕ) a + (![4, 4096] : Fin S4x4096.rank → ℕ) a ≤ S4x4096.size a) :
    v.readAt (Elt F) (Rect.unit (s := S4x4096) ![0, 0] ![4, 4096] inb).toLoadRect f = v.read (Elt F) f := View.readAt_full v f inb
/-- A store of the whole of a `S4x4096` view leaves its payload. -/
theorem rw_S4x4096 (v : View sig .tc sp S4x4096 e) (f : v.ty.Contents (Elt F)) (inb : ∀ a, (![0, 0] : Fin S4x4096.rank → ℕ) a + (![4, 4096] : Fin S4x4096.rank → ℕ) a ≤ S4x4096.size a) (w : (Rect.unit (s := S4x4096) ![0, 0] ![4, 4096] inb).shape.Idx → Elt F e) (L : List (View.Piece (Elt F) S4x4096 e)) :
    v.read (Elt F) (v.writes (Elt F) f (⟨Rect.unit (s := S4x4096) ![0, 0] ![4, 4096] inb, w⟩ :: L)) = w := View.read_writes_full v f inb w L
/-- A load of the whole of a `S4x4096` view after a whole store reads the payload. -/
theorem rc_S4x4096 (v : View sig .tc sp S4x4096 e) (inb : ∀ a, (![0, 0] : Fin S4x4096.rank → ℕ) a + (![4, 4096] : Fin S4x4096.rank → ℕ) a ≤ S4x4096.size a) (inb' : ∀ a, (![0, 0] : Fin S4x4096.rank → ℕ) a + (![4, 4096] : Fin S4x4096.rank → ℕ) a ≤ S4x4096.size a) (w : (Rect.unit (s := S4x4096) ![0, 0] ![4, 4096] inb').shape.Idx → Elt F e) (L : List (View.Piece (Elt F) S4x4096 e)) :
    v.readCov (⟨Rect.unit (s := S4x4096) ![0, 0] ![4, 4096] inb', w⟩ :: L) (Rect.unit (s := S4x4096) ![0, 0] ![4, 4096] inb).toLoadRect = w := View.readCov_full v inb inb' w L

end Cert.KernelIdeal.Hand

end
-- ==== Proof.Body0.lean ====
module

public import proofs.«01_k».proof.Proof.Whole
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Pipeline.TableIdle
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The first call's body, one triple per case of its branch conditions -/

/-- The condition of the first `scf.if` (store `-2 · patch`), from the grid coordinates. -/
abbrev c00 (i : grid0.Coords) : Prop := (Scalar.cmpi .ne (Scalar.extui (Scalar.cmpi .eq (BitVec.ofNat 32 (i 0).val) 0#32)) 0#32) = 1#1

section
variable (c : Dev nD) (i : grid0.Coords)
  (arg1 : Memref sig .tc .vmem S676x1536 .f32) (harg1 : arg1.IsWhole)
  (arg2 : Memref sig .tc .vmem S2048x1536 .f32) (harg2 : arg2.IsWhole)
  (arg3 : Memref sig .tc .vmem S1x676 .f32) (harg3 : arg3.IsWhole)
  (arg4 : Memref sig .tc .vmem S1x676 .i32) (harg4 : arg4.IsWhole)
  (arg5 : Memref sig .tc .vmem S1x1x2048 .f32) (harg5 : arg5.IsWhole)
  (arg6 : Memref sig .tc .vmem S2048x1536 .bf16) (harg6 : arg6.IsWhole)
  (arg7 : Memref sig .tc .vmem S1x1536 .f32) (harg7 : arg7.IsWhole)
  (arg8 : Memref sig .tc .vmem S1x1 .i32) (harg8 : arg8.IsWhole)
  (arg9 : Memref sig .tc .vmem S1x1 .i32) (harg9 : arg9.IsWhole)
  (arg10 : Memref sig .tc .vmem S1x1 .f32) (harg10 : arg10.IsWhole)
  (arg11 : Memref sig .tc .vmem S676x1536 .f32) (harg11 : arg11.IsWhole)
  (x0 : Vec F S676x1536 .f32) (x1 : Vec F S2048x1536 .f32)

set_option maxHeartbeats 4000000 in
/-- The first point: the scaled patch is stored, the running minimum and its index start at the first block’s. -/
theorem body0_A (h0 : c00 i) (h2 : k0_cond2 i = 1#1) (h3 : ¬k0_cond3 i = 1#1) (h4 : ¬k0_cond4 i = 1#1)
    (y6 : Vec F S1x1536 .f32) (y7 y8 : Vec F S1x1 .i32) (y9 : Vec F S1x1 .f32)
    (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ owns (c : Thread nD τ) arg7 fullShare y6 ∗ owns (c : Thread nD τ) arg8 fullShare y7 ∗ owns (c : Thread nD τ) arg9 fullShare y8 ∗ owns (c : Thread nD τ) arg10 fullShare y9 ∗ (∃ d, owns (c : Thread nD τ) arg11 fullShare d)
        ∗ (iprop(owns (c : Thread nD τ) arg1 fullShare x0 ∗ owns (c : Thread nD τ) arg2 fullShare x1 ∗ owns (c : Thread nD τ) arg3 fullShare (k0_pay18 (k0_pay13 x0) x1) ∗ owns (c : Thread nD τ) arg4 fullShare (k0_pay19 i (k0_pay13 x0) x1) ∗ owns (c : Thread nD τ) arg5 fullShare (k0_pay15 x1) ∗ owns (c : Thread nD τ) arg6 fullShare (k0_pay16 x1) ∗ owns (c : Thread nD τ) arg7 fullShare y6 ∗ owns (c : Thread nD τ) arg8 fullShare y7 ∗ owns (c : Thread nD τ) arg9 fullShare y8 ∗ owns (c : Thread nD τ) arg10 fullShare y9 ∗ owns (c : Thread nD τ) arg11 fullShare (k0_pay13 x0)) -∗ K ⟨⟩))
      ⊢ wp frame (wpE (defs₀ (F := F)) Variants.none c none) E (cc0__knn_body i arg1 harg1 arg2 harg2 arg3 harg3 arg4 harg4 arg5 harg5 arg6 harg6 arg7 harg7 arg8 harg8 arg9 harg9 arg10 harg10 arg11 harg11) K := by
  simp only [cc0__knn_body_eq_skeleton]; unfold cc0__knn_body_skel
  simp only [k0_part2_eq_skeleton]
  unfold owns
  iintro ⟨⟨%f1, %h1, H1⟩, ⟨%f2, %h2, H2⟩, ⟨%d3, %f3, -, H3⟩, ⟨%d4, %f4, -, H4⟩, ⟨%d5, %f5, -, H5⟩, ⟨%d6, %f6, -, H6⟩, ⟨%f7, %h7, H7⟩, ⟨%f8, %h8, H8⟩, ⟨%f9, %h9, H9⟩, ⟨%f10, %h10, H10⟩, ⟨%d11, %f11, -, H11⟩, Hk⟩
  obtain rfl := harg1.eq_unread h1; obtain rfl := harg2.eq_unread h2; obtain rfl := harg7.eq_unread h7; obtain rfl := harg8.eq_unread h8; obtain rfl := harg9.eq_unread h9; obtain rfl := harg10.eq_unread h10
  sl_exec (disch := first | sl_exact h0 | sl_exact h2 | sl_exact h3 | sl_exact h4)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; (try delta body0_A.sl.v71); (try delta body0_A.sl.v61); (try delta body0_A.sl.r_3); (try delta body0_A.sl.r_4); (try delta body0_A.sl.r); (try delta body0_A.sl.v42); (try delta body0_A.sl.v64); (try delta body0_A.sl.H3_1); (try delta body0_A.sl.H4_1); (try delta body0_A.sl.H11_1); (try delta body0_A.sl.r_1); (try delta body0_A.sl.r_2); (try delta body0_A.sl.v4); (try delta body0_A.sl.v5); (try delta body0_A.sl.H11_1); simp only [ra_S676x1536, rw_S676x1536, rc_S676x1536, ra_S2048x1536, rw_S2048x1536, rc_S2048x1536, ra_S1x676, rw_S1x676, rc_S1x676, ra_S1x1x2048, rw_S1x1x2048, rc_S1x1x2048, ra_S1x1536, rw_S1x1536, rc_S1x1536, ra_S1x1, rw_S1x1, rc_S1x1, Memref.IsWhole.read_unread]
  isplitl [H4]
  · iexists _; isplitr; swap; · iexact H4
    ipureintro; (try delta body0_A.sl.v71); (try delta body0_A.sl.v61); (try delta body0_A.sl.r_3); (try delta body0_A.sl.r_4); (try delta body0_A.sl.r); (try delta body0_A.sl.v42); (try delta body0_A.sl.v64); (try delta body0_A.sl.H3_1); (try delta body0_A.sl.H4_1); (try delta body0_A.sl.H11_1); (try delta body0_A.sl.r_1); (try delta body0_A.sl.r_2); (try delta body0_A.sl.v4); (try delta body0_A.sl.v5); (try delta body0_A.sl.H11_1); simp only [ra_S676x1536, rw_S676x1536, rc_S676x1536, ra_S2048x1536, rw_S2048x1536, rc_S2048x1536, ra_S1x676, rw_S1x676, rc_S1x676, ra_S1x1x2048, rw_S1x1x2048, rc_S1x1x2048, ra_S1x1536, rw_S1x1536, rc_S1x1536, ra_S1x1, rw_S1x1, rc_S1x1, Memref.IsWhole.read_unread]
  isplitl [H5]
  · iexists _; isplitr; swap; · iexact H5
    ipureintro; (try delta body0_A.sl.v71); (try delta body0_A.sl.v61); (try delta body0_A.sl.r_3); (try delta body0_A.sl.r_4); (try delta body0_A.sl.r); (try delta body0_A.sl.v42); (try delta body0_A.sl.v64); (try delta body0_A.sl.H3_1); (try delta body0_A.sl.H4_1); (try delta body0_A.sl.H11_1); (try delta body0_A.sl.r_1); (try delta body0_A.sl.r_2); (try delta body0_A.sl.v4); (try delta body0_A.sl.v5); (try delta body0_A.sl.H11_1); simp only [ra_S676x1536, rw_S676x1536, rc_S676x1536, ra_S2048x1536, rw_S2048x1536, rc_S2048x1536, ra_S1x676, rw_S1x676, rc_S1x676, ra_S1x1x2048, rw_S1x1x2048, rc_S1x1x2048, ra_S1x1536, rw_S1x1536, rc_S1x1536, ra_S1x1, rw_S1x1, rc_S1x1, Memref.IsWhole.read_unread]
  isplitl [H6]
  · iexists _; isplitr; swap; · iexact H6
    ipureintro; (try delta body0_A.sl.v71); (try delta body0_A.sl.v61); (try delta body0_A.sl.r_3); (try delta body0_A.sl.r_4); (try delta body0_A.sl.r); (try delta body0_A.sl.v42); (try delta body0_A.sl.v64); (try delta body0_A.sl.H3_1); (try delta body0_A.sl.H4_1); (try delta body0_A.sl.H11_1); (try delta body0_A.sl.r_1); (try delta body0_A.sl.r_2); (try delta body0_A.sl.v4); (try delta body0_A.sl.v5); (try delta body0_A.sl.H11_1); simp only [ra_S676x1536, rw_S676x1536, rc_S676x1536, ra_S2048x1536, rw_S2048x1536, rc_S2048x1536, ra_S1x676, rw_S1x676, rc_S1x676, ra_S1x1x2048, rw_S1x1x2048, rc_S1x1x2048, ra_S1x1536, rw_S1x1536, rc_S1x1536, ra_S1x1, rw_S1x1, rc_S1x1, Memref.IsWhole.read_unread]
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  iexists _; isplitr; swap; · iexact H11
  ipureintro; (try delta body0_A.sl.v71); (try delta body0_A.sl.v61); (try delta body0_A.sl.r_3); (try delta body0_A.sl.r_4); (try delta body0_A.sl.r); (try delta body0_A.sl.v42); (try delta body0_A.sl.v64); (try delta body0_A.sl.H3_1); (try delta body0_A.sl.H4_1); (try delta body0_A.sl.H11_1); (try delta body0_A.sl.r_1); (try delta body0_A.sl.r_2); (try delta body0_A.sl.v4); (try delta body0_A.sl.v5); (try delta body0_A.sl.H11_1); simp only [ra_S676x1536, rw_S676x1536, rc_S676x1536, ra_S2048x1536, rw_S2048x1536, rc_S2048x1536, ra_S1x676, rw_S1x676, rc_S1x676, ra_S1x1x2048, rw_S1x1x2048, rc_S1x1x2048, ra_S1x1536, rw_S1x1536, rc_S1x1536, ra_S1x1, rw_S1x1, rc_S1x1, Memref.IsWhole.read_unread]

set_option maxHeartbeats 4000000 in
/-- A middle point: the running minimum and its index take the block’s where it is smaller. -/
theorem body0_B (h0 : ¬c00 i) (h2 : ¬k0_cond2 i = 1#1) (h3 : k0_cond3 i = 1#1) (h4 : ¬k0_cond4 i = 1#1)
    (y2 : Vec F S1x676 .f32) (y3 : Vec F S1x676 .i32) (ys : Vec F S676x1536 .f32) (y6 : Vec F S1x1536 .f32) (y7 y8 : Vec F S1x1 .i32) (y9 : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare y2 ∗ owns (c : Thread nD τ) arg4 fullShare y3 ∗ (∃ d, owns (c : Thread nD τ) arg5 fullShare d) ∗ (∃ d, owns (c : Thread nD τ) arg6 fullShare d) ∗ owns (c : Thread nD τ) arg7 fullShare y6 ∗ owns (c : Thread nD τ) arg8 fullShare y7 ∗ owns (c : Thread nD τ) arg9 fullShare y8 ∗ owns (c : Thread nD τ) arg10 fullShare y9 ∗ owns (c : Thread nD τ) arg11 fullShare ys
        ∗ (iprop(owns (c : Thread nD τ) arg1 fullShare x0 ∗ owns (c : Thread nD τ) arg2 fullShare x1 ∗ owns (c : Thread nD τ) arg3 fullShare (k0_pay3 (k0_pay18 ys x1) y2) ∗ owns (c : Thread nD τ) arg4 fullShare (k0_pay4 (k0_pay18 ys x1) (k0_pay19 i ys x1) y2 y3) ∗ owns (c : Thread nD τ) arg5 fullShare (k0_pay15 x1) ∗ owns (c : Thread nD τ) arg6 fullShare (k0_pay16 x1) ∗ owns (c : Thread nD τ) arg7 fullShare y6 ∗ owns (c : Thread nD τ) arg8 fullShare y7 ∗ owns (c : Thread nD τ) arg9 fullShare y8 ∗ owns (c : Thread nD τ) arg10 fullShare y9 ∗ owns (c : Thread nD τ) arg11 fullShare ys) -∗ K ⟨⟩))
      ⊢ wp frame (wpE (defs₀ (F := F)) Variants.none c none) E (cc0__knn_body i arg1 harg1 arg2 harg2 arg3 harg3 arg4 harg4 arg5 harg5 arg6 harg6 arg7 harg7 arg8 harg8 arg9 harg9 arg10 harg10 arg11 harg11) K := by
  simp only [cc0__knn_body_eq_skeleton]; unfold cc0__knn_body_skel
  simp only [k0_part2_eq_skeleton]
  unfold owns
  iintro ⟨⟨%f1, %h1, H1⟩, ⟨%f2, %h2, H2⟩, ⟨%f3, %h3, H3⟩, ⟨%f4, %h4, H4⟩, ⟨%d5, %f5, -, H5⟩, ⟨%d6, %f6, -, H6⟩, ⟨%f7, %h7, H7⟩, ⟨%f8, %h8, H8⟩, ⟨%f9, %h9, H9⟩, ⟨%f10, %h10, H10⟩, ⟨%f11, %h11, H11⟩, Hk⟩
  obtain rfl := harg1.eq_unread h1; obtain rfl := harg2.eq_unread h2; obtain rfl := harg3.eq_unread h3; obtain rfl := harg4.eq_unread h4; obtain rfl := harg7.eq_unread h7; obtain rfl := harg8.eq_unread h8; obtain rfl := harg9.eq_unread h9; obtain rfl := harg10.eq_unread h10; obtain rfl := harg11.eq_unread h11
  sl_exec (disch := first | sl_exact h0 | sl_exact h2 | sl_exact h3 | sl_exact h4)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; (try delta body0_B.sl.v71); (try delta body0_B.sl.v61); (try delta body0_B.sl.r_3); (try delta body0_B.sl.r_4); (try delta body0_B.sl.r); (try delta body0_B.sl.v42); (try delta body0_B.sl.v64); (try delta body0_B.sl.H3_1); (try delta body0_B.sl.H4_1); (try delta body0_B.sl.H11_1); (try delta body0_B.sl.r_1); (try delta body0_B.sl.r_2); (try delta body0_B.sl.v4); (try delta body0_B.sl.v5); (try delta body0_B.sl.H11_1); simp only [ra_S676x1536, rw_S676x1536, rc_S676x1536, ra_S2048x1536, rw_S2048x1536, rc_S2048x1536, ra_S1x676, rw_S1x676, rc_S1x676, ra_S1x1x2048, rw_S1x1x2048, rc_S1x1x2048, ra_S1x1536, rw_S1x1536, rc_S1x1536, ra_S1x1, rw_S1x1, rc_S1x1, Memref.IsWhole.read_unread]
  isplitl [H4]
  · iexists _; isplitr; swap; · iexact H4
    ipureintro; (try delta body0_B.sl.v71); (try delta body0_B.sl.v61); (try delta body0_B.sl.r_3); (try delta body0_B.sl.r_4); (try delta body0_B.sl.r); (try delta body0_B.sl.v42); (try delta body0_B.sl.v64); (try delta body0_B.sl.H3_1); (try delta body0_B.sl.H4_1); (try delta body0_B.sl.H11_1); (try delta body0_B.sl.r_1); (try delta body0_B.sl.r_2); (try delta body0_B.sl.v4); (try delta body0_B.sl.v5); (try delta body0_B.sl.H11_1); simp only [ra_S676x1536, rw_S676x1536, rc_S676x1536, ra_S2048x1536, rw_S2048x1536, rc_S2048x1536, ra_S1x676, rw_S1x676, rc_S1x676, ra_S1x1x2048, rw_S1x1x2048, rc_S1x1x2048, ra_S1x1536, rw_S1x1536, rc_S1x1536, ra_S1x1, rw_S1x1, rc_S1x1, Memref.IsWhole.read_unread]
  isplitl [H5]
  · iexists _; isplitr; swap; · iexact H5
    ipureintro; (try delta body0_B.sl.v71); (try delta body0_B.sl.v61); (try delta body0_B.sl.r_3); (try delta body0_B.sl.r_4); (try delta body0_B.sl.r); (try delta body0_B.sl.v42); (try delta body0_B.sl.v64); (try delta body0_B.sl.H3_1); (try delta body0_B.sl.H4_1); (try delta body0_B.sl.H11_1); (try delta body0_B.sl.r_1); (try delta body0_B.sl.r_2); (try delta body0_B.sl.v4); (try delta body0_B.sl.v5); (try delta body0_B.sl.H11_1); simp only [ra_S676x1536, rw_S676x1536, rc_S676x1536, ra_S2048x1536, rw_S2048x1536, rc_S2048x1536, ra_S1x676, rw_S1x676, rc_S1x676, ra_S1x1x2048, rw_S1x1x2048, rc_S1x1x2048, ra_S1x1536, rw_S1x1536, rc_S1x1536, ra_S1x1, rw_S1x1, rc_S1x1, Memref.IsWhole.read_unread]
  isplitl [H6]
  · iexists _; isplitr; swap; · iexact H6
    ipureintro; (try delta body0_B.sl.v71); (try delta body0_B.sl.v61); (try delta body0_B.sl.r_3); (try delta body0_B.sl.r_4); (try delta body0_B.sl.r); (try delta body0_B.sl.v42); (try delta body0_B.sl.v64); (try delta body0_B.sl.H3_1); (try delta body0_B.sl.H4_1); (try delta body0_B.sl.H11_1); (try delta body0_B.sl.r_1); (try delta body0_B.sl.r_2); (try delta body0_B.sl.v4); (try delta body0_B.sl.v5); (try delta body0_B.sl.H11_1); simp only [ra_S676x1536, rw_S676x1536, rc_S676x1536, ra_S2048x1536, rw_S2048x1536, rc_S2048x1536, ra_S1x676, rw_S1x676, rc_S1x676, ra_S1x1x2048, rw_S1x1x2048, rc_S1x1x2048, ra_S1x1536, rw_S1x1536, rc_S1x1536, ra_S1x1, rw_S1x1, rc_S1x1, Memref.IsWhole.read_unread]
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  iexists _; isplitr; swap; · iexact H11
  ipureintro; exact harg11.read_unread _

set_option maxHeartbeats 4000000 in
/-- The last point: the block is folded in, then distances, the farthest patch, its index, its nearest row’s index and the row itself are stored. -/
theorem body0_C (h0 : ¬c00 i) (h2 : ¬k0_cond2 i = 1#1) (h3 : k0_cond3 i = 1#1) (h4 : k0_cond4 i = 1#1)
    (y2 : Vec F S1x676 .f32) (y3 : Vec F S1x676 .i32) (ys : Vec F S676x1536 .f32)
    (E : Set ℕ) (K : PUnit → sProp 𝕄) :
    iprop(owns (c : Thread nD τ) arg1 fullShare x0 ∗ owns (c : Thread nD τ) arg2 fullShare x1 ∗ owns (c : Thread nD τ) arg3 fullShare y2 ∗ owns (c : Thread nD τ) arg4 fullShare y3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare ys
        ∗ (iprop(owns (c : Thread nD τ) arg1 fullShare x0 ∗ owns (c : Thread nD τ) arg2 fullShare x1 ∗ owns (c : Thread nD τ) arg3 fullShare (k0_pay8 x0 (k0_pay3 (k0_pay18 ys x1) y2)) ∗ owns (c : Thread nD τ) arg4 fullShare (k0_pay4 (k0_pay18 ys x1) (k0_pay19 i ys x1) y2 y3) ∗ owns (c : Thread nD τ) arg5 fullShare (k0_pay15 x1) ∗ owns (c : Thread nD τ) arg6 fullShare (k0_pay16 x1) ∗ owns (c : Thread nD τ) arg7 fullShare (k0_pay12 x0 (k0_pay3 (k0_pay18 ys x1) y2)) ∗ owns (c : Thread nD τ) arg8 fullShare (k0_pay6 (extractAt ![0, 0, 0] (k0_pay10 x0 (k0_pay3 (k0_pay18 ys x1) y2)) inpos_S1x1x1_p0_0_0)) ∗ owns (c : Thread nD τ) arg9 fullShare (k0_pay7 (extractAt ![0, 0, 0] (k0_pay11 x0 (k0_pay3 (k0_pay18 ys x1) y2) (k0_pay4 (k0_pay18 ys x1) (k0_pay19 i ys x1) y2 y3)) inpos_S1x1x1_p0_0_0)) ∗ owns (c : Thread nD τ) arg10 fullShare (k0_pay5 (k0_pay9 x0 (k0_pay3 (k0_pay18 ys x1) y2))) ∗ owns (c : Thread nD τ) arg11 fullShare ys) -∗ K ⟨⟩))
      ⊢ wp frame (wpE (defs₀ (F := F)) Variants.none c none) E (cc0__knn_body i arg1 harg1 arg2 harg2 arg3 harg3 arg4 harg4 arg5 harg5 arg6 harg6 arg7 harg7 arg8 harg8 arg9 harg9 arg10 harg10 arg11 harg11) K := by
  simp only [cc0__knn_body_eq_skeleton]; unfold cc0__knn_body_skel
  simp only [k0_part2_eq_skeleton, k0_part1_eq_skeleton]
  unfold owns
  iintro ⟨⟨%f1, %h1, H1⟩, ⟨%f2, %h2, H2⟩, ⟨%f3, %h3, H3⟩, ⟨%f4, %h4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%f11, %h11, H11⟩, Hk⟩
  obtain rfl := harg1.eq_unread h1; obtain rfl := harg2.eq_unread h2; obtain rfl := harg3.eq_unread h3; obtain rfl := harg4.eq_unread h4; obtain rfl := harg11.eq_unread h11
  sl_exec (disch := first | sl_exact h0 | sl_exact h2 | sl_exact h3 | sl_exact h4)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; (try delta body0_C.sl.v71); (try delta body0_C.sl.v61); (try delta body0_C.sl.r_3); (try delta body0_C.sl.r_4); (try delta body0_C.sl.r); (try delta body0_C.sl.v42); (try delta body0_C.sl.v64); (try delta body0_C.sl.H3_1); (try delta body0_C.sl.H4_1); (try delta body0_C.sl.H11_1); (try delta body0_C.sl.r_1); (try delta body0_C.sl.r_2); (try delta body0_C.sl.v4); (try delta body0_C.sl.v5); (try delta body0_C.sl.H11_1); simp only [ra_S676x1536, rw_S676x1536, rc_S676x1536, ra_S2048x1536, rw_S2048x1536, rc_S2048x1536, ra_S1x676, rw_S1x676, rc_S1x676, ra_S1x1x2048, rw_S1x1x2048, rc_S1x1x2048, ra_S1x1536, rw_S1x1536, rc_S1x1536, ra_S1x1, rw_S1x1, rc_S1x1, Memref.IsWhole.read_unread]
  isplitl [H4]
  · iexists _; isplitr; swap; · iexact H4
    ipureintro; (try delta body0_C.sl.v71); (try delta body0_C.sl.v61); (try delta body0_C.sl.r_3); (try delta body0_C.sl.r_4); (try delta body0_C.sl.r); (try delta body0_C.sl.v42); (try delta body0_C.sl.v64); (try delta body0_C.sl.H3_1); (try delta body0_C.sl.H4_1); (try delta body0_C.sl.H11_1); (try delta body0_C.sl.r_1); (try delta body0_C.sl.r_2); (try delta body0_C.sl.v4); (try delta body0_C.sl.v5); (try delta body0_C.sl.H11_1); simp only [ra_S676x1536, rw_S676x1536, rc_S676x1536, ra_S2048x1536, rw_S2048x1536, rc_S2048x1536, ra_S1x676, rw_S1x676, rc_S1x676, ra_S1x1x2048, rw_S1x1x2048, rc_S1x1x2048, ra_S1x1536, rw_S1x1536, rc_S1x1536, ra_S1x1, rw_S1x1, rc_S1x1, Memref.IsWhole.read_unread]
  isplitl [H5]
  · iexists _; isplitr; swap; · iexact H5
    ipureintro; (try delta body0_C.sl.v71); (try delta body0_C.sl.v61); (try delta body0_C.sl.r_3); (try delta body0_C.sl.r_4); (try delta body0_C.sl.r); (try delta body0_C.sl.v42); (try delta body0_C.sl.v64); (try delta body0_C.sl.H3_1); (try delta body0_C.sl.H4_1); (try delta body0_C.sl.H11_1); (try delta body0_C.sl.r_1); (try delta body0_C.sl.r_2); (try delta body0_C.sl.v4); (try delta body0_C.sl.v5); (try delta body0_C.sl.H11_1); simp only [ra_S676x1536, rw_S676x1536, rc_S676x1536, ra_S2048x1536, rw_S2048x1536, rc_S2048x1536, ra_S1x676, rw_S1x676, rc_S1x676, ra_S1x1x2048, rw_S1x1x2048, rc_S1x1x2048, ra_S1x1536, rw_S1x1536, rc_S1x1536, ra_S1x1, rw_S1x1, rc_S1x1, Memref.IsWhole.read_unread]
  isplitl [H6]
  · iexists _; isplitr; swap; · iexact H6
    ipureintro; (try delta body0_C.sl.v71); (try delta body0_C.sl.v61); (try delta body0_C.sl.r_3); (try delta body0_C.sl.r_4); (try delta body0_C.sl.r); (try delta body0_C.sl.v42); (try delta body0_C.sl.v64); (try delta body0_C.sl.H3_1); (try delta body0_C.sl.H4_1); (try delta body0_C.sl.H11_1); (try delta body0_C.sl.r_1); (try delta body0_C.sl.r_2); (try delta body0_C.sl.v4); (try delta body0_C.sl.v5); (try delta body0_C.sl.H11_1); simp only [ra_S676x1536, rw_S676x1536, rc_S676x1536, ra_S2048x1536, rw_S2048x1536, rc_S2048x1536, ra_S1x676, rw_S1x676, rc_S1x676, ra_S1x1x2048, rw_S1x1x2048, rc_S1x1x2048, ra_S1x1536, rw_S1x1536, rc_S1x1536, ra_S1x1, rw_S1x1, rc_S1x1, Memref.IsWhole.read_unread]
  isplitl [H7]
  · iexists _; isplitr; swap; · iexact H7
    ipureintro; (try delta body0_C.sl.v71); (try delta body0_C.sl.v61); (try delta body0_C.sl.r_3); (try delta body0_C.sl.r_4); (try delta body0_C.sl.r); (try delta body0_C.sl.v42); (try delta body0_C.sl.v64); (try delta body0_C.sl.H3_1); (try delta body0_C.sl.H4_1); (try delta body0_C.sl.H11_1); (try delta body0_C.sl.r_1); (try delta body0_C.sl.r_2); (try delta body0_C.sl.v4); (try delta body0_C.sl.v5); (try delta body0_C.sl.H11_1); simp only [ra_S676x1536, rw_S676x1536, rc_S676x1536, ra_S2048x1536, rw_S2048x1536, rc_S2048x1536, ra_S1x676, rw_S1x676, rc_S1x676, ra_S1x1x2048, rw_S1x1x2048, rc_S1x1x2048, ra_S1x1536, rw_S1x1536, rc_S1x1536, ra_S1x1, rw_S1x1, rc_S1x1, Memref.IsWhole.read_unread]
  isplitl [H8]
  · iexists _; isplitr; swap; · iexact H8
    ipureintro; (try delta body0_C.sl.v71); (try delta body0_C.sl.v61); (try delta body0_C.sl.r_3); (try delta body0_C.sl.r_4); (try delta body0_C.sl.r); (try delta body0_C.sl.v42); (try delta body0_C.sl.v64); (try delta body0_C.sl.H3_1); (try delta body0_C.sl.H4_1); (try delta body0_C.sl.H11_1); (try delta body0_C.sl.r_1); (try delta body0_C.sl.r_2); (try delta body0_C.sl.v4); (try delta body0_C.sl.v5); (try delta body0_C.sl.H11_1); simp only [ra_S676x1536, rw_S676x1536, rc_S676x1536, ra_S2048x1536, rw_S2048x1536, rc_S2048x1536, ra_S1x676, rw_S1x676, rc_S1x676, ra_S1x1x2048, rw_S1x1x2048, rc_S1x1x2048, ra_S1x1536, rw_S1x1536, rc_S1x1536, ra_S1x1, rw_S1x1, rc_S1x1, Memref.IsWhole.read_unread]
  isplitl [H9]
  · iexists _; isplitr; swap; · iexact H9
    ipureintro; (try delta body0_C.sl.v71); (try delta body0_C.sl.v61); (try delta body0_C.sl.r_3); (try delta body0_C.sl.r_4); (try delta body0_C.sl.r); (try delta body0_C.sl.v42); (try delta body0_C.sl.v64); (try delta body0_C.sl.H3_1); (try delta body0_C.sl.H4_1); (try delta body0_C.sl.H11_1); (try delta body0_C.sl.r_1); (try delta body0_C.sl.r_2); (try delta body0_C.sl.v4); (try delta body0_C.sl.v5); (try delta body0_C.sl.H11_1); simp only [ra_S676x1536, rw_S676x1536, rc_S676x1536, ra_S2048x1536, rw_S2048x1536, rc_S2048x1536, ra_S1x676, rw_S1x676, rc_S1x676, ra_S1x1x2048, rw_S1x1x2048, rc_S1x1x2048, ra_S1x1536, rw_S1x1536, rc_S1x1536, ra_S1x1, rw_S1x1, rc_S1x1, Memref.IsWhole.read_unread]
  isplitl [H10]
  · iexists _; isplitr; swap; · iexact H10
    ipureintro; (try delta body0_C.sl.v71); (try delta body0_C.sl.v61); (try delta body0_C.sl.r_3); (try delta body0_C.sl.r_4); (try delta body0_C.sl.r); (try delta body0_C.sl.v42); (try delta body0_C.sl.v64); (try delta body0_C.sl.H3_1); (try delta body0_C.sl.H4_1); (try delta body0_C.sl.H11_1); (try delta body0_C.sl.r_1); (try delta body0_C.sl.r_2); (try delta body0_C.sl.v4); (try delta body0_C.sl.v5); (try delta body0_C.sl.H11_1); simp only [ra_S676x1536, rw_S676x1536, rc_S676x1536, ra_S2048x1536, rw_S2048x1536, rc_S2048x1536, ra_S1x676, rw_S1x676, rc_S1x676, ra_S1x1x2048, rw_S1x1x2048, rc_S1x1x2048, ra_S1x1536, rw_S1x1536, rc_S1x1536, ra_S1x1, rw_S1x1, rc_S1x1, Memref.IsWhole.read_unread]
  iexists _; isplitr; swap; · iexact H11
  ipureintro; exact harg11.read_unread _
end

end Cert.KernelIdeal.Hand

end
-- ==== Proof.Region0.lean ====
module

public import proofs.«01_k».proof.Proof.Body0

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The first call's conditions and idle points, by the point's number -/

theorem hc0_0 (t : Fin cfg0.N) : c00 (grid0.coords t) ↔ t.val = 0 :=
  (by decide +kernel : ∀ t : Fin grid0.N, c00 (grid0.coords t) ↔ t.val = 0) t
theorem hc0_2 (t : Fin cfg0.N) : k0_cond2 (grid0.coords t) = 1#1 ↔ t.val = 0 :=
  (by decide +kernel : ∀ t : Fin grid0.N, k0_cond2 (grid0.coords t) = 1#1 ↔ t.val = 0) t
theorem hc0_3 (t : Fin cfg0.N) : k0_cond3 (grid0.coords t) = 1#1 ↔ t.val ≠ 0 :=
  (by decide +kernel : ∀ t : Fin grid0.N, k0_cond3 (grid0.coords t) = 1#1 ↔ t.val ≠ 0) t
theorem hc0_4 (t : Fin cfg0.N) : k0_cond4 (grid0.coords t) = 1#1 ↔ t.val = 7 :=
  (by decide +kernel : ∀ t : Fin grid0.N, k0_cond4 (grid0.coords t) = 1#1 ↔ t.val = 7) t
theorem N0_lt (t : Fin cfg0.N) : t.val < 8 := Nat.lt_of_lt_of_eq t.isLt N_0
theorem live0_2 (t : Fin cfg0.N) : cfg0.idle 2 (grid0.coords t) = false :=
  (by decide +kernel : ∀ t : Fin cfg0.N, cfg0.idle 2 (grid0.coords t) = false) t
/-- The buffer of output 2 is fresh before the first point only: every point stores into it and none before the last writes it back. -/
def freshTab0_2 : ℕ → Bool
  | 0 => true
  | n + 1 => (0x80 : ℕ).testBit n
theorem freshTab0_2_step : ∀ t : Fin cfg0.N,
    freshTab0_2 (t.val + 1) = ((cfg0.win 2).flush t || (cfg0.idle 2 (cfg0.grid.coords t) && freshTab0_2 t.val)) := by decide +kernel
theorem notFresh0_2 (t : Fin cfg0.N) (ht : t.val ≠ 0) : cfg0.fresh 2 t.val = false := by
  rw [Pipeline.Cfg.fresh_tab cfg0 2 freshTab0_2 rfl freshTab0_2_step t.val (Nat.le_of_lt t.isLt)]
  revert ht; revert t; decide +kernel
theorem live0_3 (t : Fin cfg0.N) : cfg0.idle 3 (grid0.coords t) = false :=
  (by decide +kernel : ∀ t : Fin cfg0.N, cfg0.idle 3 (grid0.coords t) = false) t
/-- The buffer of output 3 is fresh before the first point only: every point stores into it and none before the last writes it back. -/
def freshTab0_3 : ℕ → Bool
  | 0 => true
  | n + 1 => (0x80 : ℕ).testBit n
theorem freshTab0_3_step : ∀ t : Fin cfg0.N,
    freshTab0_3 (t.val + 1) = ((cfg0.win 3).flush t || (cfg0.idle 3 (cfg0.grid.coords t) && freshTab0_3 t.val)) := by decide +kernel
theorem notFresh0_3 (t : Fin cfg0.N) (ht : t.val ≠ 0) : cfg0.fresh 3 t.val = false := by
  rw [Pipeline.Cfg.fresh_tab cfg0 3 freshTab0_3 rfl freshTab0_3_step t.val (Nat.le_of_lt t.isLt)]
  revert ht; revert t; decide +kernel
theorem idle0_6 (t : Fin cfg0.N) (ht : t.val ≠ 7) : cfg0.idle 6 (grid0.coords t) = true :=
  (by decide +kernel : ∀ t : Fin cfg0.N, t.val ≠ 7 → cfg0.idle 6 (grid0.coords t) = true) t ht
theorem live0_6 (t : Fin cfg0.N) (ht : t.val = 7) : cfg0.idle 6 (grid0.coords t) = false :=
  (by decide +kernel : ∀ t : Fin cfg0.N, t.val = 7 → cfg0.idle 6 (grid0.coords t) = false) t ht
theorem noFlush0_6 (t : Fin cfg0.N) (ht : t.val ≠ 7) : (cfg0.win 6).flush t = false :=
  (by decide +kernel : ∀ t : Fin cfg0.N, t.val ≠ 7 → (cfg0.win 6).flush t = false) t ht
theorem idle0_7 (t : Fin cfg0.N) (ht : t.val ≠ 7) : cfg0.idle 7 (grid0.coords t) = true :=
  (by decide +kernel : ∀ t : Fin cfg0.N, t.val ≠ 7 → cfg0.idle 7 (grid0.coords t) = true) t ht
theorem live0_7 (t : Fin cfg0.N) (ht : t.val = 7) : cfg0.idle 7 (grid0.coords t) = false :=
  (by decide +kernel : ∀ t : Fin cfg0.N, t.val = 7 → cfg0.idle 7 (grid0.coords t) = false) t ht
theorem noFlush0_7 (t : Fin cfg0.N) (ht : t.val ≠ 7) : (cfg0.win 7).flush t = false :=
  (by decide +kernel : ∀ t : Fin cfg0.N, t.val ≠ 7 → (cfg0.win 7).flush t = false) t ht
theorem idle0_8 (t : Fin cfg0.N) (ht : t.val ≠ 7) : cfg0.idle 8 (grid0.coords t) = true :=
  (by decide +kernel : ∀ t : Fin cfg0.N, t.val ≠ 7 → cfg0.idle 8 (grid0.coords t) = true) t ht
theorem live0_8 (t : Fin cfg0.N) (ht : t.val = 7) : cfg0.idle 8 (grid0.coords t) = false :=
  (by decide +kernel : ∀ t : Fin cfg0.N, t.val = 7 → cfg0.idle 8 (grid0.coords t) = false) t ht
theorem noFlush0_8 (t : Fin cfg0.N) (ht : t.val ≠ 7) : (cfg0.win 8).flush t = false :=
  (by decide +kernel : ∀ t : Fin cfg0.N, t.val ≠ 7 → (cfg0.win 8).flush t = false) t ht
theorem idle0_9 (t : Fin cfg0.N) (ht : t.val ≠ 7) : cfg0.idle 9 (grid0.coords t) = true :=
  (by decide +kernel : ∀ t : Fin cfg0.N, t.val ≠ 7 → cfg0.idle 9 (grid0.coords t) = true) t ht
theorem live0_9 (t : Fin cfg0.N) (ht : t.val = 7) : cfg0.idle 9 (grid0.coords t) = false :=
  (by decide +kernel : ∀ t : Fin cfg0.N, t.val = 7 → cfg0.idle 9 (grid0.coords t) = false) t ht
theorem noFlush0_9 (t : Fin cfg0.N) (ht : t.val ≠ 7) : (cfg0.win 9).flush t = false :=
  (by decide +kernel : ∀ t : Fin cfg0.N, t.val ≠ 7 → (cfg0.win 9).flush t = false) t ht

/-! ## What the first call computes, from the contents `V` its arrays are entered with -/

/-- The grid point numbered `n`. -/
def pt0 (n : ℕ) : Fin cfg0.N := ⟨n % 8, by have := Nat.mod_lt n (show 0 < 8 by decide); exact Nat.lt_of_lt_of_eq this N_0.symm⟩
theorem pt0_val (t : Fin cfg0.N) : pt0 t.val = t := Fin.ext (Nat.mod_eq_of_lt (N0_lt t))

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
/-- The patch matrix the body reads. -/
def patch0 (c : Dev nD) : Vec F S676x1536 .f32 := iblk0 V c 0 t0_0
/-- The library rows of block `n`. -/
def lib0 (c : Dev nD) (n : ℕ) : Vec F S2048x1536 .f32 := iblk0 V c 1 (pt0 n)
/-- Minus twice the patch matrix, as the scratch buffer holds it. -/
def pm2 (c : Dev nD) : Vec F S676x1536 .f32 := k0_pay13 (patch0 V c)
/-- The running minimum and its index after block `n`. -/
def acc0 (c : Dev nD) : ℕ → Vec F S1x676 .f32 × Vec F S1x676 .i32
  | 0 => (k0_pay18 (pm2 V c) (lib0 V c 0), k0_pay19 (grid0.coords (pt0 0)) (pm2 V c) (lib0 V c 0))
  | n + 1 => (k0_pay3 (k0_pay18 (pm2 V c) (lib0 V c (n + 1))) (acc0 c n).1,
      k0_pay4 (k0_pay18 (pm2 V c) (lib0 V c (n + 1))) (k0_pay19 (grid0.coords (pt0 (n + 1))) (pm2 V c) (lib0 V c (n + 1))) (acc0 c n).1 (acc0 c n).2)
theorem acc0_zero (c : Dev nD) : acc0 V c 0 = (k0_pay18 (pm2 V c) (lib0 V c 0), k0_pay19 (grid0.coords (pt0 0)) (pm2 V c) (lib0 V c 0)) := rfl
theorem acc0_succ (c : Dev nD) (n : ℕ) : acc0 V c (n + 1) = (k0_pay3 (k0_pay18 (pm2 V c) (lib0 V c (n + 1))) (acc0 V c n).1,
      k0_pay4 (k0_pay18 (pm2 V c) (lib0 V c (n + 1))) (k0_pay19 (grid0.coords (pt0 (n + 1))) (pm2 V c) (lib0 V c (n + 1))) (acc0 V c n).1 (acc0 V c n).2) := rfl
/-- The distances of every patch to its nearest library row, as the call leaves them. -/
def minv0 (c : Dev nD) : Vec F S1x676 .f32 := k0_pay8 (patch0 V c) (acc0 V c 7).1
/-- The farthest patch's row. -/
def mtest0 (c : Dev nD) : Vec F S1x1536 .f32 := k0_pay12 (patch0 V c) (acc0 V c 7).1
/-- The farthest patch's index. -/
def sidx0 (c : Dev nD) : Vec F S1x1 .i32 := k0_pay6 (extractAt ![0, 0, 0] (k0_pay10 (patch0 V c) (acc0 V c 7).1) inpos_S1x1x1_p0_0_0)
/-- The index of the library row nearest to the farthest patch. -/
def jstar0 (c : Dev nD) : Vec F S1x1 .i32 := k0_pay7 (extractAt ![0, 0, 0] (k0_pay11 (patch0 V c) (acc0 V c 7).1 (acc0 V c 7).2) inpos_S1x1x1_p0_0_0)
/-- The farthest patch's distance. -/
def sstar0 (c : Dev nD) : Vec F S1x1 .f32 := k0_pay5 (k0_pay9 (patch0 V c) (acc0 V c 7).1)

/-- The scratch operand. -/
abbrev scM0 : Memref sig .tc .vmem S676x1536 .f32 := Memref.whole cc0_scratch0
/-- The scoped buffers that the first call neither stages nor uses, each at some contents. -/
def rest0 (c : Dev nD) : sProp 𝕄 := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))
theorem scopedRest0_split (c : Dev nD) :
    (Pipeline.scopedRest spec0 c : sProp 𝕄) = iprop((∃ d, owns (c : Thread nD τ) scM0 fullShare d) ∗ rest0 c) := by
  rw [scopedRest0_eq]; unfold rest0; simp only [scM0, owns_whole]; try rfl
/-- The invariant: the scratch buffer holds anything before the first point and minus twice the patches after it. -/
def Phi0 (c : Dev nD) : ℕ → sProp 𝕄
  | 0 => iprop((∃ d, owns (c : Thread nD τ) scM0 fullShare d) ∗ rest0 c ∗ ∃ r, prngReg c r)
  | _ + 1 => iprop(owns (c : Thread nD τ) scM0 fullShare (pm2 V c) ∗ rest0 c ∗ ∃ r, prngReg c r)
theorem Phi0_pos (c : Dev nD) (n : ℕ) (hn : n ≠ 0) :
    Phi0 V c n = iprop(owns (c : Thread nD τ) scM0 fullShare (pm2 V c) ∗ rest0 c ∗ ∃ r, prngReg c r) := by
  cases n with
  | zero => exact absurd rfl hn
  | succ n => rfl

/-- The proof data of the first call on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => if t.val = 7 then minv0 V c else (acc0 V c t.val).1
    | ⟨3, _⟩ => (acc0 V c t.val).2
    | ⟨4, _⟩ => k0_pay15 (lib0 V c t.val)
    | ⟨5, _⟩ => k0_pay16 (lib0 V c t.val)
    | ⟨6, _⟩ => mtest0 V c
    | ⟨7, _⟩ => sidx0 V c
    | ⟨8, _⟩ => jstar0 V c
    | ⟨9, _⟩ => sstar0 V c
  Φ t := Phi0 V c t.val
  q _ := fullShare
  owed _ := 0

theorem A0_eq (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = if t.val = 7 then minv0 V c else (acc0 V c t.val).1 := by dsimp only [dat0]
theorem after0_3 (c : Dev nD) (t : Fin cfg0.N) : (dat0 V c).after 3 t = (acc0 V c t.val).2 := by dsimp only [dat0]
theorem after0_4 (c : Dev nD) (t : Fin cfg0.N) : (dat0 V c).after 4 t = k0_pay15 (lib0 V c t.val) := by dsimp only [dat0]
theorem after0_5 (c : Dev nD) (t : Fin cfg0.N) : (dat0 V c).after 5 t = k0_pay16 (lib0 V c t.val) := by dsimp only [dat0]
theorem after0_6 (c : Dev nD) (t : Fin cfg0.N) : (dat0 V c).after 6 t = mtest0 V c := by dsimp only [dat0]
theorem after0_7 (c : Dev nD) (t : Fin cfg0.N) : (dat0 V c).after 7 t = sidx0 V c := by dsimp only [dat0]
theorem after0_8 (c : Dev nD) (t : Fin cfg0.N) : (dat0 V c).after 8 t = jstar0 V c := by dsimp only [dat0]
theorem after0_9 (c : Dev nD) (t : Fin cfg0.N) : (dat0 V c).after 9 t = sstar0 V c := by dsimp only [dat0]

theorem iblk0_patch (c : Dev nD) (t : Fin cfg0.N) : iblk0 V c 0 t = patch0 V c := rfl
theorem iblk0_lib (c : Dev nD) (t : Fin cfg0.N) : iblk0 V c 1 t = lib0 V c t.val := by unfold lib0; rw [pt0_val]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A0_eq]; try rfl) t d).trans
    (by unfold Dat.fetched Dat.blockOf iblk0; rw [A0_eq]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A0_eq]; try rfl) t d).trans
    (by unfold Dat.fetched Dat.blockOf iblk0; rw [A0_eq]; try rfl)
theorem before0_2 (c : Dev nD) (t : Fin cfg0.N) (ht : t.val ≠ 0) (d) : (dat0 V c).before 2 t d = (acc0 V c (t.val - 1)).1 := by
  rw [Dat.before_out_traj _ 2 rfl (fun _ _ => rfl) (fun t _ hi _ => absurd hi (by rw [live0_2 t]; exact Bool.false_ne_true)) t.val t rfl d,
    if_neg (by rw [notFresh0_2 t ht]; exact Bool.false_ne_true), after0_2]
  have := N0_lt t
  rw [if_neg (show ¬(t.val - 1 = 7) by omega)]
theorem before0_3 (c : Dev nD) (t : Fin cfg0.N) (ht : t.val ≠ 0) (d) : (dat0 V c).before 3 t d = (acc0 V c (t.val - 1)).2 := by
  rw [Dat.before_out_traj _ 3 rfl (fun _ _ => rfl) (fun t _ hi _ => absurd hi (by rw [live0_3 t]; exact Bool.false_ne_true)) t.val t rfl d,
    if_neg (by rw [notFresh0_3 t ht]; exact Bool.false_ne_true), after0_3]

/-! ## The body's obligation at each point -/

/-- What the body is called with at point `t`, window by window. -/
def bodyPre0 (c : Dev nD) (t : Fin cfg0.N) : sProp 𝕄 :=
  iprop((dat0 V c).Φ t.castSucc ∗ (dat0 V c).owesAt () t.castSucc
    ∗ (∃ d, owns (c : Thread nD τ) (win0_0.stage (cfg0.slots t 0)) fullShare ((dat0 V c).before 0 t d))
    ∗ (∃ d, owns (c : Thread nD τ) (win0_1.stage (cfg0.slots t 1)) fullShare ((dat0 V c).before 1 t d))
    ∗ (∃ d, owns (c : Thread nD τ) (win0_2.stage (cfg0.slots t 2)) fullShare ((dat0 V c).before 2 t d))
    ∗ (∃ d, owns (c : Thread nD τ) (win0_3.stage (cfg0.slots t 3)) fullShare ((dat0 V c).before 3 t d))
    ∗ (∃ d, owns (c : Thread nD τ) (win0_4.stage (cfg0.slots t 4)) fullShare ((dat0 V c).before 4 t d))
    ∗ (∃ d, owns (c : Thread nD τ) (win0_5.stage (cfg0.slots t 5)) fullShare ((dat0 V c).before 5 t d))
    ∗ (∃ d, owns (c : Thread nD τ) (win0_6.stage (cfg0.slots t 6)) fullShare ((dat0 V c).before 6 t d))
    ∗ (∃ d, owns (c : Thread nD τ) (win0_7.stage (cfg0.slots t 7)) fullShare ((dat0 V c).before 7 t d))
    ∗ (∃ d, owns (c : Thread nD τ) (win0_8.stage (cfg0.slots t 8)) fullShare ((dat0 V c).before 8 t d))
    ∗ (∃ d, owns (c : Thread nD τ) (win0_9.stage (cfg0.slots t 9)) fullShare ((dat0 V c).before 9 t d)))
/-- What it returns. -/
def bodyPost0 (c : Dev nD) (t : Fin cfg0.N) : sProp 𝕄 :=
  iprop((dat0 V c).Φ t.succ ∗ (dat0 V c).owesAt () t.succ ∗ (dat0 V c).leavesExact 0 t ∗ (dat0 V c).leavesExact 1 t ∗ (dat0 V c).leavesExact 2 t ∗ (dat0 V c).leavesExact 3 t ∗ (dat0 V c).leavesExact 4 t ∗ (dat0 V c).leavesExact 5 t ∗ (dat0 V c).leavesExact 6 t ∗ (dat0 V c).leavesExact 7 t ∗ (dat0 V c).leavesExact 8 t ∗ (dat0 V c).leavesExact 9 t)

theorem leaves0_live (c : Dev nD) (w : Fin cfg0.W) (t : Fin cfg0.N) (h : cfg0.idle w (grid0.coords t) = false) :
    (dat0 V c).leavesExact w t = owns (c : Thread nD τ) ((cfg0.win w).stage (cfg0.slots t w)) fullShare ((dat0 V c).after w t) := by
  unfold Dat.leavesExact; rw [h]

set_option maxHeartbeats 4000000 in
theorem sound0_A (c : Dev nD) (t : Fin cfg0.N) (hz : t.val = 0) :
    bodyPre0 V c t ⊢ wp frame (wpE (defs₀ (F := F)) Variants.none c none) Set.univ (bodyAt0 t) (fun _ => bodyPost0 V c t) := by
  unfold bodyPre0 bodyPost0 bodyAt0
  have hl : t.val ≠ 7 := by omega
  simp only [before0_0, before0_1, iblk0_patch, iblk0_lib]
  rw [show (dat0 V c).owesAt () t.succ = (dat0 V c).owesAt () t.castSucc from rfl,
    show (dat0 V c).Φ t.succ = Phi0 V c (t.val + 1) from rfl, Phi0_pos V c (t.val + 1) (by omega),
    show (dat0 V c).Φ t.castSucc = Phi0 V c t.val from rfl]
  rw [leaves0_live V c 0 t rfl, after0_0]
  rw [leaves0_live V c 1 t rfl, after0_1]
  rw [leaves0_live V c 2 t (live0_2 t), after0_2]
  rw [leaves0_live V c 3 t (live0_3 t), after0_3]
  rw [leaves0_live V c 4 t rfl, after0_4]
  rw [leaves0_live V c 5 t rfl, after0_5]
  rw [Dat.leavesExact_idle (dat0 V c) 6 t (idle0_6 t hl) (noFlush0_6 t hl)]
  rw [Dat.leavesExact_idle (dat0 V c) 7 t (idle0_7 t hl) (noFlush0_7 t hl)]
  rw [Dat.leavesExact_idle (dat0 V c) 8 t (idle0_8 t hl) (noFlush0_8 t hl)]
  rw [Dat.leavesExact_idle (dat0 V c) 9 t (idle0_9 t hl) (noFlush0_9 t hl)]
  simp only [iblk0_patch, iblk0_lib]
  rw [hz, show Phi0 V c 0 = iprop((∃ d, owns (c : Thread nD τ) scM0 fullShare d) ∗ rest0 c ∗ ∃ r, prngReg c r) from rfl]
  have hp : pt0 0 = t := by rw [← hz]; exact pt0_val t
  rw [acc0_zero, hp]
  unfold pm2
  try dsimp only
  rw [if_neg (by first | exact hl | omega)]
  iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body0_A c (grid0.coords _) _ _ _ _ _ _ _ _ _ _ _ _ _ _ _ _ _ _ _ _ _ _ _ _ ((hc0_0 _).mpr hz) ((hc0_2 _).mpr hz) (fun h => (hc0_3 _).mp h hz) (fun h => hl ((hc0_4 _).mp h)) _ _ _ _ Set.univ _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexact H6
  isplitl [H7]; · iexact H7
  isplitl [H8]; · iexact H8
  isplitl [H9]; · iexact H9
  isplitl [HS]; · iexact HS
  iintro ⟨H0, H1, H2, H3, H4, H5, H6, H7, H8, H9, HS⟩
  isplitl [HS Hr Hg]
  · isplitl [HS]; · iexact HS
    isplitl [Hr]; · iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iexists _; iexact H9

set_option maxHeartbeats 4000000 in
theorem sound0_B (c : Dev nD) (t : Fin cfg0.N) (hz : t.val ≠ 0) (hl : t.val ≠ 7) :
    bodyPre0 V c t ⊢ wp frame (wpE (defs₀ (F := F)) Variants.none c none) Set.univ (bodyAt0 t) (fun _ => bodyPost0 V c t) := by
  unfold bodyPre0 bodyPost0 bodyAt0
  simp only [before0_0, before0_1, iblk0_patch, iblk0_lib, before0_2 V c t hz, before0_3 V c t hz]
  rw [show (dat0 V c).owesAt () t.succ = (dat0 V c).owesAt () t.castSucc from rfl,
    show (dat0 V c).Φ t.succ = Phi0 V c (t.val + 1) from rfl, Phi0_pos V c (t.val + 1) (by omega),
    show (dat0 V c).Φ t.castSucc = Phi0 V c t.val from rfl]
  rw [leaves0_live V c 0 t rfl, after0_0]
  rw [leaves0_live V c 1 t rfl, after0_1]
  rw [leaves0_live V c 2 t (live0_2 t), after0_2]
  rw [leaves0_live V c 3 t (live0_3 t), after0_3]
  rw [leaves0_live V c 4 t rfl, after0_4]
  rw [leaves0_live V c 5 t rfl, after0_5]
  rw [Dat.leavesExact_idle (dat0 V c) 6 t (idle0_6 t hl) (noFlush0_6 t hl)]
  rw [Dat.leavesExact_idle (dat0 V c) 7 t (idle0_7 t hl) (noFlush0_7 t hl)]
  rw [Dat.leavesExact_idle (dat0 V c) 8 t (idle0_8 t hl) (noFlush0_8 t hl)]
  rw [Dat.leavesExact_idle (dat0 V c) 9 t (idle0_9 t hl) (noFlush0_9 t hl)]
  simp only [iblk0_patch, iblk0_lib]
  rw [Phi0_pos V c t.val hz]
  rw [if_neg (by first | exact hl | omega)]
  obtain ⟨n, hn⟩ : ∃ n, t.val = n + 1 := ⟨t.val - 1, by omega⟩
  have hp : pt0 (n + 1) = t := by rw [← hn]; exact pt0_val t
  rw [hn, show n + 1 - 1 = n from rfl, acc0_succ, hp]
  try dsimp only
  iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body0_B c (grid0.coords _) _ _ _ _ _ _ _ _ _ _ _ _ _ _ _ _ _ _ _ _ _ _ _ _ (fun h => hz ((hc0_0 _).mp h)) (fun h => hz ((hc0_2 _).mp h)) ((hc0_3 _).mpr hz) (fun h => hl ((hc0_4 _).mp h)) _ _ _ _ _ _ _ Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexact H6
  isplitl [H7]; · iexact H7
  isplitl [H8]; · iexact H8
  isplitl [H9]; · iexact H9
  isplitl [HS]; · iexact HS
  iintro ⟨H0, H1, H2, H3, H4, H5, H6, H7, H8, H9, HS⟩
  isplitl [HS Hr Hg]
  · isplitl [HS]; · iexact HS
    isplitl [Hr]; · iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iexists _; iexact H9

set_option maxHeartbeats 4000000 in
theorem sound0_C (c : Dev nD) (t : Fin cfg0.N) (hl : t.val = 7) :
    bodyPre0 V c t ⊢ wp frame (wpE (defs₀ (F := F)) Variants.none c none) Set.univ (bodyAt0 t) (fun _ => bodyPost0 V c t) := by
  unfold bodyPre0 bodyPost0 bodyAt0
  have hz : t.val ≠ 0 := by omega
  simp only [before0_0, before0_1, iblk0_patch, iblk0_lib, before0_2 V c t hz, before0_3 V c t hz]
  rw [show (dat0 V c).owesAt () t.succ = (dat0 V c).owesAt () t.castSucc from rfl,
    show (dat0 V c).Φ t.succ = Phi0 V c (t.val + 1) from rfl, Phi0_pos V c (t.val + 1) (by omega),
    show (dat0 V c).Φ t.castSucc = Phi0 V c t.val from rfl]
  rw [leaves0_live V c 0 t rfl, after0_0]
  rw [leaves0_live V c 1 t rfl, after0_1]
  rw [leaves0_live V c 2 t (live0_2 t), after0_2]
  rw [leaves0_live V c 3 t (live0_3 t), after0_3]
  rw [leaves0_live V c 4 t rfl, after0_4]
  rw [leaves0_live V c 5 t rfl, after0_5]
  rw [leaves0_live V c 6 t (live0_6 t hl), after0_6]
  rw [leaves0_live V c 7 t (live0_7 t hl), after0_7]
  rw [leaves0_live V c 8 t (live0_8 t hl), after0_8]
  rw [leaves0_live V c 9 t (live0_9 t hl), after0_9]
  simp only [iblk0_patch, iblk0_lib]
  rw [Phi0_pos V c t.val hz]
  rw [if_pos hl]
  have hp : pt0 7 = t := by rw [← hl]; exact pt0_val t
  rw [hl, show 7 - 1 = 6 from rfl]
  unfold minv0 mtest0 sidx0 jstar0 sstar0
  rw [acc0_succ V c 6, show 6 + 1 = 7 from rfl, hp]
  try dsimp only
  iintro ⟨⟨HS, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body0_C c (grid0.coords _) _ _ _ _ _ _ _ _ _ _ _ _ _ _ _ _ _ _ _ _ _ _ _ _ (fun h => hz ((hc0_0 _).mp h)) (fun h => hz ((hc0_2 _).mp h)) ((hc0_3 _).mpr hz) ((hc0_4 _).mpr hl) _ _ _ Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [HS]; · iexact HS
  iintro ⟨H0, H1, H2, H3, H4, H5, H6, H7, H8, H9, HS⟩
  isplitl [HS Hr Hg]
  · isplitl [HS]; · iexact HS
    isplitl [Hr]; · iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem sound0 (c : Dev nD) (t : Fin cfg0.N) :
    bodyPre0 V c t ⊢ wp frame (wpE (defs₀ (F := F)) Variants.none c none) Set.univ (bodyAt0 t) (fun _ => bodyPost0 V c t) := by
  by_cases hz : t.val = 0
  · exact sound0_A V c t hz
  · by_cases hl : t.val = 7
    · exact sound0_C V c t hl
    · exact sound0_B V c t hz hl

theorem defs₀_row0 (t : Fin cfg0.N) :
    defs₀ (F := F) .tc cfg0.body (cfg0.bodyArgs t (cfg0.slots t)) = bodyAt0 t := by
  unfold defs₀; rw [Defs.onTc_tc]

/-- The first call's body meets its obligation at every point. -/
theorem body_obligation0 (c : Dev nD) : BodyObligation (dat0 V c) (defs₀ (F := F)) Variants.none () Set.univ := fun t => by
  rw [bigSep_W0, bigSep_W0, defs₀_row0]
  exact triple_restated (sound0 V c t) rfl .rfl fun _ => .rfl

/-- The scoped buffers and the generator register are the invariant before the first point. -/
theorem hin0 (c : Dev nD) : iprop(Pipeline.scopedRest spec0 c ∗ ∃ r, prngReg c r) ⊢ (dat0 V c).Φ 0 := by
  rw [show (dat0 V c).Φ 0 = iprop((∃ d, owns (c : Thread nD τ) scM0 fullShare d) ∗ rest0 c ∗ ∃ r, prngReg c r) from rfl, scopedRest0_split]
  iintro ⟨⟨HS, Hr⟩, Hg⟩
  isplitl [HS]; · iexact HS
  isplitl [Hr]; · iexact Hr
  iexact Hg
/-- The invariant after the last point gives them back. -/
theorem hout0 (c : Dev nD) : (dat0 V c).Φ (Fin.last cfg0.N) ⊢ iprop(Pipeline.scopedRest spec0 c ∗ ∃ r, prngReg c r) := by
  rw [show (dat0 V c).Φ (Fin.last cfg0.N) = Phi0 V c cfg0.N from rfl, Phi0_pos V c cfg0.N (by rw [show cfg0.N = 8 from N_0]; decide), scopedRest0_split]
  iintro ⟨HS, Hr, Hg⟩
  isplitl [HS Hr]
  · isplitl [HS]; · iexists _; iexact HS
    iexact Hr
  iexact Hg

end Cert.KernelIdeal.Hand

end
-- ==== Proof.Body1.lean ====
module

public import proofs.«01_k».proof.Proof.Body0

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The second call's body, one triple per case of its branch conditions -/

/-- A row stored into a 4-row buffer: the buffer reads what it read, with the row put. -/
theorem rp_S4x4096 {sp : Space} (v : View sig .tc sp S4x4096 .f32) (f : v.ty.Contents (Elt F)) (off : Fin 2 → ℕ)
    (inb : ∀ a, (off : Fin S4x4096.rank → ℕ) a + (![1, 4096] : Fin S4x4096.rank → ℕ) a ≤ S4x4096.size a)
    (w : (Rect.unit (s := S4x4096) off ![1, 4096] inb).shape.Idx → Elt F .f32) (L : List (View.Piece (Elt F) S4x4096 .f32)) :
    v.read (Elt F) (v.writes (Elt F) f (⟨Rect.unit (s := S4x4096) off ![1, 4096] inb, w⟩ :: L)) = VecWindow.put (v.read (Elt F) (v.writes (Elt F) f L)) off ![1, 4096] w :=
  View.read_writes_cons_put v f inb w L rfl

/-- A 4-row buffer with row `i`'s contents replaced. -/
def putRow (i : grid1.Coords) (w : Vec F S1x4096 .f32) (x : Vec F S4x4096 .f32) : Vec F S4x4096 .f32 :=
  VecWindow.put (s := S4x4096) x ![(i 0).val, 0] ![1, 4096] w

/-- The score, from the two rows of squared distances and the farthest patch's distance. -/
def score1 (wd td : Vec F S4x4096 .f32) (ss : Vec F S1x1 .f32) : Vec F S1x1 .f32 :=
  k1_pay2 td k1_pay3 (extractAt ![0, 0, 0] (k1_pay5 wd) inpos_S1x1x1_p0_0_0) (k1_pay6 wd) 2147483647#32 ss

section
variable (c : Dev nD) (i : grid1.Coords)
  (arg1 : Memref sig .tc .vmem S4096x1536 .bf16) (harg1 : arg1.IsWhole)
  (arg2 : Memref sig .tc .vmem S1x1x4096 .f32) (harg2 : arg2.IsWhole)
  (arg3 : Memref sig .tc .vmem S1x1536 .f32) (harg3 : arg3.IsWhole)
  (arg4 : Memref sig .tc .vmem S1x1536 .f32) (harg4 : arg4.IsWhole)
  (arg5 : Memref sig .tc .vmem S1x1 .f32) (harg5 : arg5.IsWhole)
  (arg6 : Memref sig .tc .vmem S26x26 .f32) (harg6 : arg6.IsWhole)
  (arg7 : Memref sig .tc .vmem S224x26 .f32) (harg7 : arg7.IsWhole)
  (arg8 : Memref sig .tc .vmem S1x1 .f32) (harg8 : arg8.IsWhole)
  (arg9 : Memref sig .tc .vmem S224x224 .f32) (harg9 : arg9.IsWhole)
  (arg10 : Memref sig .tc .vmem S4x4096 .f32) (harg10 : arg10.IsWhole)
  (arg11 : Memref sig .tc .vmem S4x4096 .f32) (harg11 : arg11.IsWhole)
  (x0 : Vec F S4096x1536 .bf16) (x1 : Vec F S1x1x4096 .f32) (x2 x3 : Vec F S1x1536 .f32) (x4 : Vec F S1x1 .f32) (x5 : Vec F S26x26 .f32) (x6 : Vec F S224x26 .f32) (ws ts : Vec F S4x4096 .f32)

set_option maxHeartbeats 4000000 in
/-- The first point: the score map is stored beside the two rows. -/
theorem body1_A (h1 : k1_cond1 i = 1#1) (h2 : ¬k1_cond2 i = 1#1)
    (y7 : Vec F S1x1 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y7 ∗ (∃ d, owns (c : Thread nD τ) arg9 fullShare d) ∗ owns (c : Thread nD τ) arg10 fullShare ws ∗ owns (c : Thread nD τ) arg11 fullShare ts
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y7 ∗ owns (c : Thread nD τ) arg9 fullShare (k1_pay1 x6 x5) ∗ owns (c : Thread nD τ) arg10 fullShare (putRow i (k1_pay11 x0 x1 x2 x3) ws) ∗ owns (c : Thread nD τ) arg11 fullShare (putRow i (k1_pay12 x0 x1 x2 x3) ts)) -∗ K ⟨⟩))
      ⊢ wp frame (wpE (defs₀ (F := F)) Variants.none c none) E (cc1__reweight_body i arg1 harg1 arg2 harg2 arg3 harg3 arg4 harg4 arg5 harg5 arg6 harg6 arg7 harg7 arg8 harg8 arg9 harg9 arg10 harg10 arg11 harg11) K := by
  simp only [cc1__reweight_body_eq_skeleton]; unfold cc1__reweight_body_skel
  simp only [k1_part2_eq_skeleton]
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%d9, %f9, -, H9⟩, ⟨%f10, %h10, H10⟩, ⟨%f11, %h11, H11⟩, Hk⟩
  obtain rfl := harg1.eq_unread h1; obtain rfl := harg2.eq_unread h2; obtain rfl := harg3.eq_unread h3; obtain rfl := harg4.eq_unread h4; obtain rfl := harg5.eq_unread h5; obtain rfl := harg6.eq_unread h6; obtain rfl := harg7.eq_unread h7; obtain rfl := harg8.eq_unread h8; obtain rfl := harg10.eq_unread h10; obtain rfl := harg11.eq_unread h11
  sl_exec (disch := first | sl_exact h1 | sl_exact h2)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; (try delta body1_A.sl.v81); (try delta body1_A.sl.v119); (try delta body1_A.sl.r_3); (try delta body1_A.sl.r_4); (try delta body1_A.sl.r); (try delta body1_A.sl.v47); (try delta body1_A.sl.v48); (try delta body1_A.sl.H10_1); (try delta body1_A.sl.H11_1); (try delta body1_A.sl.r_1); (try delta body1_A.sl.r_2); (try delta body1_A.sl.v0); (try delta body1_A.sl.v2); (try delta body1_A.sl.v4); (try delta body1_A.sl.v6); (try delta body1_A.sl.v28); (try delta body1_A.sl.v38); simp only [ra_S4096x1536, rw_S4096x1536, rc_S4096x1536, ra_S1x1x4096, rw_S1x1x4096, rc_S1x1x4096, ra_S1x1536, rw_S1x1536, rc_S1x1536, ra_S1x1, rw_S1x1, rc_S1x1, ra_S26x26, rw_S26x26, rc_S26x26, ra_S224x26, rw_S224x26, rc_S224x26, ra_S224x224, rw_S224x224, rc_S224x224, ra_S4x4096, rw_S4x4096, rc_S4x4096, rp_S4x4096, k1_off1_eq, View.writes_nil, Memref.IsWhole.read_unread]; try rfl
  isplitl [H10]
  · iexists _; isplitr; swap; · iexact H10
    ipureintro; (try delta body1_A.sl.v81); (try delta body1_A.sl.v119); (try delta body1_A.sl.r_3); (try delta body1_A.sl.r_4); (try delta body1_A.sl.r); (try delta body1_A.sl.v47); (try delta body1_A.sl.v48); (try delta body1_A.sl.H10_1); (try delta body1_A.sl.H11_1); (try delta body1_A.sl.r_1); (try delta body1_A.sl.r_2); (try delta body1_A.sl.v0); (try delta body1_A.sl.v2); (try delta body1_A.sl.v4); (try delta body1_A.sl.v6); (try delta body1_A.sl.v28); (try delta body1_A.sl.v38); simp only [ra_S4096x1536, rw_S4096x1536, rc_S4096x1536, ra_S1x1x4096, rw_S1x1x4096, rc_S1x1x4096, ra_S1x1536, rw_S1x1536, rc_S1x1536, ra_S1x1, rw_S1x1, rc_S1x1, ra_S26x26, rw_S26x26, rc_S26x26, ra_S224x26, rw_S224x26, rc_S224x26, ra_S224x224, rw_S224x224, rc_S224x224, ra_S4x4096, rw_S4x4096, rc_S4x4096, rp_S4x4096, k1_off1_eq, View.writes_nil, Memref.IsWhole.read_unread]; try rfl
  iexists _; isplitr; swap; · iexact H11
  ipureintro; (try delta body1_A.sl.v81); (try delta body1_A.sl.v119); (try delta body1_A.sl.r_3); (try delta body1_A.sl.r_4); (try delta body1_A.sl.r); (try delta body1_A.sl.v47); (try delta body1_A.sl.v48); (try delta body1_A.sl.H10_1); (try delta body1_A.sl.H11_1); (try delta body1_A.sl.r_1); (try delta body1_A.sl.r_2); (try delta body1_A.sl.v0); (try delta body1_A.sl.v2); (try delta body1_A.sl.v4); (try delta body1_A.sl.v6); (try delta body1_A.sl.v28); (try delta body1_A.sl.v38); simp only [ra_S4096x1536, rw_S4096x1536, rc_S4096x1536, ra_S1x1x4096, rw_S1x1x4096, rc_S1x1x4096, ra_S1x1536, rw_S1x1536, rc_S1x1536, ra_S1x1, rw_S1x1, rc_S1x1, ra_S26x26, rw_S26x26, rc_S26x26, ra_S224x26, rw_S224x26, rc_S224x26, ra_S224x224, rw_S224x224, rc_S224x224, ra_S4x4096, rw_S4x4096, rc_S4x4096, rp_S4x4096, k1_off1_eq, View.writes_nil, Memref.IsWhole.read_unread]; try rfl

set_option maxHeartbeats 4000000 in
/-- A middle point: the two rows are stored. -/
theorem body1_B (h1 : ¬k1_cond1 i = 1#1) (h2 : ¬k1_cond2 i = 1#1)
    (y7 : Vec F S1x1 .f32) (y8 : Vec F S224x224 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y7 ∗ owns (c : Thread nD τ) arg9 fullShare y8 ∗ owns (c : Thread nD τ) arg10 fullShare ws ∗ owns (c : Thread nD τ) arg11 fullShare ts
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare y7 ∗ owns (c : Thread nD τ) arg9 fullShare y8 ∗ owns (c : Thread nD τ) arg10 fullShare (putRow i (k1_pay11 x0 x1 x2 x3) ws) ∗ owns (c : Thread nD τ) arg11 fullShare (putRow i (k1_pay12 x0 x1 x2 x3) ts)) -∗ K ⟨⟩))
      ⊢ wp frame (wpE (defs₀ (F := F)) Variants.none c none) E (cc1__reweight_body i arg1 harg1 arg2 harg2 arg3 harg3 arg4 harg4 arg5 harg5 arg6 harg6 arg7 harg7 arg8 harg8 arg9 harg9 arg10 harg10 arg11 harg11) K := by
  simp only [cc1__reweight_body_eq_skeleton]; unfold cc1__reweight_body_skel
  simp only [k1_part2_eq_skeleton]
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, Hk⟩
  obtain rfl := harg1.eq_unread h1; obtain rfl := harg2.eq_unread h2; obtain rfl := harg3.eq_unread h3; obtain rfl := harg4.eq_unread h4; obtain rfl := harg5.eq_unread h5; obtain rfl := harg6.eq_unread h6; obtain rfl := harg7.eq_unread h7; obtain rfl := harg8.eq_unread h8; obtain rfl := harg9.eq_unread h9; obtain rfl := harg10.eq_unread h10; obtain rfl := harg11.eq_unread h11
  sl_exec (disch := first | sl_exact h1 | sl_exact h2)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; (try delta body1_B.sl.v81); (try delta body1_B.sl.v119); (try delta body1_B.sl.r_3); (try delta body1_B.sl.r_4); (try delta body1_B.sl.r); (try delta body1_B.sl.v47); (try delta body1_B.sl.v48); (try delta body1_B.sl.H10_1); (try delta body1_B.sl.H11_1); (try delta body1_B.sl.r_1); (try delta body1_B.sl.r_2); (try delta body1_B.sl.v0); (try delta body1_B.sl.v2); (try delta body1_B.sl.v4); (try delta body1_B.sl.v6); (try delta body1_B.sl.v28); (try delta body1_B.sl.v38); simp only [ra_S4096x1536, rw_S4096x1536, rc_S4096x1536, ra_S1x1x4096, rw_S1x1x4096, rc_S1x1x4096, ra_S1x1536, rw_S1x1536, rc_S1x1536, ra_S1x1, rw_S1x1, rc_S1x1, ra_S26x26, rw_S26x26, rc_S26x26, ra_S224x26, rw_S224x26, rc_S224x26, ra_S224x224, rw_S224x224, rc_S224x224, ra_S4x4096, rw_S4x4096, rc_S4x4096, rp_S4x4096, k1_off1_eq, View.writes_nil, Memref.IsWhole.read_unread]; try rfl
  iexists _; isplitr; swap; · iexact H11
  ipureintro; (try delta body1_B.sl.v81); (try delta body1_B.sl.v119); (try delta body1_B.sl.r_3); (try delta body1_B.sl.r_4); (try delta body1_B.sl.r); (try delta body1_B.sl.v47); (try delta body1_B.sl.v48); (try delta body1_B.sl.H10_1); (try delta body1_B.sl.H11_1); (try delta body1_B.sl.r_1); (try delta body1_B.sl.r_2); (try delta body1_B.sl.v0); (try delta body1_B.sl.v2); (try delta body1_B.sl.v4); (try delta body1_B.sl.v6); (try delta body1_B.sl.v28); (try delta body1_B.sl.v38); simp only [ra_S4096x1536, rw_S4096x1536, rc_S4096x1536, ra_S1x1x4096, rw_S1x1x4096, rc_S1x1x4096, ra_S1x1536, rw_S1x1536, rc_S1x1536, ra_S1x1, rw_S1x1, rc_S1x1, ra_S26x26, rw_S26x26, rc_S26x26, ra_S224x26, rw_S224x26, rc_S224x26, ra_S224x224, rw_S224x224, rc_S224x224, ra_S4x4096, rw_S4x4096, rc_S4x4096, rp_S4x4096, k1_off1_eq, View.writes_nil, Memref.IsWhole.read_unread]; try rfl

set_option maxHeartbeats 4000000 in
/-- The last point: the two rows are stored and the score is computed from all of them. -/
theorem body1_C (h1 : ¬k1_cond1 i = 1#1) (h2 : k1_cond2 i = 1#1)
    (y8 : Vec F S224x224 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare y8 ∗ owns (c : Thread nD τ) arg10 fullShare ws ∗ owns (c : Thread nD τ) arg11 fullShare ts
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (score1 (putRow i (k1_pay11 x0 x1 x2 x3) ws) (putRow i (k1_pay12 x0 x1 x2 x3) ts) x4) ∗ owns (c : Thread nD τ) arg9 fullShare y8 ∗ owns (c : Thread nD τ) arg10 fullShare (putRow i (k1_pay11 x0 x1 x2 x3) ws) ∗ owns (c : Thread nD τ) arg11 fullShare (putRow i (k1_pay12 x0 x1 x2 x3) ts)) -∗ K ⟨⟩))
      ⊢ wp frame (wpE (defs₀ (F := F)) Variants.none c none) E (cc1__reweight_body i arg1 harg1 arg2 harg2 arg3 harg3 arg4 harg4 arg5 harg5 arg6 harg6 arg7 harg7 arg8 harg8 arg9 harg9 arg10 harg10 arg11 harg11) K := by
  simp only [cc1__reweight_body_eq_skeleton]; unfold cc1__reweight_body_skel
  simp only [k1_part2_eq_skeleton, k1_part1_eq_skeleton]
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%d8, %f8, -, H8⟩, ⟨%f9, %h9, H9⟩, ⟨%f10, %h10, H10⟩, ⟨%f11, %h11, H11⟩, Hk⟩
  obtain rfl := harg1.eq_unread h1; obtain rfl := harg2.eq_unread h2; obtain rfl := harg3.eq_unread h3; obtain rfl := harg4.eq_unread h4; obtain rfl := harg5.eq_unread h5; obtain rfl := harg6.eq_unread h6; obtain rfl := harg7.eq_unread h7; obtain rfl := harg9.eq_unread h9; obtain rfl := harg10.eq_unread h10; obtain rfl := harg11.eq_unread h11
  sl_exec (disch := first | sl_exact h1 | sl_exact h2)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; (try delta body1_C.sl.v81); (try delta body1_C.sl.v119); (try delta body1_C.sl.r_3); (try delta body1_C.sl.r_4); (try delta body1_C.sl.r); (try delta body1_C.sl.v47); (try delta body1_C.sl.v48); (try delta body1_C.sl.H10_1); (try delta body1_C.sl.H11_1); (try delta body1_C.sl.r_1); (try delta body1_C.sl.r_2); (try delta body1_C.sl.v0); (try delta body1_C.sl.v2); (try delta body1_C.sl.v4); (try delta body1_C.sl.v6); (try delta body1_C.sl.v28); (try delta body1_C.sl.v38); simp only [ra_S4096x1536, rw_S4096x1536, rc_S4096x1536, ra_S1x1x4096, rw_S1x1x4096, rc_S1x1x4096, ra_S1x1536, rw_S1x1536, rc_S1x1536, ra_S1x1, rw_S1x1, rc_S1x1, ra_S26x26, rw_S26x26, rc_S26x26, ra_S224x26, rw_S224x26, rc_S224x26, ra_S224x224, rw_S224x224, rc_S224x224, ra_S4x4096, rw_S4x4096, rc_S4x4096, rp_S4x4096, k1_off1_eq, View.writes_nil, Memref.IsWhole.read_unread]; try rfl
  isplitl [H9]
  · iexists _; isplitr; swap; · iexact H9
    ipureintro; exact harg9.read_unread _
  isplitl [H10]
  · iexists _; isplitr; swap; · iexact H10
    ipureintro; (try delta body1_C.sl.v81); (try delta body1_C.sl.v119); (try delta body1_C.sl.r_3); (try delta body1_C.sl.r_4); (try delta body1_C.sl.r); (try delta body1_C.sl.v47); (try delta body1_C.sl.v48); (try delta body1_C.sl.H10_1); (try delta body1_C.sl.H11_1); (try delta body1_C.sl.r_1); (try delta body1_C.sl.r_2); (try delta body1_C.sl.v0); (try delta body1_C.sl.v2); (try delta body1_C.sl.v4); (try delta body1_C.sl.v6); (try delta body1_C.sl.v28); (try delta body1_C.sl.v38); simp only [ra_S4096x1536, rw_S4096x1536, rc_S4096x1536, ra_S1x1x4096, rw_S1x1x4096, rc_S1x1x4096, ra_S1x1536, rw_S1x1536, rc_S1x1536, ra_S1x1, rw_S1x1, rc_S1x1, ra_S26x26, rw_S26x26, rc_S26x26, ra_S224x26, rw_S224x26, rc_S224x26, ra_S224x224, rw_S224x224, rc_S224x224, ra_S4x4096, rw_S4x4096, rc_S4x4096, rp_S4x4096, k1_off1_eq, View.writes_nil, Memref.IsWhole.read_unread]; try rfl
  iexists _; isplitr; swap; · iexact H11
  ipureintro; (try delta body1_C.sl.v81); (try delta body1_C.sl.v119); (try delta body1_C.sl.r_3); (try delta body1_C.sl.r_4); (try delta body1_C.sl.r); (try delta body1_C.sl.v47); (try delta body1_C.sl.v48); (try delta body1_C.sl.H10_1); (try delta body1_C.sl.H11_1); (try delta body1_C.sl.r_1); (try delta body1_C.sl.r_2); (try delta body1_C.sl.v0); (try delta body1_C.sl.v2); (try delta body1_C.sl.v4); (try delta body1_C.sl.v6); (try delta body1_C.sl.v28); (try delta body1_C.sl.v38); simp only [ra_S4096x1536, rw_S4096x1536, rc_S4096x1536, ra_S1x1x4096, rw_S1x1x4096, rc_S1x1x4096, ra_S1x1536, rw_S1x1536, rc_S1x1536, ra_S1x1, rw_S1x1, rc_S1x1, ra_S26x26, rw_S26x26, rc_S26x26, ra_S224x26, rw_S224x26, rc_S224x26, ra_S224x224, rw_S224x224, rc_S224x224, ra_S4x4096, rw_S4x4096, rc_S4x4096, rp_S4x4096, k1_off1_eq, View.writes_nil, Memref.IsWhole.read_unread]; try rfl
end

end Cert.KernelIdeal.Hand

end
-- ==== Proof.Region1.lean ====
module

public import proofs.«01_k».proof.Proof.Body1
public import Idealize.ShloMosaic.Lib.ValueIdxCore

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)
open Idealize.ShloMosaic.Pipeline (Dat Cfg Window BodyObligation cellOf)

variable {F : FTy → Type} [FloatOps F] [Named F]

local notation "𝕄" => MT nD τ sig Unit (Elt F) ℕ (UR sig nD τ) ℕ

/-! ## The second call's conditions and idle points, by the point's number -/

theorem hc1_1 (t : Fin cfg1.N) : k1_cond1 (grid1.coords t) = 1#1 ↔ t.val = 0 :=
  (by decide +kernel : ∀ t : Fin grid1.N, k1_cond1 (grid1.coords t) = 1#1 ↔ t.val = 0) t
theorem hc1_2 (t : Fin cfg1.N) : k1_cond2 (grid1.coords t) = 1#1 ↔ t.val = 3 :=
  (by decide +kernel : ∀ t : Fin grid1.N, k1_cond2 (grid1.coords t) = 1#1 ↔ t.val = 3) t
theorem coord1 (t : Fin cfg1.N) : ((grid1.coords t) 0).val = t.val :=
  (by decide +kernel : ∀ t : Fin grid1.N, ((grid1.coords t) 0).val = t.val) t
theorem N1_lt (t : Fin cfg1.N) : t.val < 4 := Nat.lt_of_lt_of_eq t.isLt N_1
theorem idle1_7 (t : Fin cfg1.N) (ht : t.val ≠ 3) : cfg1.idle 7 (grid1.coords t) = true :=
  (by decide +kernel : ∀ t : Fin cfg1.N, t.val ≠ 3 → cfg1.idle 7 (grid1.coords t) = true) t ht
theorem live1_7 (t : Fin cfg1.N) (ht : t.val = 3) : cfg1.idle 7 (grid1.coords t) = false :=
  (by decide +kernel : ∀ t : Fin cfg1.N, t.val = 3 → cfg1.idle 7 (grid1.coords t) = false) t ht
theorem noFlush1_7 (t : Fin cfg1.N) (ht : t.val ≠ 3) : (cfg1.win 7).flush t = false :=
  (by decide +kernel : ∀ t : Fin cfg1.N, t.val ≠ 3 → (cfg1.win 7).flush t = false) t ht
theorem idle1_8 (t : Fin cfg1.N) (ht : t.val ≠ 0) : cfg1.idle 8 (grid1.coords t) = true :=
  (by decide +kernel : ∀ t : Fin cfg1.N, t.val ≠ 0 → cfg1.idle 8 (grid1.coords t) = true) t ht
theorem live1_8 (t : Fin cfg1.N) (ht : t.val = 0) : cfg1.idle 8 (grid1.coords t) = false :=
  (by decide +kernel : ∀ t : Fin cfg1.N, t.val = 0 → cfg1.idle 8 (grid1.coords t) = false) t ht
theorem noFlush1_8 (t : Fin cfg1.N) (ht : t.val ≠ 3) : (cfg1.win 8).flush t = false :=
  (by decide +kernel : ∀ t : Fin cfg1.N, t.val ≠ 3 → (cfg1.win 8).flush t = false) t ht
theorem doFlush1_8 (t : Fin cfg1.N) (ht : t.val = 3) : (cfg1.win 8).flush t = true :=
  (by decide +kernel : ∀ t : Fin cfg1.N, t.val = 3 → (cfg1.win 8).flush t = true) t ht
/-- The buffer of output 8 is fresh before the first point only: the first point stores into it and only the last writes it back. -/
def freshTab1_8 : ℕ → Bool
  | 0 => true
  | n + 1 => (0x8 : ℕ).testBit n
theorem freshTab1_8_step : ∀ t : Fin cfg1.N,
    freshTab1_8 (t.val + 1) = ((cfg1.win 8).flush t || (cfg1.idle 8 (cfg1.grid.coords t) && freshTab1_8 t.val)) := by decide +kernel
theorem notFresh1_8 (t : Fin cfg1.N) (ht : t.val ≠ 0) : cfg1.fresh 8 t.val = false := by
  rw [Pipeline.Cfg.fresh_tab cfg1 8 freshTab1_8 rfl freshTab1_8_step t.val (Nat.le_of_lt t.isLt)]
  revert ht; revert t; decide +kernel

/-! ## What the second call computes, from the contents `V` its arrays are entered with -/

/-- The grid point numbered `n`. -/
def pt1 (n : ℕ) : Fin cfg1.N := ⟨n % 4, by have := Nat.mod_lt n (show 0 < 4 by decide); exact Nat.lt_of_lt_of_eq this N_1.symm⟩
theorem pt1_val (t : Fin cfg1.N) : pt1 t.val = t := Fin.ext (Nat.mod_eq_of_lt (N1_lt t))

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
/-- The library rows of block `n`. -/
def libb1 (c : Dev nD) (n : ℕ) : Vec F S4096x1536 .bf16 := iblk1 V c 0 (pt1 n)
/-- Their squared norms. -/
def bsq1 (c : Dev nD) (n : ℕ) : Vec F S1x1x4096 .f32 := iblk1 V c 1 (pt1 n)
/-- The nearest library row of the farthest patch. -/
def mstar1 (c : Dev nD) : Vec F S1x1536 .f32 := iblk1 V c 2 t1_0
/-- The farthest patch's row. -/
def mtest1 (c : Dev nD) : Vec F S1x1536 .f32 := iblk1 V c 3 t1_0
/-- The farthest patch's distance. -/
def sstar1 (c : Dev nD) : Vec F S1x1 .f32 := iblk1 V c 4 t1_0
/-- The distances of the patches, as a square map. -/
def m26 (c : Dev nD) : Vec F S26x26 .f32 := iblk1 V c 5 t1_0
/-- The resize-and-blur operator. -/
def aop1 (c : Dev nD) : Vec F S224x26 .f32 := iblk1 V c 6 t1_0
/-- The squared distances of block `n`'s library rows to the nearest row. -/
def rowW (c : Dev nD) (n : ℕ) : Vec F S1x4096 .f32 := k1_pay11 (libb1 V c n) (bsq1 V c n) (mstar1 V c) (mtest1 V c)
/-- The squared distances of block `n`'s library rows to the farthest patch. -/
def rowT (c : Dev nD) (n : ℕ) : Vec F S1x4096 .f32 := k1_pay12 (libb1 V c n) (bsq1 V c n) (mstar1 V c) (mtest1 V c)
/-- All the squared distances to the nearest row, block by block. -/
def wdFull (c : Dev nD) : Vec F S4x4096 .f32 := fun y => rowW V c (y 0).val (ix2 ⟨0, Nat.one_pos⟩ (y 1))
/-- All the squared distances to the farthest patch, block by block. -/
def tdFull (c : Dev nD) : Vec F S4x4096 .f32 := fun y => rowT V c (y 0).val (ix2 ⟨0, Nat.one_pos⟩ (y 1))
/-- The score the call leaves. -/
def score (c : Dev nD) : Vec F S1x1 .f32 := score1 (wdFull V c) (tdFull V c) (sstar1 V c)
/-- The score map the call leaves. -/
def smap (c : Dev nD) : Vec F S224x224 .f32 := k1_pay1 (aop1 V c) (m26 V c)

/-- `x`'s first `n` rows are `full`'s. -/
def RowsTo (n : ℕ) (x full : Vec F S4x4096 .f32) : Prop := ∀ y : S4x4096.Idx, (y 0).val < n → x y = full y
theorem RowsTo.zero (x full : Vec F S4x4096 .f32) : RowsTo 0 x full := fun _ h => absurd h (Nat.not_lt_zero _)
theorem RowsTo.all {x full : Vec F S4x4096 .f32} (h : RowsTo 4 x full) : x = full := funext fun y => h y (y 0).isLt
/-- Putting row `n` where the first `n` agree makes the first `n + 1` agree. -/
theorem RowsTo.put {n : ℕ} {x full : Vec F S4x4096 .f32} (h : RowsTo n x full) (i : grid1.Coords) (hi : (i 0).val = n) (w : Vec F S1x4096 .f32)
    (hw : ∀ y : S4x4096.Idx, (y 0).val = n → full y = w (ix2 ⟨0, Nat.one_pos⟩ (y 1))) : RowsTo (n + 1) (putRow i w x) full := by
  intro y hy
  unfold putRow VecWindow.put
  by_cases hn : (y 0).val = n
  · have hin : ∀ a : Fin S4x4096.rank, (![(i 0).val, 0] : Fin 2 → ℕ) a ≤ (y a).val ∧ (y a).val < (![(i 0).val, 0] : Fin 2 → ℕ) a + (![1, 4096] : Fin 2 → ℕ) a := by
      intro a
      match a with
      | ⟨0, _⟩ => exact ⟨by show (i 0).val ≤ (y 0).val; omega, by show (y 0).val < (i 0).val + 1; omega⟩
      | ⟨1, _⟩ => exact ⟨Nat.zero_le _, by show (y 1).val < 0 + 4096; have := (y 1).isLt; have e : S4x4096.size 1 = 4096 := rfl; omega⟩
    refine (dif_pos hin).trans ?_
    rw [hw y hn]
    refine congrArg w (funext fun a => Fin.ext ?_)
    match a with
    | ⟨0, _⟩ => show (y 0).val - (i 0).val = 0; omega
    | ⟨1, _⟩ => show (y 1).val - 0 = (y 1).val; omega
  · refine (dif_neg fun hin => ?_).trans (h y (by omega))
    have h0 : (i 0).val ≤ (y 0).val := (hin 0).1
    omega

/-- The scratch operands. -/
abbrev scW : Memref sig .tc .vmem S4x4096 .f32 := Memref.whole cc1_scratch0
abbrev scT : Memref sig .tc .vmem S4x4096 .f32 := Memref.whole cc1_scratch1
/-- The scoped buffers that the second call neither stages nor uses, each at some contents. -/
def rest1 (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_scratch0), ((c : Thread nD τ).loc cc0_scratch0) ↦{fullShare} f))
theorem scopedRest1_split (c : Dev nD) :
    (Pipeline.scopedRest spec1 c : sProp 𝕄) ⊢ iprop((∃ d, owns (c : Thread nD τ) scW fullShare d) ∗ (∃ d, owns (c : Thread nD τ) scT fullShare d) ∗ rest1 c) := by
  rw [scopedRest1_eq]; unfold rest1; simp only [scW, scT, owns_whole]
  iintro ⟨R0, R1, R2, R3, R4, R5, R6, R7, R8, R9, R10, R11, R12, R13, HW, HT⟩
  isplitl [HW]; · iexact HW
  isplitl [HT]; · iexact HT
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  iexact R13
theorem scopedRest1_join (c : Dev nD) :
    iprop((∃ d, owns (c : Thread nD τ) scW fullShare d) ∗ (∃ d, owns (c : Thread nD τ) scT fullShare d) ∗ rest1 c) ⊢ (Pipeline.scopedRest spec1 c : sProp 𝕄) := by
  rw [scopedRest1_eq]; unfold rest1; simp only [scW, scT, owns_whole]
  iintro ⟨HW, HT, R0, R1, R2, R3, R4, R5, R6, R7, R8, R9, R10, R11, R12, R13⟩
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [HW]; · iexact HW
  iexact HT
/-- The invariant: before point `n` the two scratch buffers hold the first `n` rows. -/
def Phi1 (c : Dev nD) (n : ℕ) : sProp 𝕄 :=
  iprop(∃ ws, ∃ ts, ⌜RowsTo n ws (wdFull V c) ∧ RowsTo n ts (tdFull V c)⌝ ∗ owns (c : Thread nD τ) scW fullShare ws ∗ owns (c : Thread nD τ) scT fullShare ts ∗ rest1 c ∗ ∃ r, prngReg c r)

/-- The proof data of the second call on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => score V c
    | ⟨8, _⟩ => smap V c
  Φ t := Phi1 V c t.val
  q _ := fullShare
  owed _ := 0

theorem A1_eq (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = score V c := by dsimp only [dat1]
theorem after1_8 (c : Dev nD) (t : Fin cfg1.N) : (dat1 V c).after 8 t = smap V c := by dsimp only [dat1]
theorem iblk1_0 (c : Dev nD) (t : Fin cfg1.N) : iblk1 V c 0 t = libb1 V c t.val := by unfold libb1; rw [pt1_val]
theorem iblk1_1 (c : Dev nD) (t : Fin cfg1.N) : iblk1 V c 1 t = bsq1 V c t.val := by unfold bsq1; rw [pt1_val]
theorem iblk1_2 (c : Dev nD) (t : Fin cfg1.N) : iblk1 V c 2 t = mstar1 V c := rfl
theorem iblk1_3 (c : Dev nD) (t : Fin cfg1.N) : iblk1 V c 3 t = mtest1 V c := rfl
theorem iblk1_4 (c : Dev nD) (t : Fin cfg1.N) : iblk1 V c 4 t = sstar1 V c := rfl
theorem iblk1_5 (c : Dev nD) (t : Fin cfg1.N) : iblk1 V c 5 t = m26 V c := rfl
theorem iblk1_6 (c : Dev nD) (t : Fin cfg1.N) : iblk1 V c 6 t = aop1 V c := rfl
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A1_eq]; try rfl) t d).trans
    (by unfold Dat.fetched Dat.blockOf iblk1; rw [A1_eq]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A1_eq]; try rfl) t d).trans
    (by unfold Dat.fetched Dat.blockOf iblk1; rw [A1_eq]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A1_eq]; try rfl) t d).trans
    (by unfold Dat.fetched Dat.blockOf iblk1; rw [A1_eq]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A1_eq]; try rfl) t d).trans
    (by unfold Dat.fetched Dat.blockOf iblk1; rw [A1_eq]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A1_eq]; try rfl) t d).trans
    (by unfold Dat.fetched Dat.blockOf iblk1; rw [A1_eq]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A1_eq]; try rfl) t d).trans
    (by unfold Dat.fetched Dat.blockOf iblk1; rw [A1_eq]; try rfl)
theorem before1_8 (c : Dev nD) (t : Fin cfg1.N) (ht : t.val ≠ 0) (d) : (dat1 V c).before 8 t d = smap V c := by
  rw [Dat.before_out_traj _ 8 rfl (fun _ _ => rfl) (fun t _ _ _ => by rw [after1_8, after1_8]) t.val t rfl d,
    if_neg (by rw [notFresh1_8 t ht]; exact Bool.false_ne_true), after1_8]

/-! ## The body's obligation at each point -/

/-- What the body is called with at point `t`, window by window. -/
def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d))
    ∗ (∃ d, owns (c : Thread nD τ) (win1_4.stage (cfg1.slots t 4)) fullShare ((dat1 V c).before 4 t d))
    ∗ (∃ d, owns (c : Thread nD τ) (win1_5.stage (cfg1.slots t 5)) fullShare ((dat1 V c).before 5 t d))
    ∗ (∃ d, owns (c : Thread nD τ) (win1_6.stage (cfg1.slots t 6)) fullShare ((dat1 V c).before 6 t d))
    ∗ (∃ d, owns (c : Thread nD τ) (win1_7.stage (cfg1.slots t 7)) fullShare ((dat1 V c).before 7 t d))
    ∗ (∃ d, owns (c : Thread nD τ) (win1_8.stage (cfg1.slots t 8)) fullShare ((dat1 V c).before 8 t d)))
/-- What it returns. -/
def bodyPost1 (c : Dev nD) (t : Fin cfg1.N) : sProp 𝕄 :=
  iprop((dat1 V c).Φ t.succ ∗ (dat1 V c).owesAt () t.succ ∗ (dat1 V c).leavesExact 0 t ∗ (dat1 V c).leavesExact 1 t ∗ (dat1 V c).leavesExact 2 t ∗ (dat1 V c).leavesExact 3 t ∗ (dat1 V c).leavesExact 4 t ∗ (dat1 V c).leavesExact 5 t ∗ (dat1 V c).leavesExact 6 t ∗ (dat1 V c).leavesExact 7 t ∗ (dat1 V c).leavesExact 8 t)

theorem leaves1_live (c : Dev nD) (w : Fin cfg1.W) (t : Fin cfg1.N) (h : cfg1.idle w (grid1.coords t) = false) :
    (dat1 V c).leavesExact w t = owns (c : Thread nD τ) ((cfg1.win w).stage (cfg1.slots t w)) fullShare ((dat1 V c).after w t) := by
  unfold Dat.leavesExact; rw [h]
theorem leaves1_flush (c : Dev nD) (w : Fin cfg1.W) (t : Fin cfg1.N) (h : cfg1.idle w (grid1.coords t) = true) (hf : (cfg1.win w).flush t = true) :
    (dat1 V c).leavesExact w t = owns (c : Thread nD τ) ((cfg1.win w).stage (cfg1.slots t w)) fullShare ((dat1 V c).after w t) := by
  unfold Dat.leavesExact; rw [h, hf]
theorem wdStep (c : Dev nD) (t : Fin cfg1.N) {ws : Vec F S4x4096 .f32} (h : RowsTo t.val ws (wdFull V c)) :
    RowsTo (t.val + 1) (putRow (grid1.coords t) (k1_pay11 (libb1 V c t.val) (bsq1 V c t.val) (mstar1 V c) (mtest1 V c)) ws) (wdFull V c) :=
  h.put _ (coord1 t) _ fun y hy => by unfold wdFull; rw [hy]; rfl
theorem tdStep (c : Dev nD) (t : Fin cfg1.N) {ts : Vec F S4x4096 .f32} (h : RowsTo t.val ts (tdFull V c)) :
    RowsTo (t.val + 1) (putRow (grid1.coords t) (k1_pay12 (libb1 V c t.val) (bsq1 V c t.val) (mstar1 V c) (mtest1 V c)) ts) (tdFull V c) :=
  h.put _ (coord1 t) _ fun y hy => by unfold tdFull; rw [hy]; rfl

set_option maxHeartbeats 4000000 in
theorem sound1_A (c : Dev nD) (t : Fin cfg1.N) (hz : t.val = 0) :
    bodyPre1 V c t ⊢ wp frame (wpE (defs₀ (F := F)) Variants.none c none) Set.univ (bodyAt1 t) (fun _ => bodyPost1 V c t) := by
  unfold bodyPre1 bodyPost1 bodyAt1
  have hl : t.val ≠ 3 := by omega
  simp only [before1_0, before1_1, before1_2, before1_3, before1_4, before1_5, before1_6, iblk1_0, iblk1_1, iblk1_2, iblk1_3, iblk1_4, iblk1_5, iblk1_6]
  rw [show (dat1 V c).owesAt () t.succ = (dat1 V c).owesAt () t.castSucc from rfl,
    show (dat1 V c).Φ t.succ = Phi1 V c (t.val + 1) from rfl,
    show (dat1 V c).Φ t.castSucc = Phi1 V c t.val from rfl]
  rw [leaves1_live V c 0 t rfl, after1_0]
  rw [leaves1_live V c 1 t rfl, after1_1]
  rw [leaves1_live V c 2 t rfl, after1_2]
  rw [leaves1_live V c 3 t rfl, after1_3]
  rw [leaves1_live V c 4 t rfl, after1_4]
  rw [leaves1_live V c 5 t rfl, after1_5]
  rw [leaves1_live V c 6 t rfl, after1_6]
  rw [Dat.leavesExact_idle (dat1 V c) 7 t (idle1_7 t hl) (noFlush1_7 t hl)]
  rw [leaves1_live V c 8 t (live1_8 t hz), after1_8]
  simp only [iblk1_0, iblk1_1, iblk1_2, iblk1_3, iblk1_4, iblk1_5, iblk1_6]
  unfold Phi1
  iintro ⟨⟨%ws, %ts, %hr, HW, HT, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body1_A c (grid1.coords t) _ _ _ _ _ _ _ _ _ _ _ _ _ _ _ _ _ _ _ _ _ _ _ _ _ _ _ _ _ ws ts ((hc1_1 _).mpr hz) (fun h => hl ((hc1_2 _).mp h)) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HW]; · iexact HW
  isplitl [HT]; · iexact HT
  iintro ⟨H0, H1, H2, H3, H4, H5, H6, H7, H8, HW, HT⟩
  isplitl [HW HT Hr Hg]
  · iexists _; iexists _; isplitr; swap
    · isplitl [HW]; · iexact HW
      isplitl [HT]; · iexact HT
      isplitl [Hr]; · iexact Hr
      iexact Hg
    ipureintro; exact ⟨wdStep V c t hr.1, tdStep V c t hr.2⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iexact H8

set_option maxHeartbeats 4000000 in
theorem sound1_B (c : Dev nD) (t : Fin cfg1.N) (hz : t.val ≠ 0) (hl : t.val ≠ 3) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, iblk1_0, iblk1_1, iblk1_2, iblk1_3, iblk1_4, iblk1_5, iblk1_6]
  rw [show (dat1 V c).owesAt () t.succ = (dat1 V c).owesAt () t.castSucc from rfl,
    show (dat1 V c).Φ t.succ = Phi1 V c (t.val + 1) from rfl,
    show (dat1 V c).Φ t.castSucc = Phi1 V c t.val from rfl]
  rw [leaves1_live V c 0 t rfl, after1_0]
  rw [leaves1_live V c 1 t rfl, after1_1]
  rw [leaves1_live V c 2 t rfl, after1_2]
  rw [leaves1_live V c 3 t rfl, after1_3]
  rw [leaves1_live V c 4 t rfl, after1_4]
  rw [leaves1_live V c 5 t rfl, after1_5]
  rw [leaves1_live V c 6 t rfl, after1_6]
  rw [Dat.leavesExact_idle (dat1 V c) 7 t (idle1_7 t hl) (noFlush1_7 t hl)]
  rw [Dat.leavesExact_idle (dat1 V c) 8 t (idle1_8 t hz) (noFlush1_8 t hl)]
  simp only [iblk1_0, iblk1_1, iblk1_2, iblk1_3, iblk1_4, iblk1_5, iblk1_6]
  unfold Phi1
  iintro ⟨⟨%ws, %ts, %hr, HW, HT, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body1_B c (grid1.coords t) _ _ _ _ _ _ _ _ _ _ _ _ _ _ _ _ _ _ _ _ _ _ _ _ _ _ _ _ _ ws ts (fun h => hz ((hc1_1 _).mp h)) (fun h => hl ((hc1_2 _).mp h)) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HW]; · iexact HW
  isplitl [HT]; · iexact HT
  iintro ⟨H0, H1, H2, H3, H4, H5, H6, H7, H8, HW, HT⟩
  isplitl [HW HT Hr Hg]
  · iexists _; iexists _; isplitr; swap
    · isplitl [HW]; · iexact HW
      isplitl [HT]; · iexact HT
      isplitl [Hr]; · iexact Hr
      iexact Hg
    ipureintro; exact ⟨wdStep V c t hr.1, tdStep V c t hr.2⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iexists _; iexact H8

set_option maxHeartbeats 4000000 in
theorem sound1_C (c : Dev nD) (t : Fin cfg1.N) (hl : t.val = 3) :
    bodyPre1 V c t ⊢ wp frame (wpE (defs₀ (F := F)) Variants.none c none) Set.univ (bodyAt1 t) (fun _ => bodyPost1 V c t) := by
  unfold bodyPre1 bodyPost1 bodyAt1
  have hz : t.val ≠ 0 := by omega
  simp only [before1_0, before1_1, before1_2, before1_3, before1_4, before1_5, before1_6, iblk1_0, iblk1_1, iblk1_2, iblk1_3, iblk1_4, iblk1_5, iblk1_6, before1_8 V c t hz]
  rw [show (dat1 V c).owesAt () t.succ = (dat1 V c).owesAt () t.castSucc from rfl,
    show (dat1 V c).Φ t.succ = Phi1 V c (t.val + 1) from rfl,
    show (dat1 V c).Φ t.castSucc = Phi1 V c t.val from rfl]
  rw [leaves1_live V c 0 t rfl, after1_0]
  rw [leaves1_live V c 1 t rfl, after1_1]
  rw [leaves1_live V c 2 t rfl, after1_2]
  rw [leaves1_live V c 3 t rfl, after1_3]
  rw [leaves1_live V c 4 t rfl, after1_4]
  rw [leaves1_live V c 5 t rfl, after1_5]
  rw [leaves1_live V c 6 t rfl, after1_6]
  rw [leaves1_live V c 7 t (live1_7 t hl), after1_7, leaves1_flush V c 8 t (idle1_8 t hz) (doFlush1_8 t hl), after1_8]
  simp only [iblk1_0, iblk1_1, iblk1_2, iblk1_3, iblk1_4, iblk1_5, iblk1_6]
  unfold Phi1
  iintro ⟨⟨%ws, %ts, %hr, HW, HT, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hW := (show RowsTo 4 _ (wdFull V c) by have := wdStep V c t hr.1; rwa [hl] at this).all
  have hT := (show RowsTo 4 _ (tdFull V c) by have := tdStep V c t hr.2; rwa [hl] at this).all
  iapply (body1_C c (grid1.coords t) _ _ _ _ _ _ _ _ _ _ _ _ _ _ _ _ _ _ _ _ _ _ _ _ _ _ _ _ _ ws ts (fun h => hz ((hc1_1 _).mp h)) ((hc1_2 _).mpr hl) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [HW]; · iexact HW
  isplitl [HT]; · iexact HT
  iintro ⟨H0, H1, H2, H3, H4, H5, H6, H7, H8, HW, HT⟩
  isplitl [HW HT Hr Hg]
  · iexists _; iexists _; isplitr; swap
    · isplitl [HW]; · iexact HW
      isplitl [HT]; · iexact HT
      isplitl [Hr]; · iexact Hr
      iexact Hg
    ipureintro; exact ⟨wdStep V c t hr.1, tdStep V c t hr.2⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold score; rw [← hW, ← hT, hl]; iexact H7
  iexact H8

theorem sound1 (c : Dev nD) (t : Fin cfg1.N) :
    bodyPre1 V c t ⊢ wp frame (wpE (defs₀ (F := F)) Variants.none c none) Set.univ (bodyAt1 t) (fun _ => bodyPost1 V c t) := by
  by_cases hz : t.val = 0
  · exact sound1_A V c t hz
  · by_cases hl : t.val = 3
    · exact sound1_C V c t hl
    · exact sound1_B V c t hz hl

theorem defs₀_row1 (t : Fin cfg1.N) :
    defs₀ (F := F) .tc cfg1.body (cfg1.bodyArgs t (cfg1.slots t)) = bodyAt1 t := by
  unfold defs₀; rw [Defs.onTc_tc]

/-- The second call's body meets its obligation at every point. -/
theorem body_obligation1 (c : Dev nD) : BodyObligation (dat1 V c) (defs₀ (F := F)) Variants.none () Set.univ := fun t => by
  rw [bigSep_W1, bigSep_W1, defs₀_row1]
  exact triple_restated (sound1 V c t) rfl .rfl fun _ => .rfl

/-- The scoped buffers and the generator register are the invariant before the first point. -/
theorem hin1 (c : Dev nD) : iprop(Pipeline.scopedRest spec1 c ∗ ∃ r, prngReg c r) ⊢ (dat1 V c).Φ 0 := by
  rw [show (dat1 V c).Φ 0 = Phi1 V c 0 from rfl]
  unfold Phi1
  iintro ⟨H, Hg⟩
  ihave H' := (scopedRest1_split c) $$ H
  icases H' with ⟨⟨%ws, HW⟩, ⟨%ts, HT⟩, Hr⟩
  iexists ws; iexists ts; isplitr; swap
  · isplitl [HW]; · iexact HW
    isplitl [HT]; · iexact HT
    isplitl [Hr]; · iexact Hr
    iexact Hg
  ipureintro; exact ⟨RowsTo.zero _ _, RowsTo.zero _ _⟩
/-- The invariant after the last point gives them back. -/
theorem hout1 (c : Dev nD) : (dat1 V c).Φ (Fin.last cfg1.N) ⊢ iprop(Pipeline.scopedRest spec1 c ∗ ∃ r, prngReg c r) := by
  rw [show (dat1 V c).Φ (Fin.last cfg1.N) = Phi1 V c cfg1.N from rfl]
  unfold Phi1
  iintro ⟨%ws, %ts, -, HW, HT, Hr, Hg⟩
  isplitl [HW HT Hr]
  · iapply (scopedRest1_join c)
    isplitl [HW]; · iexists _; iexact HW
    isplitl [HT]; · iexists _; iexact HT
    iexact Hr
  iexact Hg

end Cert.KernelIdeal.Hand

end
-- ==== Proof.RunAll.lean ====
module

public import proofs.«01_k».proof.Proof.Region0
public import proofs.«01_k».proof.Proof.Region1
public import Idealize.ShloMosaic.Lib.Pipeline.RegionArraysS
public import Idealize.ShloMosaic.Lib.Pipeline.FrameTail

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg HostSeg RegionSeg Dat Cfg Window BodyObligation cellOf)

variable {F : FTy → Type} [FloatOps F] [Named F]

local notation "𝕄" => MT nD τ sig Unit (Elt F) ℕ (UR sig nD τ) ℕ

/-! ## The buffers' contents between the program's four items -/

variable (m : (ℓ : Loc nD τ sig) → Buf (Elt F) ℓ)

/-- Core `c`'s buffers at launch. -/
def U0 (c : Dev nD) : Valuation τ sig (Elt F) := fun b => m (c, b)
/-- The proof data of the first call, from the launch contents. -/
abbrev d0 (c : Dev nD) := dat0 (F := F) (fun c b => U0 m c (Proc.devRef .tc b)) c
/-- After the first call. -/
def U1 (c : Dev nD) : Valuation τ sig (Elt F) := Pipeline.afterRegion (d0 m c) (U0 m c)
/-- After the host operations between the calls. -/
def U2 (c : Dev nD) : Valuation τ sig (Elt F) := StableHlo.after hostOps1 (U1 m c)
/-- The proof data of the second call, from what the host operations leave. -/
abbrev d1 (c : Dev nD) := dat1 (F := F) (fun c b => U2 m c (Proc.devRef .tc b)) c
/-- After the second call. -/
def U3 (c : Dev nD) : Valuation τ sig (Elt F) := Pipeline.afterRegion (d1 m c) (U2 m c)
/-- At the end. -/
def U4 (c : Dev nD) : Valuation τ sig (Elt F) := StableHlo.after hostOps2 (U3 m c)

/-- The first call changes no buffer but its outputs' arrays. -/
theorem U1_of (c : Dev nD) (r : Ref sig .tc) (h : ∀ w, Pipeline.arrRef spec0 w = r → (cfg0.win w).isOut = false) :
    U1 m c (Proc.devRef .tc r) = U0 m c (Proc.devRef .tc r) :=
  Pipeline.afterRegion_keeps (d0 m c) (U0 m c) winFacts0.arr_inj (A0_eq _ c) r h
theorem U2_of (c : Dev nD) (r : Ref sig .tc) (h : r ∉ hostOps1_W) : U2 m c (Proc.devRef .tc r) = U1 m c (Proc.devRef .tc r) :=
  StableHlo.after_of_writes_sub hostOps1 _ hostOps1_writes h
/-- The second call changes no buffer but its outputs' arrays. -/
theorem U3_of (c : Dev nD) (r : Ref sig .tc) (h : ∀ w, Pipeline.arrRef spec1 w = r → (cfg1.win w).isOut = false) :
    U3 m c (Proc.devRef .tc r) = U2 m c (Proc.devRef .tc r) :=
  Pipeline.afterRegion_keeps (d1 m c) (U2 m c) winFacts1.arr_inj (A1_eq _ c) r h
theorem U4_of (c : Dev nD) (r : Ref sig .tc) (h : r ∉ hostOps2_W) : U4 m c (Proc.devRef .tc r) = U3 m c (Proc.devRef .tc r) :=
  StableHlo.after_of_writes_sub hostOps2 _ hostOps2_writes h
/-- Argument 0 ends as launched. -/
theorem U4_main_arg0 (c : Dev nD) : U4 m c (Proc.devRef .tc main_arg0) = m ((c : Thread nD τ).loc main_arg0) :=
  (U4_of m c main_arg0 (by decide)).trans <| (U3_of m c main_arg0 (by decide)).trans <| (U2_of m c main_arg0 (by decide)).trans <| (U1_of m c main_arg0 (by decide)).trans rfl
/-- Argument 1 ends as launched. -/
theorem U4_main_arg1 (c : Dev nD) : U4 m c (Proc.devRef .tc main_arg1) = m ((c : Thread nD τ).loc main_arg1) :=
  (U4_of m c main_arg1 (by decide)).trans <| (U3_of m c main_arg1 (by decide)).trans <| (U2_of m c main_arg1 (by decide)).trans <| (U1_of m c main_arg1 (by decide)).trans rfl
/-- Argument 2 ends as launched. -/
theorem U4_main_arg2 (c : Dev nD) : U4 m c (Proc.devRef .tc main_arg2) = m ((c : Thread nD τ).loc main_arg2) :=
  (U4_of m c main_arg2 (by decide)).trans <| (U3_of m c main_arg2 (by decide)).trans <| (U2_of m c main_arg2 (by decide)).trans <| (U1_of m c main_arg2 (by decide)).trans rfl

/-! ## The two calls' records -/

/-- The proof data of each call. -/
def dats : (p : Fin 2) → (c : Dev nD) → Dat τ (Elt F) Unit ℕ (UR sig nD τ) ℕ (cfgs p) c
  | 0 => fun c => d0 m c
  | 1 => fun c => d1 m c
/-- Each TensorCore semaphore has the one index, no other any. -/
def L0 : GSem nD τ sig → Finset Unit := fun g => if g.1.2 = .tc then {()} else ∅
/-- Every level is the lowest. -/
def lv0 : GSem nD τ sig → Unit → ℕ := fun _ _ => 0
theorem L0_tc (g : GSem nD τ sig) (h : g.1.2 = .tc) : () ∈ L0 g := by unfold L0; rw [if_pos h]; exact Finset.mem_singleton_self _
/-- Nothing is owed. -/
def D0 : Dev nD → CellTallies nD τ sig Unit := fun _ => 0
/-- A core's generator register, at some state. -/
def Xreg (c : Dev nD) : sProp 𝕄 := iprop(∃ r, prngReg c r)
/-- What rides beside the buffers: the core owing nothing, and its generator register. -/
def E0 (c : Dev nD) : sProp 𝕄 := iprop((∃ W, owes (c : Thread nD τ) (D0 c) W) ∗ Xreg c ∗ emp)

theorem cut0 : Pipeline.LevelCut (pcfgs (F := F)) adm () L0 lv0 0 D0 (fun _ => 0) where
  hι _ _ _ := L0_tc _ rfl
  hιb _ _ _ := Nat.le_refl 0
  hD c g i h := absurd h (Nat.lt_irrefl 0)
set_option backward.isDefEq.respectTransparency.types false in
/-- The record of call 0. -/
def reg0 : RegionSeg (pcfgs (F := F)) adm (dats m) () defs₀ Variants.none L0 lv0 0 :=
  RegionSeg.ofHeldIn (pcfgs (F := F)) adm (dats m) () defs₀ Variants.none L0 lv0 0 D0 (Pipeline.ucRefs τ sig) Xreg Xreg launch0.toP rfl
    (fun c => (body_obligation0 _ c).loose) (fun _ _ => rfl) (fun _ => rfl) (fun c => (d0 m c).share_full fun _ => rfl)
    (fun c => hin0 _ c) (fun c => hout0 _ c) (fun _ => 0) cut0 (fun _ => iprop(emp)) (U0 m) (fun c w => rfl)

theorem cut1 : Pipeline.LevelCut (pcfgs (F := F)) adm () L0 lv0 1 D0 (fun _ => 0) where
  hι _ _ _ := L0_tc _ rfl
  hιb _ _ _ := Nat.le_refl 0
  hD c g i h := absurd h (Nat.lt_irrefl 0)
set_option backward.isDefEq.respectTransparency.types false in
/-- The record of call 1. -/
def reg1 : RegionSeg (pcfgs (F := F)) adm (dats m) () defs₀ Variants.none L0 lv0 1 :=
  RegionSeg.ofHeldIn (pcfgs (F := F)) adm (dats m) () defs₀ Variants.none L0 lv0 1 D0 (Pipeline.ucRefs τ sig) Xreg Xreg launch1.toP rfl
    (fun c => (body_obligation1 _ c).loose) (fun _ _ => rfl) (fun _ => rfl) (fun c => (d1 m c).share_full fun _ => rfl)
    (fun c => hin1 _ c) (fun c => hout1 _ c) (fun _ => 0) cut1 (fun _ => iprop(emp)) (U2 m) (fun c w => rfl)

theorem arrs0 : Pipeline.arrRefs (pcfgs (F := F) 0).spec ⊆ Pipeline.ucRefs τ sig :=
  Pipeline.arrRefs_sub_ucRefs spec0 (by decide)
set_option backward.isDefEq.respectTransparency.types false in
/-- Call 0 is entered from the buffers as it finds them. -/
theorem reg0_pre (c : Dev nD) : iprop(StableHlo.held (c : Thread nD τ) (Pipeline.ucRefs τ sig) (U0 m c) ∗ E0 c) ⊢ (reg0 m).pre c := by
  unfold reg0 E0
  exact RegionSeg.ofHeldIn_pre (pcs := pcfgs (F := F)) (a := adm) (pdats := dats m) (ι := ()) (defs₀ := defs₀) (𝒱₀ := Variants.none) (L := L0) (lv := lv0) (p := 0) (D := D0) (X := Xreg) (Y := Xreg) (W := U0 m) (R := fun _ => iprop(emp)) arrs0 c
set_option backward.isDefEq.respectTransparency.types false in
/-- Call 0 leaves them as `U1` says. -/
theorem reg0_post (c : Dev nD) : (reg0 m).post c ⊢ (iprop(StableHlo.held (c : Thread nD τ) (Pipeline.ucRefs τ sig) (U1 m c) ∗ E0 c) : sProp 𝕄) := by
  unfold reg0 E0 U1
  exact RegionSeg.ofHeldIn_post (pcs := pcfgs (F := F)) (a := adm) (pdats := dats m) (ι := ()) (defs₀ := defs₀) (𝒱₀ := Variants.none) (L := L0) (lv := lv0) (p := 0) (D := D0) (X := Xreg) (Y := Xreg) (W := U0 m) (R := fun _ => iprop(emp)) arrs0 c

theorem arrs1 : Pipeline.arrRefs (pcfgs (F := F) 1).spec ⊆ Pipeline.ucRefs τ sig :=
  Pipeline.arrRefs_sub_ucRefs spec1 (by decide)
set_option backward.isDefEq.respectTransparency.types false in
/-- Call 1 is entered from the buffers as it finds them. -/
theorem reg1_pre (c : Dev nD) : iprop(StableHlo.held (c : Thread nD τ) (Pipeline.ucRefs τ sig) (U2 m c) ∗ E0 c) ⊢ (reg1 m).pre c := by
  unfold reg1 E0
  exact RegionSeg.ofHeldIn_pre (pcs := pcfgs (F := F)) (a := adm) (pdats := dats m) (ι := ()) (defs₀ := defs₀) (𝒱₀ := Variants.none) (L := L0) (lv := lv0) (p := 1) (D := D0) (X := Xreg) (Y := Xreg) (W := U2 m) (R := fun _ => iprop(emp)) arrs1 c
set_option backward.isDefEq.respectTransparency.types false in
/-- Call 1 leaves them as `U3` says. -/
theorem reg1_post (c : Dev nD) : (reg1 m).post c ⊢ (iprop(StableHlo.held (c : Thread nD τ) (Pipeline.ucRefs τ sig) (U3 m c) ∗ E0 c) : sProp 𝕄) := by
  unfold reg1 E0 U3
  exact RegionSeg.ofHeldIn_post (pcs := pcfgs (F := F)) (a := adm) (pdats := dats m) (ι := ()) (defs₀ := defs₀) (𝒱₀ := Variants.none) (L := L0) (lv := lv0) (p := 1) (D := D0) (X := Xreg) (Y := Xreg) (W := U2 m) (R := fun _ => iprop(emp)) arrs1 c

/-! ## The run -/

/-- The host operations between the calls. -/
def hseg1 : HostSeg (Ix := Unit) (Name := ℕ) (U := UR sig nD τ) (Lvl := ℕ) (pcfgs (F := F)) defs₀ Variants.none L0 lv0 :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (U1 m) E0
/-- The host operations after the second call. -/
def hseg2 : HostSeg (Ix := Unit) (Name := ℕ) (U := UR sig nD τ) (Lvl := ℕ) (pcfgs (F := F)) defs₀ Variants.none L0 lv0 :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (U3 m) E0
/-- The program's items. -/
abbrev segL (c : Dev nD) : List (Seg (pcfgs (F := F)) adm (dats m) () defs₀ Variants.none L0 lv0) :=
  [.region (reg0 m), .host (hseg1 m), .region (reg1 m), .host (hseg2 m)]

set_option maxHeartbeats 1000000 in
set_option backward.isDefEq.respectTransparency.types false in
/-- From any memory with zero counters every fair run of the program terminates, every buffer that outlives the calls
    ends at `U4`, and every semaphore counter at zero. -/
theorem run_all (ρ : Dev nD → PrngReg) :
    θ_run defs (onTc (τ := τ) (main (F := F))) ⟨m, fun _ => 0, ρ⟩ (fun r =>
      (∀ c : Dev nD, ∀ b ∈ Pipeline.ucRefs τ sig, r.2.mem ((c : Thread nD τ).1, b) = U4 m c b) ∧ r.2.sem = fun _ => 0) := by
  refine Pipeline.θ_run_regions_kit_dev_sems (pcfgs (F := F)) adm (dats m) () cellOf_inj emb₁ defs₀ Variants.none L0 lv0 m ρ main
    (segL m)
    (fun c Q => by
      rewrite [main_chain c, Seg.run_eq_chain,
        show (segL m c).map Seg.prog = [
          Prog.lift (.customCall (Pipeline.entry 0) ()),
          StableHlo.seq hostOps1,
          Prog.lift (.customCall (Pipeline.entry 1) ()),
          StableHlo.seq hostOps2 ] from rfl]
      exact .rfl)
    (fun c => by simp only [segL, Seg.pipes_host, Seg.pipes_region, Seg.pipes_nil]; decide)
    (O₀ := 0) (hL := fun g h => by unfold L0; rw [if_neg h])
    (G := fun _ => iprop(emp)) (u₀ := initOf (Pipeline.cells cfgs cellOf_inj) (Pipeline.launchToks cfgs cellOf_inj))
    (hu₀ := ?_)
    (T₀ := fun c => iprop(StableHlo.held (c : Thread nD τ) (Pipeline.ucRefs τ sig) (U0 m c) ∗ E0 c))
    (Tₙ := fun c => StableHlo.held (c : Thread nD τ) (Pipeline.ucRefs τ sig) (U4 m c))
    (hch := fun c => ⟨reg0_pre m c, reg0_post m c, reg1_pre m c, reg1_post m c, ?_⟩)
    (hinit := ?_) (QY := fun c s => ∀ b ∈ Pipeline.ucRefs τ sig, s.mem ((c : Thread nD τ).1, b) = U4 m c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · show iprop(StableHlo.held (c : Thread nD τ) (Pipeline.ucRefs τ sig) (U4 m c) ∗ E0 c) ⊢ _
    unfold E0
    iintro ⟨Hh, HO, -⟩
    isplitl [Hh]; · iexact Hh
    iexact HO
  · refine Pipeline.initEach L0 lv0 fun c => ?_
    rw [show unscopedBufs c (fun b => m ((c.tc : Thread nD τ).loc b)) = StableHlo.held (c.tc : Thread nD τ) (Pipeline.ucRefs τ sig) (U0 m c)
        from Pipeline.unscopedBufs_held (Ix := Unit) (Name := ℕ) (U := UR sig nD τ) (Lvl := ℕ) c (U0 m c)]
    unfold E0 Xreg
    iintro ⟨⟨Hh, -, HO, -, Hp, -⟩, -⟩
    imodintro
    isplitl [Hh]; · iexact Hh
    isplitl [HO]; · iexists ∅; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (U4 m c) s') $$ [Hh HSI]
    · isplitl [Hh] <;> iassumption
    imodintro; iexact Hr

theorem mem_uc (b : Ref sig .tc) (hb : b.isScoped = false) : (Proc.devRef .tc b : DevRef τ sig) ∈ Pipeline.ucRefs τ sig :=
  Pipeline.devRef_mem_ucRefs hb

/-- The run read at the results and the arguments. -/
theorem run_value (ρ : Dev nD → PrngReg) :
    θ_run defs (onTc (τ := τ) (main (F := F))) ⟨m, fun _ => 0, ρ⟩ (fun r => ∀ c : Dev nD,
      r.2.mem ((c.tc : Thread nD τ).loc main_v11) = U4 m c (Proc.devRef .tc main_v11)
      ∧ r.2.mem ((c.tc : Thread nD τ).loc main_v12) = U4 m c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨h.1 c _ (mem_uc main_v11 rfl), h.1 c _ (mem_uc main_v12 rfl),
    (h.1 c _ (mem_uc main_arg0 rfl)).trans (U4_main_arg0 m c), (h.1 c _ (mem_uc main_arg1 rfl)).trans (U4_main_arg1 m c),
    (h.1 c _ (mem_uc main_arg2 rfl)).trans (U4_main_arg2 m c)⟩) (run_all m ρ)

/-- The frame: every run terminates, the arguments end unchanged and every semaphore counter at zero. -/
theorem frame_run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨
    (h.1 c _ (mem_uc main_arg0 rfl)).trans (U4_main_arg0 m c), (h.1 c _ (mem_uc main_arg1 rfl)).trans (U4_main_arg1 m c),
    (h.1 c _ (mem_uc main_arg2 rfl)).trans (U4_main_arg2 m c)⟩, h.2⟩) (run_all m ρ)

end Cert.KernelIdeal.Hand

end
-- ==== Proof.RefRun.lean ====
/- The reference program's operations as a list, and its run: each result as one term of the arguments. -/
module

public import proofs.«01_k».proof.Proof.Gen.ReferenceIdeal
public import Idealize.ShloMosaic.Lib.StableHlo.Run
public import Idealize.ShloMosaic.Lib.StableHlo.RunClose
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 30 of 134 (window `main_part0`). -/
abbrev ops_part0_0 : List (HloOp τ sig (Elt F)) :=
  [ binary main_arg0 main_arg0 main_v0 (mulf : (⟨S676x1536, .f32⟩ : BufTy).Contents (Elt F) → (⟨S676x1536, .f32⟩ : BufTy).Contents (Elt F) → (⟨S676x1536, .f32⟩ : BufTy).Contents (Elt F)),
    nullary main_cst (constant S_ .f32 0x00000000#32),
    binary main_v0 main_cst main_v1 ((fun x v => Host.reduceAdd x v reducesTo_S676x1536_S676_d1 h_S_) : (⟨S676x1536, .f32⟩ : BufTy).Contents (Elt F) → (⟨S_, .f32⟩ : BufTy).Contents (Elt F) → (⟨S676, .f32⟩ : BufTy).Contents (Elt F)),
    unary main_v1 main_v2 (broadcastInDim S676x1 ![0] bcast_S676_S676x1_0 : (⟨S676, .f32⟩ : BufTy).Contents (Elt F) → (⟨S676x1, .f32⟩ : BufTy).Contents (Elt F)),
    binary main_arg1 main_arg1 main_v3 (mulf : (⟨S16384x1536, .f32⟩ : BufTy).Contents (Elt F) → (⟨S16384x1536, .f32⟩ : BufTy).Contents (Elt F) → (⟨S16384x1536, .f32⟩ : BufTy).Contents (Elt F)),
    nullary main_cst_0 (constant S_ .f32 0x00000000#32),
    binary main_v3 main_cst_0 main_v4 ((fun x v => Host.reduceAdd x v reducesTo_S16384x1536_S16384_d1 h_S_) : (⟨S16384x1536, .f32⟩ : BufTy).Contents (Elt F) → (⟨S_, .f32⟩ : BufTy).Contents (Elt F) → (⟨S16384, .f32⟩ : BufTy).Contents (Elt F)),
    unary main_v4 main_v5 (broadcastInDim S16384x1 ![0] bcast_S16384_S16384x1_0 : (⟨S16384, .f32⟩ : BufTy).Contents (Elt F) → (⟨S16384x1, .f32⟩ : BufTy).Contents (Elt F)),
    unary main_v5 main_v6 ((transpose S1x16384 [1, 0] · transposes_S16384x1_S1x16384_1_0) : (⟨S16384x1, .f32⟩ : BufTy).Contents (Elt F) → (⟨S1x16384, .f32⟩ : BufTy).Contents (Elt F)),
    unary main_v2 main_v7 (broadcastInDim S676x16384 ![0, 1] bcast_S676x1_S676x16384_0_1 : (⟨S676x1, .f32⟩ : BufTy).Contents (Elt F) → (⟨S676x16384, .f32⟩ : BufTy).Contents (Elt F)),
    unary main_v6 main_v8 (broadcastInDim S676x16384 ![0, 1] bcast_S1x16384_S676x16384_0_1 : (⟨S1x16384, .f32⟩ : BufTy).Contents (Elt F) → (⟨S676x16384, .f32⟩ : BufTy).Contents (Elt F)),
    binary main_v7 main_v8 main_v9 (addf : (⟨S676x16384, .f32⟩ : BufTy).Contents (Elt F) → (⟨S676x16384, .f32⟩ : BufTy).Contents (Elt F) → (⟨S676x16384, .f32⟩ : BufTy).Contents (Elt F)),
    unary main_arg1 main_v10 ((transpose S1536x16384 [1, 0] · transposes_S16384x1536_S1536x16384_1_0) : (⟨S16384x1536, .f32⟩ : BufTy).Contents (Elt F) → (⟨S1536x16384, .f32⟩ : BufTy).Contents (Elt F)),
    binary main_arg0 main_v10 main_v11 ((fun l r => Host.dotGeneral dot_S676x1536_S1536x16384_S676x16384_1_0_0_1_n_n none l r) : (⟨S676x1536, .f32⟩ : BufTy).Contents (Elt F) → (⟨S1536x16384, .f32⟩ : BufTy).Contents (Elt F) → (⟨S676x16384, .f32⟩ : BufTy).Contents (Elt F)),
    nullary main_cst_1 (constant S_ .f32 0x40000000#32),
    unary main_cst_1 main_v12 (broadcastInDim S676x16384 ![] bcast_S_S676x16384 : (⟨S_, .f32⟩ : BufTy).Contents (Elt F) → (⟨S676x16384, .f32⟩ : BufTy).Contents (Elt F)),
    binary main_v12 main_v11 main_v13 (mulf : (⟨S676x16384, .f32⟩ : BufTy).Contents (Elt F) → (⟨S676x16384, .f32⟩ : BufTy).Contents (Elt F) → (⟨S676x16384, .f32⟩ : BufTy).Contents (Elt F)),
    binary main_v9 main_v13 main_v14 (subf : (⟨S676x16384, .f32⟩ : BufTy).Contents (Elt F) → (⟨S676x16384, .f32⟩ : BufTy).Contents (Elt F) → (⟨S676x16384, .f32⟩ : BufTy).Contents (Elt F)),
    nullary main_cst_2 (constant S_ .f32 0x2B8CBCCC#32),
    unary main_cst_2 main_v15 (broadcastInDim S676x16384 ![] bcast_S_S676x16384 : (⟨S_, .f32⟩ : BufTy).Contents (Elt F) → (⟨S676x16384, .f32⟩ : BufTy).Contents (Elt F)),
    binary main_v14 main_v15 main_v16 (maximumf : (⟨S676x16384, .f32⟩ : BufTy).Contents (Elt F) → (⟨S676x16384, .f32⟩ : BufTy).Contents (Elt F) → (⟨S676x16384, .f32⟩ : BufTy).Contents (Elt F)),
    unary main_v16 main_v17 (Host.sqrt : (⟨S676x16384, .f32⟩ : BufTy).Contents (Elt F) → (⟨S676x16384, .f32⟩ : BufTy).Contents (Elt F)),
    nullary main_cst_3 (constant S_ .f32 0x7F800000#32),
    binary main_v17 main_cst_3 main_v18 ((fun x v => Host.reduce FloatOps.minimumf x v reducesTo_S676x16384_S676_d1 h_S_) : (⟨S676x16384, .f32⟩ : BufTy).Contents (Elt F) → (⟨S_, .f32⟩ : BufTy).Contents (Elt F) → (⟨S676, .f32⟩ : BufTy).Contents (Elt F)),
    TRef.nullary (TRef.of (T := ⟨S676x16384, .i32⟩) main_call0_v0) (iotaInDim S676x16384 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S676x16384, .f32⟩) main_v17) (TRef.of (T := ⟨S676x16384, .i32⟩) main_call0_v0) (TRef.of (T := ⟨S_, .f32⟩) main_call0_cst) (TRef.of (T := ⟨S_, .i32⟩) main_call0_c) (TRef.of (T := ⟨S676, .f32⟩) main_call0_v1_0) (fun x y u v => (fun j => (Host.argReduce reducer_argmin_f32_i32 x y u v reducesTo_S676x16384_S676_d1 h_S_ j).1)),
    TRef.quaternary (TRef.of (T := ⟨S676x16384, .f32⟩) main_v17) (TRef.of (T := ⟨S676x16384, .i32⟩) main_call0_v0) (TRef.of (T := ⟨S_, .f32⟩) main_call0_cst) (TRef.of (T := ⟨S_, .i32⟩) main_call0_c) (TRef.of (T := ⟨S676, .i32⟩) main_v19) (fun x y u v => (fun j => (Host.argReduce reducer_argmin_f32_i32 x y u v reducesTo_S676x16384_S676_d1 h_S_ j).2)),
    TRef.nullary (TRef.of (T := ⟨S676, .i32⟩) main_call1_v0) (iotaInDim S676 32 0) ]

/-- @main's operations 31 … 60 of 134 (window `main_part0`). -/
abbrev ops_part0_1 : List (HloOp τ sig (Elt F)) :=
  [ TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S676, .f32⟩) main_v18) (TRef.of (T := ⟨S676, .i32⟩) main_call1_v0) (TRef.of (T := ⟨S_, .f32⟩) main_call1_cst) (TRef.of (T := ⟨S_, .i32⟩) main_call1_c) (TRef.of (T := ⟨S_, .f32⟩) main_call1_v1_0) (fun x y u v => (fun j => (Host.argReduce reducer_argmax_f32_i32 x y u v reducesTo_S676_S_d0 h_S_ j).1)),
    TRef.quaternary (TRef.of (T := ⟨S676, .f32⟩) main_v18) (TRef.of (T := ⟨S676, .i32⟩) main_call1_v0) (TRef.of (T := ⟨S_, .f32⟩) main_call1_cst) (TRef.of (T := ⟨S_, .i32⟩) main_call1_c) (TRef.of (T := ⟨S_, .i32⟩) main_v20) (fun x y u v => (fun j => (Host.argReduce reducer_argmax_f32_i32 x y u v reducesTo_S676_S_d0 h_S_ j).2)),
    nullary main_cst_4 (constant S_ .f32 0xFF800000#32),
    binary main_v18 main_cst_4 main_v21 ((fun x v => Host.reduce FloatOps.maximumf x v reducesTo_S676_S_d0 h_S_) : (⟨S676, .f32⟩ : BufTy).Contents (Elt F) → (⟨S_, .f32⟩ : BufTy).Contents (Elt F) → (⟨S_, .f32⟩ : BufTy).Contents (Elt F)),
    nullary main_c (constantI S_ 32 0#32),
    binary main_v20 main_c main_v22 (cmpi .slt : (⟨S_, .i32⟩ : BufTy).Contents (Elt F) → (⟨S_, .i32⟩ : BufTy).Contents (Elt F) → (⟨S_, .i1⟩ : BufTy).Contents (Elt F)),
    nullary main_c_5 (constantI S_ 32 676#32),
    binary main_v20 main_c_5 main_v23 (addi : (⟨S_, .i32⟩ : BufTy).Contents (Elt F) → (⟨S_, .i32⟩ : BufTy).Contents (Elt F) → (⟨S_, .i32⟩ : BufTy).Contents (Elt F)),
    ternary main_v22 main_v23 main_v20 main_v24 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_6 (constantI S_ 32 0#32),
    nullary main_c_7 (constantI S_ 32 0#32),
    binary main_c_6 main_c_7 main_v25 (cmpi .slt : (⟨S_, .i32⟩ : BufTy).Contents (Elt F) → (⟨S_, .i32⟩ : BufTy).Contents (Elt F) → (⟨S_, .i1⟩ : BufTy).Contents (Elt F)),
    nullary main_c_8 (constantI S_ 32 0#32),
    nullary main_c_9 (constantI S_ 32 1536#32),
    binary main_c_8 main_c_9 main_v26 (addi : (⟨S_, .i32⟩ : BufTy).Contents (Elt F) → (⟨S_, .i32⟩ : BufTy).Contents (Elt F) → (⟨S_, .i32⟩ : BufTy).Contents (Elt F)),
    nullary main_c_10 (constantI S_ 32 0#32),
    ternary main_v25 main_v26 main_c_10 main_v27 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_arg0 ![main_v24, main_v27] ⟨S_, .i32⟩ main_v28 ((fun x i => Host.dynamicSlice S1x1536 x (fun k => (i k (Shape.Idx.first h_S_)).toInt) sliceFits_S676x1536_S1x1536) : (⟨S676x1536, .f32⟩ : BufTy).Contents (Elt F) → (Fin 2 → (⟨S_, .i32⟩ : BufTy).Contents (Elt F)) → (⟨S1x1536, .f32⟩ : BufTy).Contents (Elt F)),
    reshape main_v28 main_v29 (rfl : (.f32 : EltTy) = .f32) shapeCasts_S1x1536_S1536,
    unary main_v29 main_v30 (broadcastInDim S1x1536 ![1] bcast_S1536_S1x1536_1 : (⟨S1536, .f32⟩ : BufTy).Contents (Elt F) → (⟨S1x1536, .f32⟩ : BufTy).Contents (Elt F)),
    nullary main_c_11 (constantI S_ 32 0#32),
    binary main_v20 main_c_11 main_v31 (cmpi .slt : (⟨S_, .i32⟩ : BufTy).Contents (Elt F) → (⟨S_, .i32⟩ : BufTy).Contents (Elt F) → (⟨S_, .i1⟩ : BufTy).Contents (Elt F)),
    nullary main_c_12 (constantI S_ 32 676#32),
    binary main_v20 main_c_12 main_v32 (addi : (⟨S_, .i32⟩ : BufTy).Contents (Elt F) → (⟨S_, .i32⟩ : BufTy).Contents (Elt F) → (⟨S_, .i32⟩ : BufTy).Contents (Elt F)),
    ternary main_v31 main_v32 main_v20 main_v33 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v19 ![main_v33] ⟨S_, .i32⟩ main_v34 ((fun x i => Host.dynamicSlice S1 x (fun k => (i k (Shape.Idx.first h_S_)).toInt) sliceFits_S676_S1) : (⟨S676, .i32⟩ : BufTy).Contents (Elt F) → (Fin 1 → (⟨S_, .i32⟩ : BufTy).Contents (Elt F)) → (⟨S1, .i32⟩ : BufTy).Contents (Elt F)),
    reshape main_v34 main_v35 (rfl : (.i32 : EltTy) = .i32) shapeCasts_S1_S_,
    nullary main_c_13 (constantI S_ 32 0#32) ]

/-- @main's operations 61 … 68 of 134 (window `main_part0`). -/
abbrev ops_part0_2 : List (HloOp τ sig (Elt F)) :=
  [ binary main_v35 main_c_13 main_v36 (cmpi .slt : (⟨S_, .i32⟩ : BufTy).Contents (Elt F) → (⟨S_, .i32⟩ : BufTy).Contents (Elt F) → (⟨S_, .i1⟩ : BufTy).Contents (Elt F)),
    nullary main_c_14 (constantI S_ 32 16384#32),
    binary main_v35 main_c_14 main_v37 (addi : (⟨S_, .i32⟩ : BufTy).Contents (Elt F) → (⟨S_, .i32⟩ : BufTy).Contents (Elt F) → (⟨S_, .i32⟩ : BufTy).Contents (Elt F)),
    ternary main_v36 main_v37 main_v35 main_v38 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_15 (constantI S_ 32 0#32),
    nullary main_c_16 (constantI S_ 32 0#32),
    binary main_c_15 main_c_16 main_v39 (cmpi .slt : (⟨S_, .i32⟩ : BufTy).Contents (Elt F) → (⟨S_, .i32⟩ : BufTy).Contents (Elt F) → (⟨S_, .i1⟩ : BufTy).Contents (Elt F)),
    nullary main_c_17 (constantI S_ 32 0#32) ]

/-- Window `main_part0`'s operations. Not an abbreviation: `main_eq` below splits `ops` into the windows and no further. -/
def ops_part0 : List (HloOp τ sig (Elt F)) :=
  ops_part0_0 ++ (ops_part0_1 ++ (ops_part0_2))

/-- @main's operations 69 … 128 of 134 (window `main_part1`). -/
abbrev ops_part1 : List (HloOp τ sig (Elt F)) :=
  [ nullary main_c_18 (constantI S_ 32 1536#32),
    binary main_c_17 main_c_18 main_v40 (addi : (⟨S_, .i32⟩ : BufTy).Contents (Elt F) → (⟨S_, .i32⟩ : BufTy).Contents (Elt F) → (⟨S_, .i32⟩ : BufTy).Contents (Elt F)),
    nullary main_c_19 (constantI S_ 32 0#32),
    ternary main_v39 main_v40 main_c_19 main_v41 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_arg1 ![main_v38, main_v41] ⟨S_, .i32⟩ main_v42 ((fun x i => Host.dynamicSlice S1x1536 x (fun k => (i k (Shape.Idx.first h_S_)).toInt) sliceFits_S16384x1536_S1x1536) : (⟨S16384x1536, .f32⟩ : BufTy).Contents (Elt F) → (Fin 2 → (⟨S_, .i32⟩ : BufTy).Contents (Elt F)) → (⟨S1x1536, .f32⟩ : BufTy).Contents (Elt F)),
    reshape main_v42 main_v43 (rfl : (.f32 : EltTy) = .f32) shapeCasts_S1x1536_S1536,
    unary main_v43 main_v44 (broadcastInDim S1x1536 ![1] bcast_S1536_S1x1536_1 : (⟨S1536, .f32⟩ : BufTy).Contents (Elt F) → (⟨S1x1536, .f32⟩ : BufTy).Contents (Elt F)),
    binary main_v44 main_v44 main_v45 (mulf : (⟨S1x1536, .f32⟩ : BufTy).Contents (Elt F) → (⟨S1x1536, .f32⟩ : BufTy).Contents (Elt F) → (⟨S1x1536, .f32⟩ : BufTy).Contents (Elt F)),
    nullary main_cst_20 (constant S_ .f32 0x00000000#32),
    binary main_v45 main_cst_20 main_v46 ((fun x v => Host.reduceAdd x v reducesTo_S1x1536_S1_d1 h_S_) : (⟨S1x1536, .f32⟩ : BufTy).Contents (Elt F) → (⟨S_, .f32⟩ : BufTy).Contents (Elt F) → (⟨S1, .f32⟩ : BufTy).Contents (Elt F)),
    unary main_v46 main_v47 (broadcastInDim S1x1 ![0] bcast_S1_S1x1_0 : (⟨S1, .f32⟩ : BufTy).Contents (Elt F) → (⟨S1x1, .f32⟩ : BufTy).Contents (Elt F)),
    binary main_arg1 main_arg1 main_v48 (mulf : (⟨S16384x1536, .f32⟩ : BufTy).Contents (Elt F) → (⟨S16384x1536, .f32⟩ : BufTy).Contents (Elt F) → (⟨S16384x1536, .f32⟩ : BufTy).Contents (Elt F)),
    nullary main_cst_21 (constant S_ .f32 0x00000000#32),
    binary main_v48 main_cst_21 main_v49 ((fun x v => Host.reduceAdd x v reducesTo_S16384x1536_S16384_d1 h_S_) : (⟨S16384x1536, .f32⟩ : BufTy).Contents (Elt F) → (⟨S_, .f32⟩ : BufTy).Contents (Elt F) → (⟨S16384, .f32⟩ : BufTy).Contents (Elt F)),
    unary main_v49 main_v50 (broadcastInDim S16384x1 ![0] bcast_S16384_S16384x1_0 : (⟨S16384, .f32⟩ : BufTy).Contents (Elt F) → (⟨S16384x1, .f32⟩ : BufTy).Contents (Elt F)),
    unary main_v50 main_v51 ((transpose S1x16384 [1, 0] · transposes_S16384x1_S1x16384_1_0) : (⟨S16384x1, .f32⟩ : BufTy).Contents (Elt F) → (⟨S1x16384, .f32⟩ : BufTy).Contents (Elt F)),
    unary main_v47 main_v52 (broadcastInDim S1x16384 ![0, 1] bcast_S1x1_S1x16384_0_1 : (⟨S1x1, .f32⟩ : BufTy).Contents (Elt F) → (⟨S1x16384, .f32⟩ : BufTy).Contents (Elt F)),
    binary main_v52 main_v51 main_v53 (addf : (⟨S1x16384, .f32⟩ : BufTy).Contents (Elt F) → (⟨S1x16384, .f32⟩ : BufTy).Contents (Elt F) → (⟨S1x16384, .f32⟩ : BufTy).Contents (Elt F)),
    unary main_arg1 main_v54 ((transpose S1536x16384 [1, 0] · transposes_S16384x1536_S1536x16384_1_0) : (⟨S16384x1536, .f32⟩ : BufTy).Contents (Elt F) → (⟨S1536x16384, .f32⟩ : BufTy).Contents (Elt F)),
    binary main_v44 main_v54 main_v55 ((fun l r => Host.dotGeneral dot_S1x1536_S1536x16384_S1x16384_1_0_0_1_n_n none l r) : (⟨S1x1536, .f32⟩ : BufTy).Contents (Elt F) → (⟨S1536x16384, .f32⟩ : BufTy).Contents (Elt F) → (⟨S1x16384, .f32⟩ : BufTy).Contents (Elt F)),
    nullary main_cst_22 (constant S_ .f32 0x40000000#32),
    unary main_cst_22 main_v56 (broadcastInDim S1x16384 ![] bcast_S_S1x16384 : (⟨S_, .f32⟩ : BufTy).Contents (Elt F) → (⟨S1x16384, .f32⟩ : BufTy).Contents (Elt F)),
    binary main_v56 main_v55 main_v57 (mulf : (⟨S1x16384, .f32⟩ : BufTy).Contents (Elt F) → (⟨S1x16384, .f32⟩ : BufTy).Contents (Elt F) → (⟨S1x16384, .f32⟩ : BufTy).Contents (Elt F)),
    binary main_v53 main_v57 main_v58 (subf : (⟨S1x16384, .f32⟩ : BufTy).Contents (Elt F) → (⟨S1x16384, .f32⟩ : BufTy).Contents (Elt F) → (⟨S1x16384, .f32⟩ : BufTy).Contents (Elt F)),
    nullary main_cst_23 (constant S_ .f32 0x2B8CBCCC#32),
    unary main_cst_23 main_v59 (broadcastInDim S1x16384 ![] bcast_S_S1x16384 : (⟨S_, .f32⟩ : BufTy).Contents (Elt F) → (⟨S1x16384, .f32⟩ : BufTy).Contents (Elt F)),
    binary main_v58 main_v59 main_v60 (maximumf : (⟨S1x16384, .f32⟩ : BufTy).Contents (Elt F) → (⟨S1x16384, .f32⟩ : BufTy).Contents (Elt F) → (⟨S1x16384, .f32⟩ : BufTy).Contents (Elt F)),
    unary main_v60 main_v61 (Host.sqrt : (⟨S1x16384, .f32⟩ : BufTy).Contents (Elt F) → (⟨S1x16384, .f32⟩ : BufTy).Contents (Elt F)),
    unary main_v61 main_v62 (Host.negf : (⟨S1x16384, .f32⟩ : BufTy).Contents (Elt F) → (⟨S1x16384, .f32⟩ : BufTy).Contents (Elt F)),
    unary main_v62 main_values ((fun x => (Host.topK S1x3 1 (FloatOps.cmpfTotal .gt) x sliceFits_S1x16384_S1x3).1) : (⟨S1x16384, .f32⟩ : BufTy).Contents (Elt F) → (⟨S1x3, .f32⟩ : BufTy).Contents (Elt F)),
    unary main_v62 main_indices ((fun x => (Host.topK S1x3 1 (FloatOps.cmpfTotal .gt) x sliceFits_S1x16384_S1x3).2) : (⟨S1x16384, .f32⟩ : BufTy).Contents (Elt F) → (⟨S1x3, .i32⟩ : BufTy).Contents (Elt F)),
    unary main_indices main_v63 ((extractStridedSlice S1x2 ![0, 1] · slices_S1x3_S1x2_0_1) : (⟨S1x3, .i32⟩ : BufTy).Contents (Elt F) → (⟨S1x2, .i32⟩ : BufTy).Contents (Elt F)),
    reshape main_v63 main_v64 (rfl : (.i32 : EltTy) = .i32) shapeCasts_S1x2_S2,
    nullary main_c_24 (constantI S_ 32 0#32),
    unary main_c_24 main_v65 (broadcastInDim S2 ![] bcast_S_S2 : (⟨S_, .i32⟩ : BufTy).Contents (Elt F) → (⟨S2, .i32⟩ : BufTy).Contents (Elt F)),
    binary main_v64 main_v65 main_v66 (cmpi .slt : (⟨S2, .i32⟩ : BufTy).Contents (Elt F) → (⟨S2, .i32⟩ : BufTy).Contents (Elt F) → (⟨S2, .i1⟩ : BufTy).Contents (Elt F)),
    nullary main_c_25 (constantI S_ 32 16384#32),
    unary main_c_25 main_v67 (broadcastInDim S2 ![] bcast_S_S2 : (⟨S_, .i32⟩ : BufTy).Contents (Elt F) → (⟨S2, .i32⟩ : BufTy).Contents (Elt F)),
    binary main_v64 main_v67 main_v68 (addi : (⟨S2, .i32⟩ : BufTy).Contents (Elt F) → (⟨S2, .i32⟩ : BufTy).Contents (Elt F) → (⟨S2, .i32⟩ : BufTy).Contents (Elt F)),
    ternary main_v66 main_v68 main_v64 main_v69 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v69 main_v70 (broadcastInDim S2x1 ![0] bcast_S2_S2x1_0 : (⟨S2, .i32⟩ : BufTy).Contents (Elt F) → (⟨S2x1, .i32⟩ : BufTy).Contents (Elt F)),
    binary main_arg1 main_v70 main_v71 ((fun x i => Host.gather gather_S16384x1536_S2x1_S2x1536_1_0_n_n_0_1_11536 x i) : (⟨S16384x1536, .f32⟩ : BufTy).Contents (Elt F) → (⟨S2x1, .i32⟩ : BufTy).Contents (Elt F) → (⟨S2x1536, .f32⟩ : BufTy).Contents (Elt F)),
    unary main_v30 main_v72 (broadcastInDim S2x1536 ![0, 1] bcast_S1x1536_S2x1536_0_1 : (⟨S1x1536, .f32⟩ : BufTy).Contents (Elt F) → (⟨S2x1536, .f32⟩ : BufTy).Contents (Elt F)),
    binary main_v72 main_v71 main_v73 (subf : (⟨S2x1536, .f32⟩ : BufTy).Contents (Elt F) → (⟨S2x1536, .f32⟩ : BufTy).Contents (Elt F) → (⟨S2x1536, .f32⟩ : BufTy).Contents (Elt F)),
    binary main_v73 main_v73 main_v74 (mulf : (⟨S2x1536, .f32⟩ : BufTy).Contents (Elt F) → (⟨S2x1536, .f32⟩ : BufTy).Contents (Elt F) → (⟨S2x1536, .f32⟩ : BufTy).Contents (Elt F)),
    nullary main_cst_26 (constant S_ .f32 0x00000000#32),
    binary main_v74 main_cst_26 main_v75 ((fun x v => Host.reduceAdd x v reducesTo_S2x1536_S2_d1 h_S_) : (⟨S2x1536, .f32⟩ : BufTy).Contents (Elt F) → (⟨S_, .f32⟩ : BufTy).Contents (Elt F) → (⟨S2, .f32⟩ : BufTy).Contents (Elt F)),
    unary main_v75 main_v76 (Host.sqrt : (⟨S2, .f32⟩ : BufTy).Contents (Elt F) → (⟨S2, .f32⟩ : BufTy).Contents (Elt F)),
    nullary main_cst_27 (constant S_ .f32 0x44C00000#32),
    unary main_cst_27 main_v77 (Host.sqrt : (⟨S_, .f32⟩ : BufTy).Contents (Elt F) → (⟨S_, .f32⟩ : BufTy).Contents (Elt F)),
    binary main_v21 main_v77 main_v78 (Host.divf : (⟨S_, .f32⟩ : BufTy).Contents (Elt F) → (⟨S_, .f32⟩ : BufTy).Contents (Elt F) → (⟨S_, .f32⟩ : BufTy).Contents (Elt F)),
    unary main_v78 main_v79 (Host.exp : (⟨S_, .f32⟩ : BufTy).Contents (Elt F) → (⟨S_, .f32⟩ : BufTy).Contents (Elt F)),
    unary main_v77 main_v80 (broadcastInDim S2 ![] bcast_S_S2 : (⟨S_, .f32⟩ : BufTy).Contents (Elt F) → (⟨S2, .f32⟩ : BufTy).Contents (Elt F)),
    binary main_v76 main_v80 main_v81 (Host.divf : (⟨S2, .f32⟩ : BufTy).Contents (Elt F) → (⟨S2, .f32⟩ : BufTy).Contents (Elt F) → (⟨S2, .f32⟩ : BufTy).Contents (Elt F)),
    unary main_v81 main_v82 (Host.exp : (⟨S2, .f32⟩ : BufTy).Contents (Elt F) → (⟨S2, .f32⟩ : BufTy).Contents (Elt F)),
    nullary main_cst_28 (constant S_ .f32 0x00000000#32),
    binary main_v82 main_cst_28 main_v83 ((fun x v => Host.reduceAdd x v reducesTo_S2_S_d0 h_S_) : (⟨S2, .f32⟩ : BufTy).Contents (Elt F) → (⟨S_, .f32⟩ : BufTy).Contents (Elt F) → (⟨S_, .f32⟩ : BufTy).Contents (Elt F)),
    binary main_v79 main_v83 main_v84 (Host.divf : (⟨S_, .f32⟩ : BufTy).Contents (Elt F) → (⟨S_, .f32⟩ : BufTy).Contents (Elt F) → (⟨S_, .f32⟩ : BufTy).Contents (Elt F)),
    nullary main_cst_29 (constant S_ .f32 0x3F800000#32),
    binary main_cst_29 main_v84 main_v85 (subf : (⟨S_, .f32⟩ : BufTy).Contents (Elt F) → (⟨S_, .f32⟩ : BufTy).Contents (Elt F) → (⟨S_, .f32⟩ : BufTy).Contents (Elt F)) ]

/-- @main's operations 129 … 134 of 134 (window `main_part2`). -/
abbrev ops_part2 : List (HloOp τ sig (Elt F)) :=
  [ binary main_v85 main_v21 main_v86 (mulf : (⟨S_, .f32⟩ : BufTy).Contents (Elt F) → (⟨S_, .f32⟩ : BufTy).Contents (Elt F) → (⟨S_, .f32⟩ : BufTy).Contents (Elt F)),
    reshape main_v18 main_v87 (rfl : (.f32 : EltTy) = .f32) shapeCasts_S676_S26x26,
    binary main_arg2 main_v87 main_v88 ((fun l r => Host.dotGeneral dot_S224x26_S26x26_S224x26_1_0_0_1_n_n none l r) : (⟨S224x26, .f32⟩ : BufTy).Contents (Elt F) → (⟨S26x26, .f32⟩ : BufTy).Contents (Elt F) → (⟨S224x26, .f32⟩ : BufTy).Contents (Elt F)),
    unary main_arg2 main_v89 ((transpose S26x224 [1, 0] · transposes_S224x26_S26x224_1_0) : (⟨S224x26, .f32⟩ : BufTy).Contents (Elt F) → (⟨S26x224, .f32⟩ : BufTy).Contents (Elt F)),
    binary main_v88 main_v89 main_v90 ((fun l r => Host.dotGeneral dot_S224x26_S26x224_S224x224_1_0_0_1_n_n none l r) : (⟨S224x26, .f32⟩ : BufTy).Contents (Elt F) → (⟨S26x224, .f32⟩ : BufTy).Contents (Elt F) → (⟨S224x224, .f32⟩ : BufTy).Contents (Elt F)),
    reshape main_v90 main_v91 (rfl : (.f32 : EltTy) = .f32) shapeCasts_S224x224_S1x1x224x224 ]

/-- @main's 134 operations, in order (a called function's operations stand in its call's place, spelt `TRef.…`). -/
abbrev ops : List (HloOp τ sig (Elt F)) :=
  ops_part0 ++ (ops_part1 ++ (ops_part2))

set_option maxRecDepth 8192 in
set_option maxHeartbeats 4000000 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨binary_bufs_sub .., nullary_bufs_sub .., binary_bufs_sub .., unary_bufs_sub .., binary_bufs_sub .., nullary_bufs_sub .., binary_bufs_sub .., unary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., unary_bufs_sub .., nullary_bufs_sub .., binary_bufs_sub .., nullary_bufs_sub .., nullary_bufs_sub .., nullary_bufs_sub .., quaternary_bufs_sub .., quaternary_bufs_sub .., nullary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨nullary_bufs_sub .., nullary_bufs_sub .., quaternary_bufs_sub .., quaternary_bufs_sub .., nullary_bufs_sub .., binary_bufs_sub .., nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., unaryIndexed_bufs_sub .., reshape_bufs_sub .., unary_bufs_sub .., nullary_bufs_sub .., binary_bufs_sub .., nullary_bufs_sub .., binary_bufs_sub .., ternary_bufs_sub .., unaryIndexed_bufs_sub .., reshape_bufs_sub .., nullary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨binary_bufs_sub .., nullary_bufs_sub .., binary_bufs_sub .., ternary_bufs_sub .., nullary_bufs_sub .., nullary_bufs_sub .., binary_bufs_sub .., nullary_bufs_sub ..⟩
set_option maxRecDepth 8192 in
theorem ops_part0_2_fresh : (ops_part0_2 : List (HloOp τ sig (Elt F))).Forall fun op => op.fresh = ∅ :=
  ⟨rfl, rfl, rfl, rfl, rfl, rfl, rfl, rfl⟩
set_option maxRecDepth 8192 in
theorem ops_part1_sub : (ops_part1 : List (HloOp τ sig (Elt F))).Forall fun op => op.bufs ⊆ tcRefs τ sig :=
  ⟨nullary_bufs_sub .., binary_bufs_sub .., nullary_bufs_sub .., ternary_bufs_sub .., unaryIndexed_bufs_sub .., reshape_bufs_sub .., unary_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub .., unary_bufs_sub .., unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., unary_bufs_sub .., binary_bufs_sub .., unary_bufs_sub .., nullary_bufs_sub .., binary_bufs_sub .., binary_bufs_sub .., nullary_bufs_sub .., binary_bufs_sub ..⟩
set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_sub : (ops_part2 : List (HloOp τ sig (Elt F))).Forall fun op => op.bufs ⊆ tcRefs τ sig :=
  ⟨binary_bufs_sub .., reshape_bufs_sub .., binary_bufs_sub .., unary_bufs_sub .., binary_bufs_sub .., reshape_bufs_sub ..⟩
set_option maxRecDepth 8192 in
theorem ops_part2_fresh : (ops_part2 : List (HloOp τ sig (Elt F))).Forall fun op => op.fresh = ∅ :=
  ⟨rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, List.mem_append, or_assoc] at h
    rcases h with h | h | h | h | h
    exacts [List.forall_iff_forall_mem.mp ops_part0_0_sub op h, List.forall_iff_forall_mem.mp ops_part0_1_sub op h, List.forall_iff_forall_mem.mp ops_part0_2_sub op h, List.forall_iff_forall_mem.mp ops_part1_sub op h, List.forall_iff_forall_mem.mp ops_part2_sub op h]
theorem ops_fresh : ∀ op ∈ (ops : List (HloOp τ sig (Elt F))), op.fresh = ∅ := fun op h => by
    simp only [ops, ops_part0, List.mem_append, or_assoc] at h
    rcases h with h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_fresh op h, List.forall_iff_forall_mem.mp ops_part2_fresh op h]

set_option maxRecDepth 8192 in
/-- `main_v17`'s composed term of the arguments (named: it is used 3 times). -/
def res_main_v17 (V0 : Valuation τ sig (Elt F)) : (Proc.devRef .tc main_v17 : DevRef τ sig).ty.Contents (Elt F) :=
  Host.sqrt (maximumf (subf (addf (broadcastInDim S676x16384 ![0, 1] bcast_S676x1_S676x16384_0_1 (broadcastInDim S676x1 ![0] bcast_S676_S676x1_0 (Host.reduceAdd (mulf (V0 (Proc.devRef .tc main_arg0)) (V0 (Proc.devRef .tc main_arg0))) (constant S_ .f32 0x00000000#32) reducesTo_S676x1536_S676_d1 h_S_))) (broadcastInDim S676x16384 ![0, 1] bcast_S1x16384_S676x16384_0_1 (transpose S1x16384 [1, 0] (broadcastInDim S16384x1 ![0] bcast_S16384_S16384x1_0 (Host.reduceAdd (mulf (V0 (Proc.devRef .tc main_arg1)) (V0 (Proc.devRef .tc main_arg1))) (constant S_ .f32 0x00000000#32) reducesTo_S16384x1536_S16384_d1 h_S_)) transposes_S16384x1_S1x16384_1_0))) (mulf (broadcastInDim S676x16384 ![] bcast_S_S676x16384 (constant S_ .f32 0x40000000#32)) (Host.dotGeneral dot_S676x1536_S1536x16384_S676x16384_1_0_0_1_n_n none (V0 (Proc.devRef .tc main_arg0)) (transpose S1536x16384 [1, 0] (V0 (Proc.devRef .tc main_arg1)) transposes_S16384x1536_S1536x16384_1_0)))) (broadcastInDim S676x16384 ![] bcast_S_S676x16384 (constant S_ .f32 0x2B8CBCCC#32)))

set_option maxRecDepth 8192 in
/-- `main_v18`'s composed term of the arguments (named: it is used 4 times). -/
def res_main_v18 (V0 : Valuation τ sig (Elt F)) : (Proc.devRef .tc main_v18 : DevRef τ sig).ty.Contents (Elt F) :=
  Host.reduce FloatOps.minimumf (res_main_v17 V0) (constant S_ .f32 0x7F800000#32) reducesTo_S676x16384_S676_d1 h_S_

set_option maxRecDepth 8192 in
/-- `main_call0_v0`'s composed term of the arguments (named: it is used 2 times). -/
def res_main_call0_v0 (V0 : Valuation τ sig (Elt F)) : (Proc.devRef .tc main_call0_v0 : DevRef τ sig).ty.Contents (Elt F) :=
  iotaInDim S676x16384 32 1

set_option maxRecDepth 8192 in
/-- `main_call0_cst`'s composed term of the arguments (named: it is used 2 times). -/
def res_main_call0_cst (V0 : Valuation τ sig (Elt F)) : (Proc.devRef .tc main_call0_cst : DevRef τ sig).ty.Contents (Elt F) :=
  constant S_ .f32 0x7F800000#32

set_option maxRecDepth 8192 in
/-- `main_call0_c`'s composed term of the arguments (named: it is used 2 times). -/
def res_main_call0_c (V0 : Valuation τ sig (Elt F)) : (Proc.devRef .tc main_call0_c : DevRef τ sig).ty.Contents (Elt F) :=
  constantI S_ 32 0#32

set_option maxRecDepth 8192 in
/-- `main_call1_v0`'s composed term of the arguments (named: it is used 2 times). -/
def res_main_call1_v0 (V0 : Valuation τ sig (Elt F)) : (Proc.devRef .tc main_call1_v0 : DevRef τ sig).ty.Contents (Elt F) :=
  iotaInDim S676 32 0

set_option maxRecDepth 8192 in
/-- `main_call1_cst`'s composed term of the arguments (named: it is used 2 times). -/
def res_main_call1_cst (V0 : Valuation τ sig (Elt F)) : (Proc.devRef .tc main_call1_cst : DevRef τ sig).ty.Contents (Elt F) :=
  constant S_ .f32 0xFF800000#32

set_option maxRecDepth 8192 in
/-- `main_call1_c`'s composed term of the arguments (named: it is used 2 times). -/
def res_main_call1_c (V0 : Valuation τ sig (Elt F)) : (Proc.devRef .tc main_call1_c : DevRef τ sig).ty.Contents (Elt F) :=
  constantI S_ 32 0#32

set_option maxRecDepth 8192 in
/-- `main_v20`'s composed term of the arguments (named: it is used 6 times). -/
def res_main_v20 (V0 : Valuation τ sig (Elt F)) : (Proc.devRef .tc main_v20 : DevRef τ sig).ty.Contents (Elt F) :=
  (fun j => (Host.argReduce reducer_argmax_f32_i32 (res_main_v18 V0) (res_main_call1_v0 V0) (res_main_call1_cst V0) (res_main_call1_c V0) reducesTo_S676_S_d0 h_S_ j).2)

set_option maxRecDepth 8192 in
/-- `main_v21`'s composed term of the arguments (named: it is used 2 times). -/
def res_main_v21 (V0 : Valuation τ sig (Elt F)) : (Proc.devRef .tc main_v21 : DevRef τ sig).ty.Contents (Elt F) :=
  Host.reduce FloatOps.maximumf (res_main_v18 V0) (constant S_ .f32 0xFF800000#32) reducesTo_S676_S_d0 h_S_

set_option maxRecDepth 8192 in
/-- `main_v35`'s composed term of the arguments (named: it is used 3 times). -/
def res_main_v35 (V0 : Valuation τ sig (Elt F)) : (Proc.devRef .tc main_v35 : DevRef τ sig).ty.Contents (Elt F) :=
  shapeCast _ (Host.dynamicSlice S1 ((fun j => (Host.argReduce reducer_argmin_f32_i32 (res_main_v17 V0) (res_main_call0_v0 V0) (res_main_call0_cst V0) (res_main_call0_c V0) reducesTo_S676x16384_S676_d1 h_S_ j).2)) (fun k => (((![select (cmpi .slt (res_main_v20 V0) (constantI S_ 32 0#32)) (addi (res_main_v20 V0) (constantI S_ 32 676#32)) (res_main_v20 V0)] : Fin 1 → (⟨S_, .i32⟩ : BufTy).Contents (Elt F))) k (Shape.Idx.first h_S_)).toInt) sliceFits_S676_S1) shapeCasts_S1_S_

set_option maxRecDepth 8192 in
/-- `main_v44`'s composed term of the arguments (named: it is used 3 times). -/
def res_main_v44 (V0 : Valuation τ sig (Elt F)) : (Proc.devRef .tc main_v44 : DevRef τ sig).ty.Contents (Elt F) :=
  broadcastInDim S1x1536 ![1] bcast_S1536_S1x1536_1 (shapeCast _ (Host.dynamicSlice S1x1536 (V0 (Proc.devRef .tc main_arg1)) (fun k => (((![select (cmpi .slt (res_main_v35 V0) (constantI S_ 32 0#32)) (addi (res_main_v35 V0) (constantI S_ 32 16384#32)) (res_main_v35 V0), select (cmpi .slt (constantI S_ 32 0#32) (constantI S_ 32 0#32)) (addi (constantI S_ 32 0#32) (constantI S_ 32 1536#32)) (constantI S_ 32 0#32)] : Fin 2 → (⟨S_, .i32⟩ : BufTy).Contents (Elt F))) k (Shape.Idx.first h_S_)).toInt) sliceFits_S16384x1536_S1x1536) shapeCasts_S1x1536_S1536)

set_option maxRecDepth 8192 in
/-- `main_v62`'s composed term of the arguments (named: it is used 2 times). -/
def res_main_v62 (V0 : Valuation τ sig (Elt F)) : (Proc.devRef .tc main_v62 : DevRef τ sig).ty.Contents (Elt F) :=
  Host.negf (Host.sqrt (maximumf (subf (addf (broadcastInDim S1x16384 ![0, 1] bcast_S1x1_S1x16384_0_1 (broadcastInDim S1x1 ![0] bcast_S1_S1x1_0 (Host.reduceAdd (mulf (res_main_v44 V0) (res_main_v44 V0)) (constant S_ .f32 0x00000000#32) reducesTo_S1x1536_S1_d1 h_S_))) (transpose S1x16384 [1, 0] (broadcastInDim S16384x1 ![0] bcast_S16384_S16384x1_0 (Host.reduceAdd (mulf (V0 (Proc.devRef .tc main_arg1)) (V0 (Proc.devRef .tc main_arg1))) (constant S_ .f32 0x00000000#32) reducesTo_S16384x1536_S16384_d1 h_S_)) transposes_S16384x1_S1x16384_1_0)) (mulf (broadcastInDim S1x16384 ![] bcast_S_S1x16384 (constant S_ .f32 0x40000000#32)) (Host.dotGeneral dot_S1x1536_S1536x16384_S1x16384_1_0_0_1_n_n none (res_main_v44 V0) (transpose S1536x16384 [1, 0] (V0 (Proc.devRef .tc main_arg1)) transposes_S16384x1536_S1536x16384_1_0)))) (broadcastInDim S1x16384 ![] bcast_S_S1x16384 (constant S_ .f32 0x2B8CBCCC#32))))

set_option maxRecDepth 8192 in
/-- `main_v64`'s composed term of the arguments (named: it is used 3 times). -/
def res_main_v64 (V0 : Valuation τ sig (Elt F)) : (Proc.devRef .tc main_v64 : DevRef τ sig).ty.Contents (Elt F) :=
  shapeCast _ (extractStridedSlice S1x2 ![0, 1] ((Host.topK S1x3 1 (FloatOps.cmpfTotal .gt) (res_main_v62 V0) sliceFits_S1x16384_S1x3).2) slices_S1x3_S1x2_0_1) shapeCasts_S1x2_S2

set_option maxRecDepth 8192 in
/-- `main_v73`'s composed term of the arguments (named: it is used 2 times). -/
def res_main_v73 (V0 : Valuation τ sig (Elt F)) : (Proc.devRef .tc main_v73 : DevRef τ sig).ty.Contents (Elt F) :=
  subf (broadcastInDim S2x1536 ![0, 1] bcast_S1x1536_S2x1536_0_1 (broadcastInDim S1x1536 ![1] bcast_S1536_S1x1536_1 (shapeCast _ (Host.dynamicSlice S1x1536 (V0 (Proc.devRef .tc main_arg0)) (fun k => (((![select (cmpi .slt (res_main_v20 V0) (constantI S_ 32 0#32)) (addi (res_main_v20 V0) (constantI S_ 32 676#32)) (res_main_v20 V0), select (cmpi .slt (constantI S_ 32 0#32) (constantI S_ 32 0#32)) (addi (constantI S_ 32 0#32) (constantI S_ 32 1536#32)) (constantI S_ 32 0#32)] : Fin 2 → (⟨S_, .i32⟩ : BufTy).Contents (Elt F))) k (Shape.Idx.first h_S_)).toInt) sliceFits_S676x1536_S1x1536) shapeCasts_S1x1536_S1536))) (Host.gather gather_S16384x1536_S2x1_S2x1536_1_0_n_n_0_1_11536 (V0 (Proc.devRef .tc main_arg1)) (broadcastInDim S2x1 ![0] bcast_S2_S2x1_0 (select (cmpi .slt (res_main_v64 V0) (broadcastInDim S2 ![] bcast_S_S2 (constantI S_ 32 0#32))) (addi (res_main_v64 V0) (broadcastInDim S2 ![] bcast_S_S2 (constantI S_ 32 16384#32))) (res_main_v64 V0))))

set_option maxRecDepth 8192 in
/-- `main_v77`'s composed term of the arguments (named: it is used 2 times). -/
def res_main_v77 (V0 : Valuation τ sig (Elt F)) : (Proc.devRef .tc main_v77 : DevRef τ sig).ty.Contents (Elt F) :=
  Host.sqrt (constant S_ .f32 0x44C00000#32)

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_cst, main_v1, main_v2, main_v3, main_cst_0, main_v4, main_v5, main_v6, main_v7, main_v8, main_v9, main_v10, main_v11, main_cst_1, main_v12, main_v13, main_v14, main_cst_2, main_v15, main_v16, main_v17, main_cst_3, main_v18, main_call0_v0, main_call0_cst, main_call0_c, main_call0_v1_0, main_v19, main_call1_v0]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
set_option maxRecDepth 8192 in
set_option maxHeartbeats 2000000 in
theorem val0_1_main_v18 (V0 : Valuation τ sig (Elt F)) : val0_1 V0 (no_index (Proc.devRef .tc main_v18)) = res_main_v18 V0 := by
  unfold val0_1
  simp only [ops_part0_0, TRef.nullary, TRef.quaternary, TRef.toBuf, TRef.ofBuf, cast_eq]
  after_results_entrywise [val0_main_arg1, val0_main_arg0, res_main_v17, res_main_v18, cast_eq]
set_option maxRecDepth 8192 in
set_option maxHeartbeats 2000000 in
theorem val0_1_main_v19 (V0 : Valuation τ sig (Elt F)) : val0_1 V0 (no_index (Proc.devRef .tc main_v19)) = (fun j => (Host.argReduce reducer_argmin_f32_i32 (res_main_v17 V0) (res_main_call0_v0 V0) (res_main_call0_cst V0) (res_main_call0_c V0) reducesTo_S676x16384_S676_d1 h_S_ j).2) := by
  unfold val0_1
  simp only [ops_part0_0, TRef.nullary, TRef.quaternary, TRef.toBuf, TRef.ofBuf, cast_eq]
  after_results_entrywise [val0_main_arg1, val0_main_arg0, res_main_v17, res_main_call0_v0, res_main_call0_cst, res_main_call0_c, cast_eq]
set_option maxRecDepth 8192 in
set_option maxHeartbeats 2000000 in
theorem val0_1_main_call1_v0 (V0 : Valuation τ sig (Elt F)) : val0_1 V0 (no_index (Proc.devRef .tc main_call1_v0)) = res_main_call1_v0 V0 := by
  unfold val0_1
  simp only [ops_part0_0, TRef.nullary, TRef.quaternary, TRef.toBuf, TRef.ofBuf, cast_eq]
  after_results_entrywise [res_main_call1_v0, cast_eq]

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_call1_cst, main_call1_c, main_call1_v1_0, main_v20, main_cst_4, main_v21, main_c, main_v22, main_c_5, main_v23, main_v24, main_c_6, main_c_7, main_v25, main_c_8, main_c_9, main_v26, main_c_10, main_v27, main_v28, main_v29, main_v30, main_c_11, main_v31, main_c_12, main_v32, main_v33, main_v34, main_v35, main_c_13]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_v18 (V0 : Valuation τ sig (Elt F)) : val0_2 V0 (no_index (Proc.devRef .tc main_v18)) = res_main_v18 V0 :=
  (val0_2_keep V0 main_v18 (by decide)).trans (val0_1_main_v18 V0)
set_option maxRecDepth 8192 in
set_option maxHeartbeats 2000000 in
theorem val0_2_main_v21 (V0 : Valuation τ sig (Elt F)) : val0_2 V0 (no_index (Proc.devRef .tc main_v21)) = res_main_v21 V0 := by
  unfold val0_2
  simp only [ops_part0_1, TRef.nullary, TRef.quaternary, TRef.toBuf, TRef.ofBuf, cast_eq]
  after_results_entrywise [val0_1_main_v18, res_main_v21, cast_eq]
set_option maxRecDepth 8192 in
set_option maxHeartbeats 2000000 in
theorem val0_2_main_v30 (V0 : Valuation τ sig (Elt F)) : val0_2 V0 (no_index (Proc.devRef .tc main_v30)) = broadcastInDim S1x1536 ![1] bcast_S1536_S1x1536_1 (shapeCast _ (Host.dynamicSlice S1x1536 (V0 (Proc.devRef .tc main_arg0)) (fun k => (((![select (cmpi .slt (res_main_v20 V0) (constantI S_ 32 0#32)) (addi (res_main_v20 V0) (constantI S_ 32 676#32)) (res_main_v20 V0), select (cmpi .slt (constantI S_ 32 0#32) (constantI S_ 32 0#32)) (addi (constantI S_ 32 0#32) (constantI S_ 32 1536#32)) (constantI S_ 32 0#32)] : Fin 2 → (⟨S_, .i32⟩ : BufTy).Contents (Elt F))) k (Shape.Idx.first h_S_)).toInt) sliceFits_S676x1536_S1x1536) shapeCasts_S1x1536_S1536) := by
  unfold val0_2
  simp only [ops_part0_1, TRef.nullary, TRef.quaternary, TRef.toBuf, TRef.ofBuf, cast_eq]
  after_results_entrywise [val0_1_main_call1_v0, val0_1_main_v18, val0_1_main_arg0, res_main_call1_cst, res_main_call1_c, res_main_v20, cast_eq]
set_option maxRecDepth 8192 in
set_option maxHeartbeats 2000000 in
theorem val0_2_main_v35 (V0 : Valuation τ sig (Elt F)) : val0_2 V0 (no_index (Proc.devRef .tc main_v35)) = res_main_v35 V0 := by
  unfold val0_2
  simp only [ops_part0_1, TRef.nullary, TRef.quaternary, TRef.toBuf, TRef.ofBuf, cast_eq]
  after_results_entrywise [val0_1_main_call1_v0, val0_1_main_v18, val0_1_main_v19, res_main_call1_cst, res_main_call1_c, res_main_v20, res_main_v35, cast_eq]
set_option maxRecDepth 8192 in
set_option maxHeartbeats 2000000 in
theorem val0_2_main_c_13 (V0 : Valuation τ sig (Elt F)) : val0_2 V0 (no_index (Proc.devRef .tc main_c_13)) = constantI S_ 32 0#32 := by
  unfold val0_2
  simp only [ops_part0_1, TRef.nullary, TRef.quaternary, TRef.toBuf, TRef.ofBuf, cast_eq]
  after_results_entrywise [cast_eq]

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_v36, main_c_14, main_v37, main_v38, main_c_15, main_c_16, main_v39, main_c_17]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_arg2 (V0 : Valuation τ sig (Elt F)) : val1 V0 (no_index (Proc.devRef .tc main_arg2)) = V0 (Proc.devRef .tc main_arg2) :=
  (val1_keep V0 main_arg2 (by decide)).trans (val0_2_main_arg2 V0)
theorem val1_main_v18 (V0 : Valuation τ sig (Elt F)) : val1 V0 (no_index (Proc.devRef .tc main_v18)) = res_main_v18 V0 :=
  (val1_keep V0 main_v18 (by decide)).trans (val0_2_main_v18 V0)
theorem val1_main_v21 (V0 : Valuation τ sig (Elt F)) : val1 V0 (no_index (Proc.devRef .tc main_v21)) = res_main_v21 V0 :=
  (val1_keep V0 main_v21 (by decide)).trans (val0_2_main_v21 V0)
theorem val1_main_v30 (V0 : Valuation τ sig (Elt F)) : val1 V0 (no_index (Proc.devRef .tc main_v30)) = broadcastInDim S1x1536 ![1] bcast_S1536_S1x1536_1 (shapeCast _ (Host.dynamicSlice S1x1536 (V0 (Proc.devRef .tc main_arg0)) (fun k => (((![select (cmpi .slt (res_main_v20 V0) (constantI S_ 32 0#32)) (addi (res_main_v20 V0) (constantI S_ 32 676#32)) (res_main_v20 V0), select (cmpi .slt (constantI S_ 32 0#32) (constantI S_ 32 0#32)) (addi (constantI S_ 32 0#32) (constantI S_ 32 1536#32)) (constantI S_ 32 0#32)] : Fin 2 → (⟨S_, .i32⟩ : BufTy).Contents (Elt F))) k (Shape.Idx.first h_S_)).toInt) sliceFits_S676x1536_S1x1536) shapeCasts_S1x1536_S1536) :=
  (val1_keep V0 main_v30 (by decide)).trans (val0_2_main_v30 V0)
set_option maxRecDepth 8192 in
theorem val1_main_v38 (V0 : Valuation τ sig (Elt F)) : val1 V0 (no_index (Proc.devRef .tc main_v38)) = select (cmpi .slt (res_main_v35 V0) (constantI S_ 32 0#32)) (addi (res_main_v35 V0) (constantI S_ 32 16384#32)) (res_main_v35 V0) := by
  unfold val1
  simp only [ops_part0_2]
  after_results_entrywise [val0_2_main_v35, val0_2_main_c_13, cast_eq]
set_option maxRecDepth 8192 in
theorem val1_main_v39 (V0 : Valuation τ sig (Elt F)) : val1 V0 (no_index (Proc.devRef .tc main_v39)) = cmpi .slt (constantI S_ 32 0#32) (constantI S_ 32 0#32) := by
  unfold val1
  simp only [ops_part0_2]
  after_results_entrywise [cast_eq]
set_option maxRecDepth 8192 in
theorem val1_main_c_17 (V0 : Valuation τ sig (Elt F)) : val1 V0 (no_index (Proc.devRef .tc main_c_17)) = constantI S_ 32 0#32 := by
  unfold val1
  simp only [ops_part0_2]
  after_results_entrywise [cast_eq]

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_c_18, main_v40, main_c_19, main_v41, main_v42, main_v43, main_v44, main_v45, main_cst_20, main_v46, main_v47, main_v48, main_cst_21, main_v49, main_v50, main_v51, main_v52, main_v53, main_v54, main_v55, main_cst_22, main_v56, main_v57, main_v58, main_cst_23, main_v59, main_v60, main_v61, main_v62, main_values, main_indices, main_v63, main_v64, main_c_24, main_v65, main_v66, main_c_25, main_v67, main_v68, main_v69, main_v70, main_v71, main_v72, main_v73, main_v74, main_cst_26, main_v75, main_v76, main_cst_27, main_v77, main_v78, main_v79, main_v80, main_v81, main_v82, main_cst_28, main_v83, main_v84, main_cst_29, main_v85]
set_option maxRecDepth 8192 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_v18 (V0 : Valuation τ sig (Elt F)) : val2 V0 (no_index (Proc.devRef .tc main_v18)) = res_main_v18 V0 :=
  (val2_keep V0 main_v18 (by decide)).trans (val1_main_v18 V0)
theorem val2_main_v21 (V0 : Valuation τ sig (Elt F)) : val2 V0 (no_index (Proc.devRef .tc main_v21)) = res_main_v21 V0 :=
  (val2_keep V0 main_v21 (by decide)).trans (val1_main_v21 V0)
set_option maxRecDepth 8192 in
set_option maxHeartbeats 2000000 in
theorem val2_main_v85 (V0 : Valuation τ sig (Elt F)) : val2 V0 (no_index (Proc.devRef .tc main_v85)) = subf (constant S_ .f32 0x3F800000#32) (Host.divf (Host.exp (Host.divf (res_main_v21 V0) (res_main_v77 V0))) (Host.reduceAdd (Host.exp (Host.divf (Host.sqrt (Host.reduceAdd (mulf (res_main_v73 V0) (res_main_v73 V0)) (constant S_ .f32 0x00000000#32) reducesTo_S2x1536_S2_d1 h_S_)) (broadcastInDim S2 ![] bcast_S_S2 (res_main_v77 V0)))) (constant S_ .f32 0x00000000#32) reducesTo_S2_S_d0 h_S_)) := by
  unfold val2
  simp only [ops_part1]
  after_results_entrywise [val1_main_c_17, val1_main_v39, val1_main_v38, val1_main_arg1, val1_main_v30, val1_main_v21, res_main_v44, res_main_v62, res_main_v64, res_main_v73, res_main_v77, cast_eq]

/-- The device's buffer contents after @main's first 3 windows. -/
def val3 (V0 : Valuation τ sig (Elt F)) : Valuation τ sig (Elt F) := after ops_part2 (val2 V0)
/-- The buffers that window `main_part2`'s operations write. -/
abbrev ops_part2_W : List (Ref sig .tc) := [main_v86, main_v87, main_v88, main_v89, main_v90, main_v91]
set_option maxRecDepth 8192 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part2` does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
set_option maxRecDepth 8192 in
theorem val3_main_v86 (V0 : Valuation τ sig (Elt F)) : val3 V0 (no_index (Proc.devRef .tc main_v86)) = mulf (subf (constant S_ .f32 0x3F800000#32) (Host.divf (Host.exp (Host.divf (res_main_v21 V0) (res_main_v77 V0))) (Host.reduceAdd (Host.exp (Host.divf (Host.sqrt (Host.reduceAdd (mulf (res_main_v73 V0) (res_main_v73 V0)) (constant S_ .f32 0x00000000#32) reducesTo_S2x1536_S2_d1 h_S_)) (broadcastInDim S2 ![] bcast_S_S2 (res_main_v77 V0)))) (constant S_ .f32 0x00000000#32) reducesTo_S2_S_d0 h_S_))) (res_main_v21 V0) := by
  unfold val3
  simp only [ops_part2]
  after_results_entrywise [val2_main_v21, val2_main_v85, cast_eq]
set_option maxRecDepth 8192 in
theorem val3_main_v91 (V0 : Valuation τ sig (Elt F)) : val3 V0 (no_index (Proc.devRef .tc main_v91)) = shapeCast _ (Host.dotGeneral dot_S224x26_S26x224_S224x224_1_0_0_1_n_n none (Host.dotGeneral dot_S224x26_S26x26_S224x26_1_0_0_1_n_n none (V0 (Proc.devRef .tc main_arg2)) (shapeCast _ (res_main_v18 V0) shapeCasts_S676_S26x26)) (transpose S26x224 [1, 0] (V0 (Proc.devRef .tc main_arg2)) transposes_S224x26_S26x224_1_0)) shapeCasts_S224x224_S1x1x224x224 := by
  unfold val3
  simp only [ops_part2]
  after_results_entrywise [val2_main_arg2, val2_main_v18, cast_eq]

theorem after_ops (V0 : Valuation τ sig (Elt F)) : after ops V0 = val3 V0 := by
  simp only [ops, ops_part0, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v86) = mulf (subf (constant S_ .f32 0x3F800000#32) (Host.divf (Host.exp (Host.divf (res_main_v21 (launchContents m c)) (res_main_v77 (launchContents m c)))) (Host.reduceAdd (Host.exp (Host.divf (Host.sqrt (Host.reduceAdd (mulf (res_main_v73 (launchContents m c)) (res_main_v73 (launchContents m c))) (constant S_ .f32 0x00000000#32) reducesTo_S2x1536_S2_d1 h_S_)) (broadcastInDim S2 ![] bcast_S_S2 (res_main_v77 (launchContents m c))))) (constant S_ .f32 0x00000000#32) reducesTo_S2_S_d0 h_S_))) (res_main_v21 (launchContents m c))
      ∧ r.2.mem ((c.tc : Thread nD τ).loc main_v91) = shapeCast _ (Host.dotGeneral dot_S224x26_S26x224_S224x224_1_0_0_1_n_n none (Host.dotGeneral dot_S224x26_S26x26_S224x26_1_0_0_1_n_n none ((launchContents m c) (Proc.devRef .tc main_arg2)) (shapeCast _ (res_main_v18 (launchContents m c)) shapeCasts_S676_S26x26)) (transpose S26x224 [1, 0] ((launchContents m c) (Proc.devRef .tc main_arg2)) transposes_S224x26_S26x224_1_0)) shapeCasts_S224x224_S1x1x224x224
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v86).trans ((congrFun (after_ops (launchContents m c)) (Proc.devRef .tc main_v86)).trans (val3_main_v86 (launchContents m c))),
      (h c main_v91).trans ((congrFun (after_ops (launchContents m c)) (Proc.devRef .tc main_v91)).trans (val3_main_v91 (launchContents m c))),
      (h c main_arg0).trans ((congrFun (after_ops (launchContents m c)) (Proc.devRef .tc main_arg0)).trans (val3_main_arg0 (launchContents m c))),
      (h c main_arg1).trans ((congrFun (after_ops (launchContents m c)) (Proc.devRef .tc main_arg1)).trans (val3_main_arg1 (launchContents m c))),
      (h c main_arg2).trans ((congrFun (after_ops (launchContents m c)) (Proc.devRef .tc main_arg2)).trans (val3_main_arg2 (launchContents m c)))⟩)
    (run_seq scopedRefs_eq scopedSems_eq defs main (fun _ => ops) main_eq (fun _ => ops_sub) m ρ fun _ => ops_fresh)

end Cert.ReferenceIdeal.Value

end
-- ==== Proof.RefRead.lean ====
/- The reference program, one operation at a time: each value as a function of the arguments, and how its elements read. -/
module

public import proofs.«01_k».proof.Proof.RefRun
public import Idealize.ShloMosaic.Lib.Pipeline.Value
public import Idealize.ShloMosaic.Lib.ValueIdx
public import Idealize.ShloMosaic.PureOps.Ideal.Laws

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

-- %0 = stablehlo.multiply %arg0, %arg0 : tensor<676x1536xf32>
def val_main_v0 (x0 : (⟨S676x1536, .f32⟩ : BufTy).Contents (Elt F)) : (⟨S676x1536, .f32⟩ : BufTy).Contents (Elt F) :=
  mulf (x0) (x0)
theorem val_main_v0_apply (x0 : (⟨S676x1536, .f32⟩ : BufTy).Contents (Elt F)) (i : S676x1536.Idx) :
    val_main_v0 (F := F) x0 i = FloatOps.mulf (x0 i) (x0 i) := rfl

-- %cst = stablehlo.constant dense<0.000000e+00> : tensor<f32>
def val_main_cst : (⟨S_, .f32⟩ : BufTy).Contents (Elt F) :=
  constant S_ .f32 0x00000000#32
theorem val_main_cst_apply (i : S_.Idx) :
    val_main_cst (F := F) i = FloatOps.ofBits .f32 0x00000000#32 := rfl

-- %1 = stablehlo.reduce(%0 init: %cst) applies stablehlo.add across dimensions = [1] : (tensor<676x1536xf32>, tensor<f32>) -> tensor<676xf32> {
def val_main_v1 (x0 : (⟨S676x1536, .f32⟩ : BufTy).Contents (Elt F)) : (⟨S676, .f32⟩ : BufTy).Contents (Elt F) :=
  Host.reduceAdd (val_main_v0 (F := F) x0) (val_main_cst (F := F)) reducesTo_S676x1536_S676_d1 h_S_
abbrev idx_main_v1 (i : S676.Idx) (k : Fin 1536) : S676x1536.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v1_apply (x0 : (⟨S676x1536, .f32⟩ : BufTy).Contents (Elt Ideal)) (i : S676.Idx) :
    val_main_v1 (F := Ideal) x0 i = (val_main_cst (F := Ideal)) (Shape.Idx.first h_S_) + ∑ k : Fin 1536, (val_main_v0 (F := Ideal) x0) (idx_main_v1 i k) := by
  unfold val_main_v1
  generalize val_main_v0 (F := Ideal) x0 = y0
  simp only [Host.reduceAdd, Ideal.hostReduceAdd_def]
  rw [Ideal.hostReduceAdd_single reducesTo_S676x1536_S676_d1 (by decide)]
  refine congrArg (_ + ·) (Finset.sum_congr rfl fun k _ => ?_)
  exact congrArg y0 (funext fun a => Fin.ext (by match a with | ⟨0, _⟩ => rfl | ⟨1, _⟩ => rfl))

-- %2 = stablehlo.broadcast_in_dim %1, dims = [0] : (tensor<676xf32>) -> tensor<676x1xf32>
def val_main_v2 (x0 : (⟨S676x1536, .f32⟩ : BufTy).Contents (Elt F)) : (⟨S676x1, .f32⟩ : BufTy).Contents (Elt F) :=
  broadcastInDim S676x1 ![0] bcast_S676_S676x1_0 (val_main_v1 (F := F) x0)
abbrev idx_main_v2 (i : S676x1.Idx) : S676.Idx := fun a => match a with
  | ⟨0, _⟩ => ⟨(i 0).val, (i 0).isLt⟩
theorem val_main_v2_apply (x0 : (⟨S676x1536, .f32⟩ : BufTy).Contents (Elt F)) (i : S676x1.Idx) :
    val_main_v2 (F := F) x0 i = val_main_v1 (F := F) x0 (idx_main_v2 i) := by
  unfold val_main_v2
  generalize val_main_v1 (F := F) x0 = y
  exact broadcastInDim_apply _ bcast_S676_S676x1_0 y i (idx_main_v2 i) (fun a => match a with
    | ⟨0, _⟩ => by show (i 0).val = if (676 : Nat) = 1 then 0 else (i 0).val; rw [if_neg (by decide)])

-- %3 = stablehlo.multiply %arg1, %arg1 : tensor<16384x1536xf32>
def val_main_v3 (x1 : (⟨S16384x1536, .f32⟩ : BufTy).Contents (Elt F)) : (⟨S16384x1536, .f32⟩ : BufTy).Contents (Elt F) :=
  mulf (x1) (x1)
theorem val_main_v3_apply (x1 : (⟨S16384x1536, .f32⟩ : BufTy).Contents (Elt F)) (i : S16384x1536.Idx) :
    val_main_v3 (F := F) x1 i = FloatOps.mulf (x1 i) (x1 i) := rfl

-- %cst_0 = stablehlo.constant dense<0.000000e+00> : tensor<f32>
def val_main_cst_0 : (⟨S_, .f32⟩ : BufTy).Contents (Elt F) :=
  constant S_ .f32 0x00000000#32
theorem val_main_cst_0_apply (i : S_.Idx) :
    val_main_cst_0 (F := F) i = FloatOps.ofBits .f32 0x00000000#32 := rfl

-- %4 = stablehlo.reduce(%3 init: %cst_0) applies stablehlo.add across dimensions = [1] : (tensor<16384x1536xf32>, tensor<f32>) -> tensor<16384xf32> {
def val_main_v4 (x1 : (⟨S16384x1536, .f32⟩ : BufTy).Contents (Elt F)) : (⟨S16384, .f32⟩ : BufTy).Contents (Elt F) :=
  Host.reduceAdd (val_main_v3 (F := F) x1) (val_main_cst_0 (F := F)) reducesTo_S16384x1536_S16384_d1 h_S_
abbrev idx_main_v4 (i : S16384.Idx) (k : Fin 1536) : S16384x1536.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v4_apply (x1 : (⟨S16384x1536, .f32⟩ : BufTy).Contents (Elt Ideal)) (i : S16384.Idx) :
    val_main_v4 (F := Ideal) x1 i = (val_main_cst_0 (F := Ideal)) (Shape.Idx.first h_S_) + ∑ k : Fin 1536, (val_main_v3 (F := Ideal) x1) (idx_main_v4 i k) := by
  unfold val_main_v4
  generalize val_main_v3 (F := Ideal) x1 = y0
  simp only [Host.reduceAdd, Ideal.hostReduceAdd_def]
  rw [Ideal.hostReduceAdd_single reducesTo_S16384x1536_S16384_d1 (by decide)]
  refine congrArg (_ + ·) (Finset.sum_congr rfl fun k _ => ?_)
  exact congrArg y0 (funext fun a => Fin.ext (by match a with | ⟨0, _⟩ => rfl | ⟨1, _⟩ => rfl))

-- %5 = stablehlo.broadcast_in_dim %4, dims = [0] : (tensor<16384xf32>) -> tensor<16384x1xf32>
def val_main_v5 (x1 : (⟨S16384x1536, .f32⟩ : BufTy).Contents (Elt F)) : (⟨S16384x1, .f32⟩ : BufTy).Contents (Elt F) :=
  broadcastInDim S16384x1 ![0] bcast_S16384_S16384x1_0 (val_main_v4 (F := F) x1)
abbrev idx_main_v5 (i : S16384x1.Idx) : S16384.Idx := fun a => match a with
  | ⟨0, _⟩ => ⟨(i 0).val, (i 0).isLt⟩
theorem val_main_v5_apply (x1 : (⟨S16384x1536, .f32⟩ : BufTy).Contents (Elt F)) (i : S16384x1.Idx) :
    val_main_v5 (F := F) x1 i = val_main_v4 (F := F) x1 (idx_main_v5 i) := by
  unfold val_main_v5
  generalize val_main_v4 (F := F) x1 = y
  exact broadcastInDim_apply _ bcast_S16384_S16384x1_0 y i (idx_main_v5 i) (fun a => match a with
    | ⟨0, _⟩ => by show (i 0).val = if (16384 : Nat) = 1 then 0 else (i 0).val; rw [if_neg (by decide)])

-- %6 = stablehlo.transpose %5, dims = [1, 0] : (tensor<16384x1xf32>) -> tensor<1x16384xf32>
def val_main_v6 (x1 : (⟨S16384x1536, .f32⟩ : BufTy).Contents (Elt F)) : (⟨S1x16384, .f32⟩ : BufTy).Contents (Elt F) :=
  transpose S1x16384 [1, 0] (val_main_v5 (F := F) x1) transposes_S16384x1_S1x16384_1_0
abbrev idx_main_v6 (i : S1x16384.Idx) : S16384x1.Idx := fun a => match a with
  | ⟨0, _⟩ => ⟨(i 1).val, (i 1).isLt⟩
  | ⟨1, _⟩ => ⟨(i 0).val, (i 0).isLt⟩
theorem val_main_v6_apply (x1 : (⟨S16384x1536, .f32⟩ : BufTy).Contents (Elt F)) (i : S1x16384.Idx) :
    val_main_v6 (F := F) x1 i = val_main_v5 (F := F) x1 (idx_main_v6 i) := by
  unfold val_main_v6
  generalize val_main_v5 (F := F) x1 = y
  exact transpose_apply [1, 0] y transposes_S16384x1_S1x16384_1_0 i (idx_main_v6 i) (fun b => match b with
    | ⟨0, _⟩ => rfl
    | ⟨1, _⟩ => rfl)

-- %7 = stablehlo.broadcast_in_dim %2, dims = [0, 1] : (tensor<676x1xf32>) -> tensor<676x16384xf32>
def val_main_v7 (x0 : (⟨S676x1536, .f32⟩ : BufTy).Contents (Elt F)) : (⟨S676x16384, .f32⟩ : BufTy).Contents (Elt F) :=
  broadcastInDim S676x16384 ![0, 1] bcast_S676x1_S676x16384_0_1 (val_main_v2 (F := F) x0)
abbrev idx_main_v7 (i : S676x16384.Idx) : S676x1.Idx := fun a => match a with
  | ⟨0, _⟩ => ⟨(i 0).val, (i 0).isLt⟩
  | ⟨1, _⟩ => ⟨0, Nat.one_pos⟩
theorem val_main_v7_apply (x0 : (⟨S676x1536, .f32⟩ : BufTy).Contents (Elt F)) (i : S676x16384.Idx) :
    val_main_v7 (F := F) x0 i = val_main_v2 (F := F) x0 (idx_main_v7 i) := by
  unfold val_main_v7
  generalize val_main_v2 (F := F) x0 = y
  exact broadcastInDim_apply _ bcast_S676x1_S676x16384_0_1 y i (idx_main_v7 i) (fun a => match a with
    | ⟨0, _⟩ => by show (i 0).val = if (676 : Nat) = 1 then 0 else (i 0).val; rw [if_neg (by decide)]
    | ⟨1, _⟩ => by show 0 = if (1 : Nat) = 1 then 0 else (i 1).val; rw [if_pos rfl])

-- %8 = stablehlo.broadcast_in_dim %6, dims = [0, 1] : (tensor<1x16384xf32>) -> tensor<676x16384xf32>
def val_main_v8 (x1 : (⟨S16384x1536, .f32⟩ : BufTy).Contents (Elt F)) : (⟨S676x16384, .f32⟩ : BufTy).Contents (Elt F) :=
  broadcastInDim S676x16384 ![0, 1] bcast_S1x16384_S676x16384_0_1 (val_main_v6 (F := F) x1)
abbrev idx_main_v8 (i : S676x16384.Idx) : S1x16384.Idx := fun a => match a with
  | ⟨0, _⟩ => ⟨0, Nat.one_pos⟩
  | ⟨1, _⟩ => ⟨(i 1).val, (i 1).isLt⟩
theorem val_main_v8_apply (x1 : (⟨S16384x1536, .f32⟩ : BufTy).Contents (Elt F)) (i : S676x16384.Idx) :
    val_main_v8 (F := F) x1 i = val_main_v6 (F := F) x1 (idx_main_v8 i) := by
  unfold val_main_v8
  generalize val_main_v6 (F := F) x1 = y
  exact broadcastInDim_apply _ bcast_S1x16384_S676x16384_0_1 y i (idx_main_v8 i) (fun a => match a with
    | ⟨0, _⟩ => by show 0 = if (1 : Nat) = 1 then 0 else (i 0).val; rw [if_pos rfl]
    | ⟨1, _⟩ => by show (i 1).val = if (16384 : Nat) = 1 then 0 else (i 1).val; rw [if_neg (by decide)])

-- %9 = stablehlo.add %7, %8 : tensor<676x16384xf32>
def val_main_v9 (x0 : (⟨S676x1536, .f32⟩ : BufTy).Contents (Elt F)) (x1 : (⟨S16384x1536, .f32⟩ : BufTy).Contents (Elt F)) : (⟨S676x16384, .f32⟩ : BufTy).Contents (Elt F) :=
  addf (val_main_v7 (F := F) x0) (val_main_v8 (F := F) x1)
theorem val_main_v9_apply (x0 : (⟨S676x1536, .f32⟩ : BufTy).Contents (Elt F)) (x1 : (⟨S16384x1536, .f32⟩ : BufTy).Contents (Elt F)) (i : S676x16384.Idx) :
    val_main_v9 (F := F) x0 x1 i = FloatOps.addf (val_main_v7 (F := F) x0 i) (val_main_v8 (F := F) x1 i) := rfl

-- %10 = stablehlo.transpose %arg1, dims = [1, 0] : (tensor<16384x1536xf32>) -> tensor<1536x16384xf32>
def val_main_v10 (x1 : (⟨S16384x1536, .f32⟩ : BufTy).Contents (Elt F)) : (⟨S1536x16384, .f32⟩ : BufTy).Contents (Elt F) :=
  transpose S1536x16384 [1, 0] (x1) transposes_S16384x1536_S1536x16384_1_0
abbrev idx_main_v10 (i : S1536x16384.Idx) : S16384x1536.Idx := fun a => match a with
  | ⟨0, _⟩ => ⟨(i 1).val, (i 1).isLt⟩
  | ⟨1, _⟩ => ⟨(i 0).val, (i 0).isLt⟩
theorem val_main_v10_apply (x1 : (⟨S16384x1536, .f32⟩ : BufTy).Contents (Elt F)) (i : S1536x16384.Idx) :
    val_main_v10 (F := F) x1 i = x1 (idx_main_v10 i) := by
  unfold val_main_v10
  exact transpose_apply [1, 0] x1 transposes_S16384x1536_S1536x16384_1_0 i (idx_main_v10 i) (fun b => match b with
    | ⟨0, _⟩ => rfl
    | ⟨1, _⟩ => rfl)

-- %11 = stablehlo.dot_general %arg0, %10, contracting_dims = [1] x [0], precision = [DEFAULT, DEFAULT] : (tensor<676x1536xf32>, tensor<1536x16384xf32>) -> tensor<676x16384xf32>
def val_main_v11 (x0 : (⟨S676x1536, .f32⟩ : BufTy).Contents (Elt F)) (x1 : (⟨S16384x1536, .f32⟩ : BufTy).Contents (Elt F)) : (⟨S676x16384, .f32⟩ : BufTy).Contents (Elt F) :=
  Host.dotGeneral dot_S676x1536_S1536x16384_S676x16384_1_0_0_1_n_n none (x0) (val_main_v10 (F := F) x1)
theorem lhs_main_v11_0 (i : S676x16384.Idx) (q : dot_S676x1536_S1536x16384_S676x16384_1_0_0_1_n_n.contr.Idx) :
    (dot_S676x1536_S1536x16384_S676x16384_1_0_0_1_n_n.lhsIdx i q 0).val = (i 0).val := by
  unfold DotDims.lhsIdx
  rw [dif_neg (show ¬(0 : Fin S676x1536.rank) ∈ dot_S676x1536_S1536x16384_S676x16384_1_0_0_1_n_n.lhsBatch by decide), dif_pos (show (0 : Fin S676x1536.rank) ∈ dot_S676x1536_S1536x16384_S676x16384_1_0_0_1_n_n.lhsNonContracting by decide)]
  rfl
theorem lhs_main_v11_1 (i : S676x16384.Idx) (q : dot_S676x1536_S1536x16384_S676x16384_1_0_0_1_n_n.contr.Idx) :
    (dot_S676x1536_S1536x16384_S676x16384_1_0_0_1_n_n.lhsIdx i q 1).val = (q ⟨0, by decide⟩).val :=
  dot_S676x1536_S1536x16384_S676x16384_1_0_0_1_n_n.lhsIdx_val_of_single rfl i q
theorem rhs_main_v11_0 (i : S676x16384.Idx) (q : dot_S676x1536_S1536x16384_S676x16384_1_0_0_1_n_n.contr.Idx) :
    (dot_S676x1536_S1536x16384_S676x16384_1_0_0_1_n_n.rhsIdx i q 0).val = (q ⟨0, by decide⟩).val :=
  dot_S676x1536_S1536x16384_S676x16384_1_0_0_1_n_n.rhsIdx_val_of_single rfl i q
theorem rhs_main_v11_1 (i : S676x16384.Idx) (q : dot_S676x1536_S1536x16384_S676x16384_1_0_0_1_n_n.contr.Idx) :
    (dot_S676x1536_S1536x16384_S676x16384_1_0_0_1_n_n.rhsIdx i q 1).val = (i 1).val := by
  unfold DotDims.rhsIdx
  rw [dif_neg (show ¬(1 : Fin S1536x16384.rank) ∈ dot_S676x1536_S1536x16384_S676x16384_1_0_0_1_n_n.rhsBatch by decide), dif_pos (show (1 : Fin S1536x16384.rank) ∈ dot_S676x1536_S1536x16384_S676x16384_1_0_0_1_n_n.rhsNonContracting by decide)]
  rfl
abbrev lidx_main_v11 (i : S676x16384.Idx) (k : Fin 1536) : S676x1536.Idx := fun a => match a with
  | ⟨0, _⟩ => ⟨(i 0).val, (i 0).isLt⟩
  | ⟨1, _⟩ => ⟨k.val, k.isLt⟩
abbrev ridx_main_v11 (i : S676x16384.Idx) (k : Fin 1536) : S1536x16384.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v11_apply (x0 : (⟨S676x1536, .f32⟩ : BufTy).Contents (Elt Ideal)) (x1 : (⟨S16384x1536, .f32⟩ : BufTy).Contents (Elt Ideal)) (i : S676x16384.Idx) :
    val_main_v11 (F := Ideal) x0 x1 i = ∑ k : Fin 1536, x0 (lidx_main_v11 i k) * (val_main_v10 (F := Ideal) x1) (ridx_main_v11 i k) := by
  unfold val_main_v11
  generalize val_main_v10 (F := Ideal) x1 = y0
  simp only [Host.dotGeneral]
  rw [Ideal.dotGeneral_apply, ← Equiv.sum_comp (ValueIdx.contrEquiv1 dot_S676x1536_S1536x16384_S676x16384_1_0_0_1_n_n 1536 rfl rfl).symm]
  refine Finset.sum_congr rfl fun k _ => ?_
  have hk := ValueIdx.contrEquiv1_symm_val dot_S676x1536_S1536x16384_S676x16384_1_0_0_1_n_n 1536 rfl rfl k
  have el : dot_S676x1536_S1536x16384_S676x16384_1_0_0_1_n_n.lhsIdx i ((ValueIdx.contrEquiv1 dot_S676x1536_S1536x16384_S676x16384_1_0_0_1_n_n 1536 rfl rfl).symm k) = lidx_main_v11 i k := funext fun a => Fin.ext (by
    match a with
    | ⟨0, _⟩ => exact lhs_main_v11_0 _ _
    | ⟨1, _⟩ => exact (lhs_main_v11_1 _ _).trans hk)
  have er : dot_S676x1536_S1536x16384_S676x16384_1_0_0_1_n_n.rhsIdx i ((ValueIdx.contrEquiv1 dot_S676x1536_S1536x16384_S676x16384_1_0_0_1_n_n 1536 rfl rfl).symm k) = ridx_main_v11 i k := funext fun a => Fin.ext (by
    match a with
    | ⟨0, _⟩ => exact (rhs_main_v11_0 _ _).trans hk
    | ⟨1, _⟩ => exact rhs_main_v11_1 _ _)
  rw [el, er]

-- %cst_1 = stablehlo.constant dense<2.000000e+00> : tensor<f32>
def val_main_cst_1 : (⟨S_, .f32⟩ : BufTy).Contents (Elt F) :=
  constant S_ .f32 0x40000000#32
theorem val_main_cst_1_apply (i : S_.Idx) :
    val_main_cst_1 (F := F) i = FloatOps.ofBits .f32 0x40000000#32 := rfl

-- %12 = stablehlo.broadcast_in_dim %cst_1, dims = [] : (tensor<f32>) -> tensor<676x16384xf32>
def val_main_v12 : (⟨S676x16384, .f32⟩ : BufTy).Contents (Elt F) :=
  broadcastInDim S676x16384 ![] bcast_S_S676x16384 (val_main_cst_1 (F := F))
abbrev idx_main_v12 (i : S676x16384.Idx) : S_.Idx := fun a => a.elim0
theorem val_main_v12_apply (i : S676x16384.Idx) :
    val_main_v12 (F := F) i = val_main_cst_1 (F := F) (idx_main_v12 i) := by
  unfold val_main_v12
  generalize val_main_cst_1 (F := F) = y
  exact broadcastInDim_apply _ bcast_S_S676x16384 y i (idx_main_v12 i) (fun a => a.elim0)

-- %13 = stablehlo.multiply %12, %11 : tensor<676x16384xf32>
def val_main_v13 (x0 : (⟨S676x1536, .f32⟩ : BufTy).Contents (Elt F)) (x1 : (⟨S16384x1536, .f32⟩ : BufTy).Contents (Elt F)) : (⟨S676x16384, .f32⟩ : BufTy).Contents (Elt F) :=
  mulf (val_main_v12 (F := F)) (val_main_v11 (F := F) x0 x1)
theorem val_main_v13_apply (x0 : (⟨S676x1536, .f32⟩ : BufTy).Contents (Elt F)) (x1 : (⟨S16384x1536, .f32⟩ : BufTy).Contents (Elt F)) (i : S676x16384.Idx) :
    val_main_v13 (F := F) x0 x1 i = FloatOps.mulf (val_main_v12 (F := F) i) (val_main_v11 (F := F) x0 x1 i) := rfl

-- %14 = stablehlo.subtract %9, %13 : tensor<676x16384xf32>
def val_main_v14 (x0 : (⟨S676x1536, .f32⟩ : BufTy).Contents (Elt F)) (x1 : (⟨S16384x1536, .f32⟩ : BufTy).Contents (Elt F)) : (⟨S676x16384, .f32⟩ : BufTy).Contents (Elt F) :=
  subf (val_main_v9 (F := F) x0 x1) (val_main_v13 (F := F) x0 x1)
theorem val_main_v14_apply (x0 : (⟨S676x1536, .f32⟩ : BufTy).Contents (Elt F)) (x1 : (⟨S16384x1536, .f32⟩ : BufTy).Contents (Elt F)) (i : S676x16384.Idx) :
    val_main_v14 (F := F) x0 x1 i = FloatOps.subf (val_main_v9 (F := F) x0 x1 i) (val_main_v13 (F := F) x0 x1 i) := rfl

-- %cst_2 = stablehlo.constant dense<9.99999996E-13> : tensor<f32>
def val_main_cst_2 : (⟨S_, .f32⟩ : BufTy).Contents (Elt F) :=
  constant S_ .f32 0x2B8CBCCC#32
theorem val_main_cst_2_apply (i : S_.Idx) :
    val_main_cst_2 (F := F) i = FloatOps.ofBits .f32 0x2B8CBCCC#32 := rfl

-- %15 = stablehlo.broadcast_in_dim %cst_2, dims = [] : (tensor<f32>) -> tensor<676x16384xf32>
def val_main_v15 : (⟨S676x16384, .f32⟩ : BufTy).Contents (Elt F) :=
  broadcastInDim S676x16384 ![] bcast_S_S676x16384 (val_main_cst_2 (F := F))
abbrev idx_main_v15 (i : S676x16384.Idx) : S_.Idx := fun a => a.elim0
theorem val_main_v15_apply (i : S676x16384.Idx) :
    val_main_v15 (F := F) i = val_main_cst_2 (F := F) (idx_main_v15 i) := by
  unfold val_main_v15
  generalize val_main_cst_2 (F := F) = y
  exact broadcastInDim_apply _ bcast_S_S676x16384 y i (idx_main_v15 i) (fun a => a.elim0)

-- %16 = stablehlo.maximum %14, %15 : tensor<676x16384xf32>
def val_main_v16 (x0 : (⟨S676x1536, .f32⟩ : BufTy).Contents (Elt F)) (x1 : (⟨S16384x1536, .f32⟩ : BufTy).Contents (Elt F)) : (⟨S676x16384, .f32⟩ : BufTy).Contents (Elt F) :=
  maximumf (val_main_v14 (F := F) x0 x1) (val_main_v15 (F := F))
theorem val_main_v16_apply (x0 : (⟨S676x1536, .f32⟩ : BufTy).Contents (Elt F)) (x1 : (⟨S16384x1536, .f32⟩ : BufTy).Contents (Elt F)) (i : S676x16384.Idx) :
    val_main_v16 (F := F) x0 x1 i = FloatOps.maximumf (val_main_v14 (F := F) x0 x1 i) (val_main_v15 (F := F) i) := rfl

-- %17 = stablehlo.sqrt %16 : tensor<676x16384xf32>
def val_main_v17 (x0 : (⟨S676x1536, .f32⟩ : BufTy).Contents (Elt F)) (x1 : (⟨S16384x1536, .f32⟩ : BufTy).Contents (Elt F)) : (⟨S676x16384, .f32⟩ : BufTy).Contents (Elt F) :=
  Host.sqrt (val_main_v16 (F := F) x0 x1)
theorem val_main_v17_apply (x0 : (⟨S676x1536, .f32⟩ : BufTy).Contents (Elt F)) (x1 : (⟨S16384x1536, .f32⟩ : BufTy).Contents (Elt F)) (i : S676x16384.Idx) :
    val_main_v17 (F := F) x0 x1 i = FloatOps.hostUnary .sqrt (val_main_v16 (F := F) x0 x1 i) := rfl

-- %cst_3 = stablehlo.constant dense<0x7F800000> : tensor<f32>
def val_main_cst_3 : (⟨S_, .f32⟩ : BufTy).Contents (Elt F) :=
  constant S_ .f32 0x7F800000#32
theorem val_main_cst_3_apply (i : S_.Idx) :
    val_main_cst_3 (F := F) i = FloatOps.ofBits .f32 0x7F800000#32 := rfl

-- %18 = stablehlo.reduce(%17 init: %cst_3) applies stablehlo.minimum across dimensions = [1] : (tensor<676x16384xf32>, tensor<f32>) -> tensor<676xf32> {
def val_main_v18 (x0 : (⟨S676x1536, .f32⟩ : BufTy).Contents (Elt F)) (x1 : (⟨S16384x1536, .f32⟩ : BufTy).Contents (Elt F)) : (⟨S676, .f32⟩ : BufTy).Contents (Elt F) :=
  Host.reduce FloatOps.minimumf (val_main_v17 (F := F) x0 x1) (val_main_cst_3 (F := F)) reducesTo_S676x16384_S676_d1 h_S_

-- @argmin's %0 = stablehlo.iota dim = 1 : tensor<676x16384xi32>, in %19 = func.call @argmin(…) (record main_call0)
def val_main_call0_v0 : (⟨S676x16384, .i32⟩ : BufTy).Contents (Elt F) :=
  iotaInDim S676x16384 32 1
theorem val_main_call0_v0_apply (i : S676x16384.Idx) :
    val_main_call0_v0 (F := F) i = BitVec.ofNat 32 (i 1).val := rfl

-- @argmin's %cst = stablehlo.constant dense<0x7F800000> : tensor<f32>, in %19 = func.call @argmin(…) (record main_call0)
def val_main_call0_cst : (⟨S_, .f32⟩ : BufTy).Contents (Elt F) :=
  constant S_ .f32 0x7F800000#32
theorem val_main_call0_cst_apply (i : S_.Idx) :
    val_main_call0_cst (F := F) i = FloatOps.ofBits .f32 0x7F800000#32 := rfl

-- @argmin's %c = stablehlo.constant dense<0> : tensor<i32>, in %19 = func.call @argmin(…) (record main_call0)
def val_main_call0_c : (⟨S_, .i32⟩ : BufTy).Contents (Elt F) :=
  constantI S_ 32 0#32
theorem val_main_call0_c_apply (i : S_.Idx) :
    val_main_call0_c (F := F) i = 0#32 := rfl

-- @argmin's %1:2 = stablehlo.reduce(%arg0 init: %cst), (%0 init: %c) across dimensions = [1] : (tensor<676x16384xf32>, tensor<676x16384xi32>, tensor<f32>, tensor<i32>) -> (tensor<676xf32>, tensor<676xi32>) reducer(%arg1: tensor<f32>, %arg3: tensor<f32>) (%arg2: tensor<i32>, %arg4: tensor<i32>) {, in %19 = func.call @argmin(…) (record main_call0)
def val_main_call0_v1_0 (x0 : (⟨S676x1536, .f32⟩ : BufTy).Contents (Elt F)) (x1 : (⟨S16384x1536, .f32⟩ : BufTy).Contents (Elt F)) : (⟨S676, .f32⟩ : BufTy).Contents (Elt F) :=
  (fun j => (Host.argReduce reducer_argmin_f32_i32 (val_main_v17 (F := F) x0 x1) (val_main_call0_v0 (F := F)) (val_main_call0_cst (F := F)) (val_main_call0_c (F := F)) reducesTo_S676x16384_S676_d1 h_S_ j).1)

-- %19 = func.call @argmin(…) (record main_call0) result 0: @argmin's %1:2 = stablehlo.reduce(%arg0 init: %cst), (%0 init: %c) across dimensions = [1] : (tensor<676x16384xf32>, tensor<676x16384xi32>, tensor<f32>, tensor<i32>) -> (tensor<676xf32>, tensor<676xi32>) reducer(%arg1: tensor<f32>, %arg3: tensor<f32>) (%arg2: tensor<i32>, %arg4: tensor<i32>) {
def val_main_v19 (x0 : (⟨S676x1536, .f32⟩ : BufTy).Contents (Elt F)) (x1 : (⟨S16384x1536, .f32⟩ : BufTy).Contents (Elt F)) : (⟨S676, .i32⟩ : BufTy).Contents (Elt F) :=
  (fun j => (Host.argReduce reducer_argmin_f32_i32 (val_main_v17 (F := F) x0 x1) (val_main_call0_v0 (F := F)) (val_main_call0_cst (F := F)) (val_main_call0_c (F := F)) reducesTo_S676x16384_S676_d1 h_S_ j).2)

-- @argmax's %0 = stablehlo.iota dim = 0 : tensor<676xi32>, in %20 = func.call @argmax(…) (record main_call1)
def val_main_call1_v0 : (⟨S676, .i32⟩ : BufTy).Contents (Elt F) :=
  iotaInDim S676 32 0
theorem val_main_call1_v0_apply (i : S676.Idx) :
    val_main_call1_v0 (F := F) i = BitVec.ofNat 32 (i 0).val := rfl

-- @argmax's %cst = stablehlo.constant dense<0xFF800000> : tensor<f32>, in %20 = func.call @argmax(…) (record main_call1)
def val_main_call1_cst : (⟨S_, .f32⟩ : BufTy).Contents (Elt F) :=
  constant S_ .f32 0xFF800000#32
theorem val_main_call1_cst_apply (i : S_.Idx) :
    val_main_call1_cst (F := F) i = FloatOps.ofBits .f32 0xFF800000#32 := rfl

-- @argmax's %c = stablehlo.constant dense<0> : tensor<i32>, in %20 = func.call @argmax(…) (record main_call1)
def val_main_call1_c : (⟨S_, .i32⟩ : BufTy).Contents (Elt F) :=
  constantI S_ 32 0#32
theorem val_main_call1_c_apply (i : S_.Idx) :
    val_main_call1_c (F := F) i = 0#32 := rfl

-- @argmax's %1:2 = stablehlo.reduce(%arg0 init: %cst), (%0 init: %c) across dimensions = [0] : (tensor<676xf32>, tensor<676xi32>, tensor<f32>, tensor<i32>) -> (tensor<f32>, tensor<i32>) reducer(%arg1: tensor<f32>, %arg3: tensor<f32>) (%arg2: tensor<i32>, %arg4: tensor<i32>) {, in %20 = func.call @argmax(…) (record main_call1)
def val_main_call1_v1_0 (x0 : (⟨S676x1536, .f32⟩ : BufTy).Contents (Elt F)) (x1 : (⟨S16384x1536, .f32⟩ : BufTy).Contents (Elt F)) : (⟨S_, .f32⟩ : BufTy).Contents (Elt F) :=
  (fun j => (Host.argReduce reducer_argmax_f32_i32 (val_main_v18 (F := F) x0 x1) (val_main_call1_v0 (F := F)) (val_main_call1_cst (F := F)) (val_main_call1_c (F := F)) reducesTo_S676_S_d0 h_S_ j).1)

-- %20 = func.call @argmax(…) (record main_call1) result 0: @argmax's %1:2 = stablehlo.reduce(%arg0 init: %cst), (%0 init: %c) across dimensions = [0] : (tensor<676xf32>, tensor<676xi32>, tensor<f32>, tensor<i32>) -> (tensor<f32>, tensor<i32>) reducer(%arg1: tensor<f32>, %arg3: tensor<f32>) (%arg2: tensor<i32>, %arg4: tensor<i32>) {
def val_main_v20 (x0 : (⟨S676x1536, .f32⟩ : BufTy).Contents (Elt F)) (x1 : (⟨S16384x1536, .f32⟩ : BufTy).Contents (Elt F)) : (⟨S_, .i32⟩ : BufTy).Contents (Elt F) :=
  (fun j => (Host.argReduce reducer_argmax_f32_i32 (val_main_v18 (F := F) x0 x1) (val_main_call1_v0 (F := F)) (val_main_call1_cst (F := F)) (val_main_call1_c (F := F)) reducesTo_S676_S_d0 h_S_ j).2)

-- %cst_4 = stablehlo.constant dense<0xFF800000> : tensor<f32>
def val_main_cst_4 : (⟨S_, .f32⟩ : BufTy).Contents (Elt F) :=
  constant S_ .f32 0xFF800000#32
theorem val_main_cst_4_apply (i : S_.Idx) :
    val_main_cst_4 (F := F) i = FloatOps.ofBits .f32 0xFF800000#32 := rfl

-- %21 = stablehlo.reduce(%18 init: %cst_4) applies stablehlo.maximum across dimensions = [0] : (tensor<676xf32>, tensor<f32>) -> tensor<f32> {
def val_main_v21 (x0 : (⟨S676x1536, .f32⟩ : BufTy).Contents (Elt F)) (x1 : (⟨S16384x1536, .f32⟩ : BufTy).Contents (Elt F)) : (⟨S_, .f32⟩ : BufTy).Contents (Elt F) :=
  Host.reduce FloatOps.maximumf (val_main_v18 (F := F) x0 x1) (val_main_cst_4 (F := F)) reducesTo_S676_S_d0 h_S_

-- %c = stablehlo.constant dense<0> : tensor<i32>
def val_main_c : (⟨S_, .i32⟩ : BufTy).Contents (Elt F) :=
  constantI S_ 32 0#32
theorem val_main_c_apply (i : S_.Idx) :
    val_main_c (F := F) i = 0#32 := rfl

-- %22 = stablehlo.compare LT, %20, %c, SIGNED : (tensor<i32>, tensor<i32>) -> tensor<i1>
def val_main_v22 (x0 : (⟨S676x1536, .f32⟩ : BufTy).Contents (Elt F)) (x1 : (⟨S16384x1536, .f32⟩ : BufTy).Contents (Elt F)) : (⟨S_, .i1⟩ : BufTy).Contents (Elt F) :=
  cmpi .slt (val_main_v20 (F := F) x0 x1) (val_main_c (F := F))
theorem val_main_v22_apply (x0 : (⟨S676x1536, .f32⟩ : BufTy).Contents (Elt F)) (x1 : (⟨S16384x1536, .f32⟩ : BufTy).Contents (Elt F)) (i : S_.Idx) :
    val_main_v22 (F := F) x0 x1 i = IntOp.cmpi .slt (val_main_v20 (F := F) x0 x1 i) (val_main_c (F := F) i) := rfl

-- %c_5 = stablehlo.constant dense<676> : tensor<i32>
def val_main_c_5 : (⟨S_, .i32⟩ : BufTy).Contents (Elt F) :=
  constantI S_ 32 676#32
theorem val_main_c_5_apply (i : S_.Idx) :
    val_main_c_5 (F := F) i = 676#32 := rfl

-- %23 = stablehlo.add %20, %c_5 : tensor<i32>
def val_main_v23 (x0 : (⟨S676x1536, .f32⟩ : BufTy).Contents (Elt F)) (x1 : (⟨S16384x1536, .f32⟩ : BufTy).Contents (Elt F)) : (⟨S_, .i32⟩ : BufTy).Contents (Elt F) :=
  addi (val_main_v20 (F := F) x0 x1) (val_main_c_5 (F := F))
theorem val_main_v23_apply (x0 : (⟨S676x1536, .f32⟩ : BufTy).Contents (Elt F)) (x1 : (⟨S16384x1536, .f32⟩ : BufTy).Contents (Elt F)) (i : S_.Idx) :
    val_main_v23 (F := F) x0 x1 i = IntOp.addi (val_main_v20 (F := F) x0 x1 i) (val_main_c_5 (F := F) i) := rfl

-- %24 = stablehlo.select %22, %23, %20 : tensor<i1>, tensor<i32>
def val_main_v24 (x0 : (⟨S676x1536, .f32⟩ : BufTy).Contents (Elt F)) (x1 : (⟨S16384x1536, .f32⟩ : BufTy).Contents (Elt F)) : (⟨S_, .i32⟩ : BufTy).Contents (Elt F) :=
  select (val_main_v22 (F := F) x0 x1) (val_main_v23 (F := F) x0 x1) (val_main_v20 (F := F) x0 x1)
theorem val_main_v24_apply (x0 : (⟨S676x1536, .f32⟩ : BufTy).Contents (Elt F)) (x1 : (⟨S16384x1536, .f32⟩ : BufTy).Contents (Elt F)) (i : S_.Idx) :
    val_main_v24 (F := F) x0 x1 i = Scalar.select (val_main_v22 (F := F) x0 x1 i) (val_main_v23 (F := F) x0 x1 i) (val_main_v20 (F := F) x0 x1 i) := rfl

-- %c_6 = stablehlo.constant dense<0> : tensor<i32>
def val_main_c_6 : (⟨S_, .i32⟩ : BufTy).Contents (Elt F) :=
  constantI S_ 32 0#32
theorem val_main_c_6_apply (i : S_.Idx) :
    val_main_c_6 (F := F) i = 0#32 := rfl

-- %c_7 = stablehlo.constant dense<0> : tensor<i32>
def val_main_c_7 : (⟨S_, .i32⟩ : BufTy).Contents (Elt F) :=
  constantI S_ 32 0#32
theorem val_main_c_7_apply (i : S_.Idx) :
    val_main_c_7 (F := F) i = 0#32 := rfl

-- %25 = stablehlo.compare LT, %c_6, %c_7, SIGNED : (tensor<i32>, tensor<i32>) -> tensor<i1>
def val_main_v25 : (⟨S_, .i1⟩ : BufTy).Contents (Elt F) :=
  cmpi .slt (val_main_c_6 (F := F)) (val_main_c_7 (F := F))
theorem val_main_v25_apply (i : S_.Idx) :
    val_main_v25 (F := F) i = IntOp.cmpi .slt (val_main_c_6 (F := F) i) (val_main_c_7 (F := F) i) := rfl

-- %c_8 = stablehlo.constant dense<0> : tensor<i32>
def val_main_c_8 : (⟨S_, .i32⟩ : BufTy).Contents (Elt F) :=
  constantI S_ 32 0#32
theorem val_main_c_8_apply (i : S_.Idx) :
    val_main_c_8 (F := F) i = 0#32 := rfl

-- %c_9 = stablehlo.constant dense<1536> : tensor<i32>
def val_main_c_9 : (⟨S_, .i32⟩ : BufTy).Contents (Elt F) :=
  constantI S_ 32 1536#32
theorem val_main_c_9_apply (i : S_.Idx) :
    val_main_c_9 (F := F) i = 1536#32 := rfl

-- %26 = stablehlo.add %c_8, %c_9 : tensor<i32>
def val_main_v26 : (⟨S_, .i32⟩ : BufTy).Contents (Elt F) :=
  addi (val_main_c_8 (F := F)) (val_main_c_9 (F := F))
theorem val_main_v26_apply (i : S_.Idx) :
    val_main_v26 (F := F) i = IntOp.addi (val_main_c_8 (F := F) i) (val_main_c_9 (F := F) i) := rfl

-- %c_10 = stablehlo.constant dense<0> : tensor<i32>
def val_main_c_10 : (⟨S_, .i32⟩ : BufTy).Contents (Elt F) :=
  constantI S_ 32 0#32
theorem val_main_c_10_apply (i : S_.Idx) :
    val_main_c_10 (F := F) i = 0#32 := rfl

-- %27 = stablehlo.select %25, %26, %c_10 : tensor<i1>, tensor<i32>
def val_main_v27 : (⟨S_, .i32⟩ : BufTy).Contents (Elt F) :=
  select (val_main_v25 (F := F)) (val_main_v26 (F := F)) (val_main_c_10 (F := F))
theorem val_main_v27_apply (i : S_.Idx) :
    val_main_v27 (F := F) i = Scalar.select (val_main_v25 (F := F) i) (val_main_v26 (F := F) i) (val_main_c_10 (F := F) i) := rfl

-- %28 = stablehlo.dynamic_slice %arg0, %24, %27, sizes = [1, 1536] : (tensor<676x1536xf32>, tensor<i32>, tensor<i32>) -> tensor<1x1536xf32>
def val_main_v28 (x0 : (⟨S676x1536, .f32⟩ : BufTy).Contents (Elt F)) (x1 : (⟨S16384x1536, .f32⟩ : BufTy).Contents (Elt F)) : (⟨S1x1536, .f32⟩ : BufTy).Contents (Elt F) :=
  Host.dynamicSlice S1x1536 (x0) (fun k => (((![val_main_v24 (F := F) x0 x1, val_main_v27 (F := F)] : Fin 2 → (⟨S_, .i32⟩ : BufTy).Contents (Elt F))) k (Shape.Idx.first h_S_)).toInt) sliceFits_S676x1536_S1x1536

-- %29 = stablehlo.reshape %28 : (tensor<1x1536xf32>) -> tensor<1536xf32>
def val_main_v29 (x0 : (⟨S676x1536, .f32⟩ : BufTy).Contents (Elt F)) (x1 : (⟨S16384x1536, .f32⟩ : BufTy).Contents (Elt F)) : (⟨S1536, .f32⟩ : BufTy).Contents (Elt F) :=
  shapeCast _ (val_main_v28 (F := F) x0 x1) shapeCasts_S1x1536_S1536
abbrev idx_main_v29 (i : S1536.Idx) : S1x1536.Idx := fun a => match a with
  | ⟨0, _⟩ => ⟨0, Nat.one_pos⟩
  | ⟨1, _⟩ => ⟨((i 0).val) % 1536, by have h0 : (i 0).val < 1536 := (i 0).isLt; show ((i 0).val) % 1536 < 1536; omega⟩
theorem val_main_v29_apply (x0 : (⟨S676x1536, .f32⟩ : BufTy).Contents (Elt F)) (x1 : (⟨S16384x1536, .f32⟩ : BufTy).Contents (Elt F)) (i : S1536.Idx) :
    val_main_v29 (F := F) x0 x1 i = val_main_v28 (F := F) x0 x1 (idx_main_v29 i) := by
  unfold val_main_v29
  generalize val_main_v28 (F := F) x0 x1 = y
  exact shapeCast_apply y shapeCasts_S1x1536_S1536 i (idx_main_v29 i)
    (by rewrite [Shape.rowMajor_val_two, Shape.rowMajor_val_one]; have h0 : (i 0).val < 1536 := (i 0).isLt; show 0 * 1536 + ((i 0).val) % 1536 = (i 0).val; omega)

-- %30 = stablehlo.broadcast_in_dim %29, dims = [1] : (tensor<1536xf32>) -> tensor<1x1536xf32>
def val_main_v30 (x0 : (⟨S676x1536, .f32⟩ : BufTy).Contents (Elt F)) (x1 : (⟨S16384x1536, .f32⟩ : BufTy).Contents (Elt F)) : (⟨S1x1536, .f32⟩ : BufTy).Contents (Elt F) :=
  broadcastInDim S1x1536 ![1] bcast_S1536_S1x1536_1 (val_main_v29 (F := F) x0 x1)
abbrev idx_main_v30 (i : S1x1536.Idx) : S1536.Idx := fun a => match a with
  | ⟨0, _⟩ => ⟨(i 1).val, (i 1).isLt⟩
theorem val_main_v30_apply (x0 : (⟨S676x1536, .f32⟩ : BufTy).Contents (Elt F)) (x1 : (⟨S16384x1536, .f32⟩ : BufTy).Contents (Elt F)) (i : S1x1536.Idx) :
    val_main_v30 (F := F) x0 x1 i = val_main_v29 (F := F) x0 x1 (idx_main_v30 i) := by
  unfold val_main_v30
  generalize val_main_v29 (F := F) x0 x1 = y
  exact broadcastInDim_apply _ bcast_S1536_S1x1536_1 y i (idx_main_v30 i) (fun a => match a with
    | ⟨0, _⟩ => by show (i 1).val = if (1536 : Nat) = 1 then 0 else (i 1).val; rw [if_neg (by decide)])

-- %c_11 = stablehlo.constant dense<0> : tensor<i32>
def val_main_c_11 : (⟨S_, .i32⟩ : BufTy).Contents (Elt F) :=
  constantI S_ 32 0#32
theorem val_main_c_11_apply (i : S_.Idx) :
    val_main_c_11 (F := F) i = 0#32 := rfl

-- %31 = stablehlo.compare LT, %20, %c_11, SIGNED : (tensor<i32>, tensor<i32>) -> tensor<i1>
def val_main_v31 (x0 : (⟨S676x1536, .f32⟩ : BufTy).Contents (Elt F)) (x1 : (⟨S16384x1536, .f32⟩ : BufTy).Contents (Elt F)) : (⟨S_, .i1⟩ : BufTy).Contents (Elt F) :=
  cmpi .slt (val_main_v20 (F := F) x0 x1) (val_main_c_11 (F := F))
theorem val_main_v31_apply (x0 : (⟨S676x1536, .f32⟩ : BufTy).Contents (Elt F)) (x1 : (⟨S16384x1536, .f32⟩ : BufTy).Contents (Elt F)) (i : S_.Idx) :
    val_main_v31 (F := F) x0 x1 i = IntOp.cmpi .slt (val_main_v20 (F := F) x0 x1 i) (val_main_c_11 (F := F) i) := rfl

-- %c_12 = stablehlo.constant dense<676> : tensor<i32>
def val_main_c_12 : (⟨S_, .i32⟩ : BufTy).Contents (Elt F) :=
  constantI S_ 32 676#32
theorem val_main_c_12_apply (i : S_.Idx) :
    val_main_c_12 (F := F) i = 676#32 := rfl

-- %32 = stablehlo.add %20, %c_12 : tensor<i32>
def val_main_v32 (x0 : (⟨S676x1536, .f32⟩ : BufTy).Contents (Elt F)) (x1 : (⟨S16384x1536, .f32⟩ : BufTy).Contents (Elt F)) : (⟨S_, .i32⟩ : BufTy).Contents (Elt F) :=
  addi (val_main_v20 (F := F) x0 x1) (val_main_c_12 (F := F))
theorem val_main_v32_apply (x0 : (⟨S676x1536, .f32⟩ : BufTy).Contents (Elt F)) (x1 : (⟨S16384x1536, .f32⟩ : BufTy).Contents (Elt F)) (i : S_.Idx) :
    val_main_v32 (F := F) x0 x1 i = IntOp.addi (val_main_v20 (F := F) x0 x1 i) (val_main_c_12 (F := F) i) := rfl

-- %33 = stablehlo.select %31, %32, %20 : tensor<i1>, tensor<i32>
def val_main_v33 (x0 : (⟨S676x1536, .f32⟩ : BufTy).Contents (Elt F)) (x1 : (⟨S16384x1536, .f32⟩ : BufTy).Contents (Elt F)) : (⟨S_, .i32⟩ : BufTy).Contents (Elt F) :=
  select (val_main_v31 (F := F) x0 x1) (val_main_v32 (F := F) x0 x1) (val_main_v20 (F := F) x0 x1)
theorem val_main_v33_apply (x0 : (⟨S676x1536, .f32⟩ : BufTy).Contents (Elt F)) (x1 : (⟨S16384x1536, .f32⟩ : BufTy).Contents (Elt F)) (i : S_.Idx) :
    val_main_v33 (F := F) x0 x1 i = Scalar.select (val_main_v31 (F := F) x0 x1 i) (val_main_v32 (F := F) x0 x1 i) (val_main_v20 (F := F) x0 x1 i) := rfl

-- %34 = stablehlo.dynamic_slice %19, %33, sizes = [1] : (tensor<676xi32>, tensor<i32>) -> tensor<1xi32>
def val_main_v34 (x0 : (⟨S676x1536, .f32⟩ : BufTy).Contents (Elt F)) (x1 : (⟨S16384x1536, .f32⟩ : BufTy).Contents (Elt F)) : (⟨S1, .i32⟩ : BufTy).Contents (Elt F) :=
  Host.dynamicSlice S1 (val_main_v19 (F := F) x0 x1) (fun k => (((![val_main_v33 (F := F) x0 x1] : Fin 1 → (⟨S_, .i32⟩ : BufTy).Contents (Elt F))) k (Shape.Idx.first h_S_)).toInt) sliceFits_S676_S1

-- %35 = stablehlo.reshape %34 : (tensor<1xi32>) -> tensor<i32>
def val_main_v35 (x0 : (⟨S676x1536, .f32⟩ : BufTy).Contents (Elt F)) (x1 : (⟨S16384x1536, .f32⟩ : BufTy).Contents (Elt F)) : (⟨S_, .i32⟩ : BufTy).Contents (Elt F) :=
  shapeCast _ (val_main_v34 (F := F) x0 x1) shapeCasts_S1_S_

-- %c_13 = stablehlo.constant dense<0> : tensor<i32>
def val_main_c_13 : (⟨S_, .i32⟩ : BufTy).Contents (Elt F) :=
  constantI S_ 32 0#32
theorem val_main_c_13_apply (i : S_.Idx) :
    val_main_c_13 (F := F) i = 0#32 := rfl

-- %36 = stablehlo.compare LT, %35, %c_13, SIGNED : (tensor<i32>, tensor<i32>) -> tensor<i1>
def val_main_v36 (x0 : (⟨S676x1536, .f32⟩ : BufTy).Contents (Elt F)) (x1 : (⟨S16384x1536, .f32⟩ : BufTy).Contents (Elt F)) : (⟨S_, .i1⟩ : BufTy).Contents (Elt F) :=
  cmpi .slt (val_main_v35 (F := F) x0 x1) (val_main_c_13 (F := F))
theorem val_main_v36_apply (x0 : (⟨S676x1536, .f32⟩ : BufTy).Contents (Elt F)) (x1 : (⟨S16384x1536, .f32⟩ : BufTy).Contents (Elt F)) (i : S_.Idx) :
    val_main_v36 (F := F) x0 x1 i = IntOp.cmpi .slt (val_main_v35 (F := F) x0 x1 i) (val_main_c_13 (F := F) i) := rfl

-- %c_14 = stablehlo.constant dense<16384> : tensor<i32>
def val_main_c_14 : (⟨S_, .i32⟩ : BufTy).Contents (Elt F) :=
  constantI S_ 32 16384#32
theorem val_main_c_14_apply (i : S_.Idx) :
    val_main_c_14 (F := F) i = 16384#32 := rfl

-- %37 = stablehlo.add %35, %c_14 : tensor<i32>
def val_main_v37 (x0 : (⟨S676x1536, .f32⟩ : BufTy).Contents (Elt F)) (x1 : (⟨S16384x1536, .f32⟩ : BufTy).Contents (Elt F)) : (⟨S_, .i32⟩ : BufTy).Contents (Elt F) :=
  addi (val_main_v35 (F := F) x0 x1) (val_main_c_14 (F := F))
theorem val_main_v37_apply (x0 : (⟨S676x1536, .f32⟩ : BufTy).Contents (Elt F)) (x1 : (⟨S16384x1536, .f32⟩ : BufTy).Contents (Elt F)) (i : S_.Idx) :
    val_main_v37 (F := F) x0 x1 i = IntOp.addi (val_main_v35 (F := F) x0 x1 i) (val_main_c_14 (F := F) i) := rfl

-- %38 = stablehlo.select %36, %37, %35 : tensor<i1>, tensor<i32>
def val_main_v38 (x0 : (⟨S676x1536, .f32⟩ : BufTy).Contents (Elt F)) (x1 : (⟨S16384x1536, .f32⟩ : BufTy).Contents (Elt F)) : (⟨S_, .i32⟩ : BufTy).Contents (Elt F) :=
  select (val_main_v36 (F := F) x0 x1) (val_main_v37 (F := F) x0 x1) (val_main_v35 (F := F) x0 x1)
theorem val_main_v38_apply (x0 : (⟨S676x1536, .f32⟩ : BufTy).Contents (Elt F)) (x1 : (⟨S16384x1536, .f32⟩ : BufTy).Contents (Elt F)) (i : S_.Idx) :
    val_main_v38 (F := F) x0 x1 i = Scalar.select (val_main_v36 (F := F) x0 x1 i) (val_main_v37 (F := F) x0 x1 i) (val_main_v35 (F := F) x0 x1 i) := rfl

-- %c_15 = stablehlo.constant dense<0> : tensor<i32>
def val_main_c_15 : (⟨S_, .i32⟩ : BufTy).Contents (Elt F) :=
  constantI S_ 32 0#32
theorem val_main_c_15_apply (i : S_.Idx) :
    val_main_c_15 (F := F) i = 0#32 := rfl

-- %c_16 = stablehlo.constant dense<0> : tensor<i32>
def val_main_c_16 : (⟨S_, .i32⟩ : BufTy).Contents (Elt F) :=
  constantI S_ 32 0#32
theorem val_main_c_16_apply (i : S_.Idx) :
    val_main_c_16 (F := F) i = 0#32 := rfl

-- %39 = stablehlo.compare LT, %c_15, %c_16, SIGNED : (tensor<i32>, tensor<i32>) -> tensor<i1>
def val_main_v39 : (⟨S_, .i1⟩ : BufTy).Contents (Elt F) :=
  cmpi .slt (val_main_c_15 (F := F)) (val_main_c_16 (F := F))
theorem val_main_v39_apply (i : S_.Idx) :
    val_main_v39 (F := F) i = IntOp.cmpi .slt (val_main_c_15 (F := F) i) (val_main_c_16 (F := F) i) := rfl

-- %c_17 = stablehlo.constant dense<0> : tensor<i32>
def val_main_c_17 : (⟨S_, .i32⟩ : BufTy).Contents (Elt F) :=
  constantI S_ 32 0#32
theorem val_main_c_17_apply (i : S_.Idx) :
    val_main_c_17 (F := F) i = 0#32 := rfl

-- %c_18 = stablehlo.constant dense<1536> : tensor<i32>
def val_main_c_18 : (⟨S_, .i32⟩ : BufTy).Contents (Elt F) :=
  constantI S_ 32 1536#32
theorem val_main_c_18_apply (i : S_.Idx) :
    val_main_c_18 (F := F) i = 1536#32 := rfl

-- %40 = stablehlo.add %c_17, %c_18 : tensor<i32>
def val_main_v40 : (⟨S_, .i32⟩ : BufTy).Contents (Elt F) :=
  addi (val_main_c_17 (F := F)) (val_main_c_18 (F := F))
theorem val_main_v40_apply (i : S_.Idx) :
    val_main_v40 (F := F) i = IntOp.addi (val_main_c_17 (F := F) i) (val_main_c_18 (F := F) i) := rfl

-- %c_19 = stablehlo.constant dense<0> : tensor<i32>
def val_main_c_19 : (⟨S_, .i32⟩ : BufTy).Contents (Elt F) :=
  constantI S_ 32 0#32
theorem val_main_c_19_apply (i : S_.Idx) :
    val_main_c_19 (F := F) i = 0#32 := rfl

-- %41 = stablehlo.select %39, %40, %c_19 : tensor<i1>, tensor<i32>
def val_main_v41 : (⟨S_, .i32⟩ : BufTy).Contents (Elt F) :=
  select (val_main_v39 (F := F)) (val_main_v40 (F := F)) (val_main_c_19 (F := F))
theorem val_main_v41_apply (i : S_.Idx) :
    val_main_v41 (F := F) i = Scalar.select (val_main_v39 (F := F) i) (val_main_v40 (F := F) i) (val_main_c_19 (F := F) i) := rfl

-- %42 = stablehlo.dynamic_slice %arg1, %38, %41, sizes = [1, 1536] : (tensor<16384x1536xf32>, tensor<i32>, tensor<i32>) -> tensor<1x1536xf32>
def val_main_v42 (x0 : (⟨S676x1536, .f32⟩ : BufTy).Contents (Elt F)) (x1 : (⟨S16384x1536, .f32⟩ : BufTy).Contents (Elt F)) : (⟨S1x1536, .f32⟩ : BufTy).Contents (Elt F) :=
  Host.dynamicSlice S1x1536 (x1) (fun k => (((![val_main_v38 (F := F) x0 x1, val_main_v41 (F := F)] : Fin 2 → (⟨S_, .i32⟩ : BufTy).Contents (Elt F))) k (Shape.Idx.first h_S_)).toInt) sliceFits_S16384x1536_S1x1536

-- %43 = stablehlo.reshape %42 : (tensor<1x1536xf32>) -> tensor<1536xf32>
def val_main_v43 (x0 : (⟨S676x1536, .f32⟩ : BufTy).Contents (Elt F)) (x1 : (⟨S16384x1536, .f32⟩ : BufTy).Contents (Elt F)) : (⟨S1536, .f32⟩ : BufTy).Contents (Elt F) :=
  shapeCast _ (val_main_v42 (F := F) x0 x1) shapeCasts_S1x1536_S1536
abbrev idx_main_v43 (i : S1536.Idx) : S1x1536.Idx := fun a => match a with
  | ⟨0, _⟩ => ⟨0, Nat.one_pos⟩
  | ⟨1, _⟩ => ⟨((i 0).val) % 1536, by have h0 : (i 0).val < 1536 := (i 0).isLt; show ((i 0).val) % 1536 < 1536; omega⟩
theorem val_main_v43_apply (x0 : (⟨S676x1536, .f32⟩ : BufTy).Contents (Elt F)) (x1 : (⟨S16384x1536, .f32⟩ : BufTy).Contents (Elt F)) (i : S1536.Idx) :
    val_main_v43 (F := F) x0 x1 i = val_main_v42 (F := F) x0 x1 (idx_main_v43 i) := by
  unfold val_main_v43
  generalize val_main_v42 (F := F) x0 x1 = y
  exact shapeCast_apply y shapeCasts_S1x1536_S1536 i (idx_main_v43 i)
    (by rewrite [Shape.rowMajor_val_two, Shape.rowMajor_val_one]; have h0 : (i 0).val < 1536 := (i 0).isLt; show 0 * 1536 + ((i 0).val) % 1536 = (i 0).val; omega)

-- %44 = stablehlo.broadcast_in_dim %43, dims = [1] : (tensor<1536xf32>) -> tensor<1x1536xf32>
def val_main_v44 (x0 : (⟨S676x1536, .f32⟩ : BufTy).Contents (Elt F)) (x1 : (⟨S16384x1536, .f32⟩ : BufTy).Contents (Elt F)) : (⟨S1x1536, .f32⟩ : BufTy).Contents (Elt F) :=
  broadcastInDim S1x1536 ![1] bcast_S1536_S1x1536_1 (val_main_v43 (F := F) x0 x1)
abbrev idx_main_v44 (i : S1x1536.Idx) : S1536.Idx := fun a => match a with
  | ⟨0, _⟩ => ⟨(i 1).val, (i 1).isLt⟩
theorem val_main_v44_apply (x0 : (⟨S676x1536, .f32⟩ : BufTy).Contents (Elt F)) (x1 : (⟨S16384x1536, .f32⟩ : BufTy).Contents (Elt F)) (i : S1x1536.Idx) :
    val_main_v44 (F := F) x0 x1 i = val_main_v43 (F := F) x0 x1 (idx_main_v44 i) := by
  unfold val_main_v44
  generalize val_main_v43 (F := F) x0 x1 = y
  exact broadcastInDim_apply _ bcast_S1536_S1x1536_1 y i (idx_main_v44 i) (fun a => match a with
    | ⟨0, _⟩ => by show (i 1).val = if (1536 : Nat) = 1 then 0 else (i 1).val; rw [if_neg (by decide)])

-- %45 = stablehlo.multiply %44, %44 : tensor<1x1536xf32>
def val_main_v45 (x0 : (⟨S676x1536, .f32⟩ : BufTy).Contents (Elt F)) (x1 : (⟨S16384x1536, .f32⟩ : BufTy).Contents (Elt F)) : (⟨S1x1536, .f32⟩ : BufTy).Contents (Elt F) :=
  mulf (val_main_v44 (F := F) x0 x1) (val_main_v44 (F := F) x0 x1)
theorem val_main_v45_apply (x0 : (⟨S676x1536, .f32⟩ : BufTy).Contents (Elt F)) (x1 : (⟨S16384x1536, .f32⟩ : BufTy).Contents (Elt F)) (i : S1x1536.Idx) :
    val_main_v45 (F := F) x0 x1 i = FloatOps.mulf (val_main_v44 (F := F) x0 x1 i) (val_main_v44 (F := F) x0 x1 i) := rfl

-- %cst_20 = stablehlo.constant dense<0.000000e+00> : tensor<f32>
def val_main_cst_20 : (⟨S_, .f32⟩ : BufTy).Contents (Elt F) :=
  constant S_ .f32 0x00000000#32
theorem val_main_cst_20_apply (i : S_.Idx) :
    val_main_cst_20 (F := F) i = FloatOps.ofBits .f32 0x00000000#32 := rfl

-- %46 = stablehlo.reduce(%45 init: %cst_20) applies stablehlo.add across dimensions = [1] : (tensor<1x1536xf32>, tensor<f32>) -> tensor<1xf32> {
def val_main_v46 (x0 : (⟨S676x1536, .f32⟩ : BufTy).Contents (Elt F)) (x1 : (⟨S16384x1536, .f32⟩ : BufTy).Contents (Elt F)) : (⟨S1, .f32⟩ : BufTy).Contents (Elt F) :=
  Host.reduceAdd (val_main_v45 (F := F) x0 x1) (val_main_cst_20 (F := F)) reducesTo_S1x1536_S1_d1 h_S_
abbrev idx_main_v46 (i : S1.Idx) (k : Fin 1536) : S1x1536.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v46_apply (x0 : (⟨S676x1536, .f32⟩ : BufTy).Contents (Elt Ideal)) (x1 : (⟨S16384x1536, .f32⟩ : BufTy).Contents (Elt Ideal)) (i : S1.Idx) :
    val_main_v46 (F := Ideal) x0 x1 i = (val_main_cst_20 (F := Ideal)) (Shape.Idx.first h_S_) + ∑ k : Fin 1536, (val_main_v45 (F := Ideal) x0 x1) (idx_main_v46 i k) := by
  unfold val_main_v46
  generalize val_main_v45 (F := Ideal) x0 x1 = y0
  simp only [Host.reduceAdd, Ideal.hostReduceAdd_def]
  rw [Ideal.hostReduceAdd_single reducesTo_S1x1536_S1_d1 (by decide)]
  refine congrArg (_ + ·) (Finset.sum_congr rfl fun k _ => ?_)
  exact congrArg y0 (funext fun a => Fin.ext (by match a with | ⟨0, _⟩ => rfl | ⟨1, _⟩ => rfl))

-- %47 = stablehlo.broadcast_in_dim %46, dims = [0] : (tensor<1xf32>) -> tensor<1x1xf32>
def val_main_v47 (x0 : (⟨S676x1536, .f32⟩ : BufTy).Contents (Elt F)) (x1 : (⟨S16384x1536, .f32⟩ : BufTy).Contents (Elt F)) : (⟨S1x1, .f32⟩ : BufTy).Contents (Elt F) :=
  broadcastInDim S1x1 ![0] bcast_S1_S1x1_0 (val_main_v46 (F := F) x0 x1)
abbrev idx_main_v47 (i : S1x1.Idx) : S1.Idx := fun a => match a with
  | ⟨0, _⟩ => ⟨0, Nat.one_pos⟩
theorem val_main_v47_apply (x0 : (⟨S676x1536, .f32⟩ : BufTy).Contents (Elt F)) (x1 : (⟨S16384x1536, .f32⟩ : BufTy).Contents (Elt F)) (i : S1x1.Idx) :
    val_main_v47 (F := F) x0 x1 i = val_main_v46 (F := F) x0 x1 (idx_main_v47 i) := by
  unfold val_main_v47
  generalize val_main_v46 (F := F) x0 x1 = y
  exact broadcastInDim_apply _ bcast_S1_S1x1_0 y i (idx_main_v47 i) (fun a => match a with
    | ⟨0, _⟩ => by show 0 = if (1 : Nat) = 1 then 0 else (i 0).val; rw [if_pos rfl])

-- %48 = stablehlo.multiply %arg1, %arg1 : tensor<16384x1536xf32>
def val_main_v48 (x1 : (⟨S16384x1536, .f32⟩ : BufTy).Contents (Elt F)) : (⟨S16384x1536, .f32⟩ : BufTy).Contents (Elt F) :=
  mulf (x1) (x1)
theorem val_main_v48_apply (x1 : (⟨S16384x1536, .f32⟩ : BufTy).Contents (Elt F)) (i : S16384x1536.Idx) :
    val_main_v48 (F := F) x1 i = FloatOps.mulf (x1 i) (x1 i) := rfl

-- %cst_21 = stablehlo.constant dense<0.000000e+00> : tensor<f32>
def val_main_cst_21 : (⟨S_, .f32⟩ : BufTy).Contents (Elt F) :=
  constant S_ .f32 0x00000000#32
theorem val_main_cst_21_apply (i : S_.Idx) :
    val_main_cst_21 (F := F) i = FloatOps.ofBits .f32 0x00000000#32 := rfl

-- %49 = stablehlo.reduce(%48 init: %cst_21) applies stablehlo.add across dimensions = [1] : (tensor<16384x1536xf32>, tensor<f32>) -> tensor<16384xf32> {
def val_main_v49 (x1 : (⟨S16384x1536, .f32⟩ : BufTy).Contents (Elt F)) : (⟨S16384, .f32⟩ : BufTy).Contents (Elt F) :=
  Host.reduceAdd (val_main_v48 (F := F) x1) (val_main_cst_21 (F := F)) reducesTo_S16384x1536_S16384_d1 h_S_
abbrev idx_main_v49 (i : S16384.Idx) (k : Fin 1536) : S16384x1536.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v49_apply (x1 : (⟨S16384x1536, .f32⟩ : BufTy).Contents (Elt Ideal)) (i : S16384.Idx) :
    val_main_v49 (F := Ideal) x1 i = (val_main_cst_21 (F := Ideal)) (Shape.Idx.first h_S_) + ∑ k : Fin 1536, (val_main_v48 (F := Ideal) x1) (idx_main_v49 i k) := by
  unfold val_main_v49
  generalize val_main_v48 (F := Ideal) x1 = y0
  simp only [Host.reduceAdd, Ideal.hostReduceAdd_def]
  rw [Ideal.hostReduceAdd_single reducesTo_S16384x1536_S16384_d1 (by decide)]
  refine congrArg (_ + ·) (Finset.sum_congr rfl fun k _ => ?_)
  exact congrArg y0 (funext fun a => Fin.ext (by match a with | ⟨0, _⟩ => rfl | ⟨1, _⟩ => rfl))

-- %50 = stablehlo.broadcast_in_dim %49, dims = [0] : (tensor<16384xf32>) -> tensor<16384x1xf32>
def val_main_v50 (x1 : (⟨S16384x1536, .f32⟩ : BufTy).Contents (Elt F)) : (⟨S16384x1, .f32⟩ : BufTy).Contents (Elt F) :=
  broadcastInDim S16384x1 ![0] bcast_S16384_S16384x1_0 (val_main_v49 (F := F) x1)
abbrev idx_main_v50 (i : S16384x1.Idx) : S16384.Idx := fun a => match a with
  | ⟨0, _⟩ => ⟨(i 0).val, (i 0).isLt⟩
theorem val_main_v50_apply (x1 : (⟨S16384x1536, .f32⟩ : BufTy).Contents (Elt F)) (i : S16384x1.Idx) :
    val_main_v50 (F := F) x1 i = val_main_v49 (F := F) x1 (idx_main_v50 i) := by
  unfold val_main_v50
  generalize val_main_v49 (F := F) x1 = y
  exact broadcastInDim_apply _ bcast_S16384_S16384x1_0 y i (idx_main_v50 i) (fun a => match a with
    | ⟨0, _⟩ => by show (i 0).val = if (16384 : Nat) = 1 then 0 else (i 0).val; rw [if_neg (by decide)])

-- %51 = stablehlo.transpose %50, dims = [1, 0] : (tensor<16384x1xf32>) -> tensor<1x16384xf32>
def val_main_v51 (x1 : (⟨S16384x1536, .f32⟩ : BufTy).Contents (Elt F)) : (⟨S1x16384, .f32⟩ : BufTy).Contents (Elt F) :=
  transpose S1x16384 [1, 0] (val_main_v50 (F := F) x1) transposes_S16384x1_S1x16384_1_0
abbrev idx_main_v51 (i : S1x16384.Idx) : S16384x1.Idx := fun a => match a with
  | ⟨0, _⟩ => ⟨(i 1).val, (i 1).isLt⟩
  | ⟨1, _⟩ => ⟨(i 0).val, (i 0).isLt⟩
theorem val_main_v51_apply (x1 : (⟨S16384x1536, .f32⟩ : BufTy).Contents (Elt F)) (i : S1x16384.Idx) :
    val_main_v51 (F := F) x1 i = val_main_v50 (F := F) x1 (idx_main_v51 i) := by
  unfold val_main_v51
  generalize val_main_v50 (F := F) x1 = y
  exact transpose_apply [1, 0] y transposes_S16384x1_S1x16384_1_0 i (idx_main_v51 i) (fun b => match b with
    | ⟨0, _⟩ => rfl
    | ⟨1, _⟩ => rfl)

-- %52 = stablehlo.broadcast_in_dim %47, dims = [0, 1] : (tensor<1x1xf32>) -> tensor<1x16384xf32>
def val_main_v52 (x0 : (⟨S676x1536, .f32⟩ : BufTy).Contents (Elt F)) (x1 : (⟨S16384x1536, .f32⟩ : BufTy).Contents (Elt F)) : (⟨S1x16384, .f32⟩ : BufTy).Contents (Elt F) :=
  broadcastInDim S1x16384 ![0, 1] bcast_S1x1_S1x16384_0_1 (val_main_v47 (F := F) x0 x1)
abbrev idx_main_v52 (i : S1x16384.Idx) : S1x1.Idx := fun a => match a with
  | ⟨0, _⟩ => ⟨0, Nat.one_pos⟩
  | ⟨1, _⟩ => ⟨0, Nat.one_pos⟩
theorem val_main_v52_apply (x0 : (⟨S676x1536, .f32⟩ : BufTy).Contents (Elt F)) (x1 : (⟨S16384x1536, .f32⟩ : BufTy).Contents (Elt F)) (i : S1x16384.Idx) :
    val_main_v52 (F := F) x0 x1 i = val_main_v47 (F := F) x0 x1 (idx_main_v52 i) := by
  unfold val_main_v52
  generalize val_main_v47 (F := F) x0 x1 = y
  exact broadcastInDim_apply _ bcast_S1x1_S1x16384_0_1 y i (idx_main_v52 i) (fun a => match a with
    | ⟨0, _⟩ => by show 0 = if (1 : Nat) = 1 then 0 else (i 0).val; rw [if_pos rfl]
    | ⟨1, _⟩ => by show 0 = if (1 : Nat) = 1 then 0 else (i 1).val; rw [if_pos rfl])

-- %53 = stablehlo.add %52, %51 : tensor<1x16384xf32>
def val_main_v53 (x0 : (⟨S676x1536, .f32⟩ : BufTy).Contents (Elt F)) (x1 : (⟨S16384x1536, .f32⟩ : BufTy).Contents (Elt F)) : (⟨S1x16384, .f32⟩ : BufTy).Contents (Elt F) :=
  addf (val_main_v52 (F := F) x0 x1) (val_main_v51 (F := F) x1)
theorem val_main_v53_apply (x0 : (⟨S676x1536, .f32⟩ : BufTy).Contents (Elt F)) (x1 : (⟨S16384x1536, .f32⟩ : BufTy).Contents (Elt F)) (i : S1x16384.Idx) :
    val_main_v53 (F := F) x0 x1 i = FloatOps.addf (val_main_v52 (F := F) x0 x1 i) (val_main_v51 (F := F) x1 i) := rfl

-- %54 = stablehlo.transpose %arg1, dims = [1, 0] : (tensor<16384x1536xf32>) -> tensor<1536x16384xf32>
def val_main_v54 (x1 : (⟨S16384x1536, .f32⟩ : BufTy).Contents (Elt F)) : (⟨S1536x16384, .f32⟩ : BufTy).Contents (Elt F) :=
  transpose S1536x16384 [1, 0] (x1) transposes_S16384x1536_S1536x16384_1_0
abbrev idx_main_v54 (i : S1536x16384.Idx) : S16384x1536.Idx := fun a => match a with
  | ⟨0, _⟩ => ⟨(i 1).val, (i 1).isLt⟩
  | ⟨1, _⟩ => ⟨(i 0).val, (i 0).isLt⟩
theorem val_main_v54_apply (x1 : (⟨S16384x1536, .f32⟩ : BufTy).Contents (Elt F)) (i : S1536x16384.Idx) :
    val_main_v54 (F := F) x1 i = x1 (idx_main_v54 i) := by
  unfold val_main_v54
  exact transpose_apply [1, 0] x1 transposes_S16384x1536_S1536x16384_1_0 i (idx_main_v54 i) (fun b => match b with
    | ⟨0, _⟩ => rfl
    | ⟨1, _⟩ => rfl)

-- %55 = stablehlo.dot_general %44, %54, contracting_dims = [1] x [0], precision = [DEFAULT, DEFAULT] : (tensor<1x1536xf32>, tensor<1536x16384xf32>) -> tensor<1x16384xf32>
def val_main_v55 (x0 : (⟨S676x1536, .f32⟩ : BufTy).Contents (Elt F)) (x1 : (⟨S16384x1536, .f32⟩ : BufTy).Contents (Elt F)) : (⟨S1x16384, .f32⟩ : BufTy).Contents (Elt F) :=
  Host.dotGeneral dot_S1x1536_S1536x16384_S1x16384_1_0_0_1_n_n none (val_main_v44 (F := F) x0 x1) (val_main_v54 (F := F) x1)
theorem lhs_main_v55_0 (i : S1x16384.Idx) (q : dot_S1x1536_S1536x16384_S1x16384_1_0_0_1_n_n.contr.Idx) :
    (dot_S1x1536_S1536x16384_S1x16384_1_0_0_1_n_n.lhsIdx i q 0).val = (i 0).val := by
  unfold DotDims.lhsIdx
  rw [dif_neg (show ¬(0 : Fin S1x1536.rank) ∈ dot_S1x1536_S1536x16384_S1x16384_1_0_0_1_n_n.lhsBatch by decide), dif_pos (show (0 : Fin S1x1536.rank) ∈ dot_S1x1536_S1536x16384_S1x16384_1_0_0_1_n_n.lhsNonContracting by decide)]
  rfl
theorem lhs_main_v55_1 (i : S1x16384.Idx) (q : dot_S1x1536_S1536x16384_S1x16384_1_0_0_1_n_n.contr.Idx) :
    (dot_S1x1536_S1536x16384_S1x16384_1_0_0_1_n_n.lhsIdx i q 1).val = (q ⟨0, by decide⟩).val :=
  dot_S1x1536_S1536x16384_S1x16384_1_0_0_1_n_n.lhsIdx_val_of_single rfl i q
theorem rhs_main_v55_0 (i : S1x16384.Idx) (q : dot_S1x1536_S1536x16384_S1x16384_1_0_0_1_n_n.contr.Idx) :
    (dot_S1x1536_S1536x16384_S1x16384_1_0_0_1_n_n.rhsIdx i q 0).val = (q ⟨0, by decide⟩).val :=
  dot_S1x1536_S1536x16384_S1x16384_1_0_0_1_n_n.rhsIdx_val_of_single rfl i q
theorem rhs_main_v55_1 (i : S1x16384.Idx) (q : dot_S1x1536_S1536x16384_S1x16384_1_0_0_1_n_n.contr.Idx) :
    (dot_S1x1536_S1536x16384_S1x16384_1_0_0_1_n_n.rhsIdx i q 1).val = (i 1).val := by
  unfold DotDims.rhsIdx
  rw [dif_neg (show ¬(1 : Fin S1536x16384.rank) ∈ dot_S1x1536_S1536x16384_S1x16384_1_0_0_1_n_n.rhsBatch by decide), dif_pos (show (1 : Fin S1536x16384.rank) ∈ dot_S1x1536_S1536x16384_S1x16384_1_0_0_1_n_n.rhsNonContracting by decide)]
  rfl
abbrev lidx_main_v55 (i : S1x16384.Idx) (k : Fin 1536) : S1x1536.Idx := fun a => match a with
  | ⟨0, _⟩ => ⟨(i 0).val, (i 0).isLt⟩
  | ⟨1, _⟩ => ⟨k.val, k.isLt⟩
abbrev ridx_main_v55 (i : S1x16384.Idx) (k : Fin 1536) : S1536x16384.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v55_apply (x0 : (⟨S676x1536, .f32⟩ : BufTy).Contents (Elt Ideal)) (x1 : (⟨S16384x1536, .f32⟩ : BufTy).Contents (Elt Ideal)) (i : S1x16384.Idx) :
    val_main_v55 (F := Ideal) x0 x1 i = ∑ k : Fin 1536, (val_main_v44 (F := Ideal) x0 x1) (lidx_main_v55 i k) * (val_main_v54 (F := Ideal) x1) (ridx_main_v55 i k) := by
  unfold val_main_v55
  generalize val_main_v44 (F := Ideal) x0 x1 = y0
  generalize val_main_v54 (F := Ideal) x1 = y1
  simp only [Host.dotGeneral]
  rw [Ideal.dotGeneral_apply, ← Equiv.sum_comp (ValueIdx.contrEquiv1 dot_S1x1536_S1536x16384_S1x16384_1_0_0_1_n_n 1536 rfl rfl).symm]
  refine Finset.sum_congr rfl fun k _ => ?_
  have hk := ValueIdx.contrEquiv1_symm_val dot_S1x1536_S1536x16384_S1x16384_1_0_0_1_n_n 1536 rfl rfl k
  have el : dot_S1x1536_S1536x16384_S1x16384_1_0_0_1_n_n.lhsIdx i ((ValueIdx.contrEquiv1 dot_S1x1536_S1536x16384_S1x16384_1_0_0_1_n_n 1536 rfl rfl).symm k) = lidx_main_v55 i k := funext fun a => Fin.ext (by
    match a with
    | ⟨0, _⟩ => exact lhs_main_v55_0 _ _
    | ⟨1, _⟩ => exact (lhs_main_v55_1 _ _).trans hk)
  have er : dot_S1x1536_S1536x16384_S1x16384_1_0_0_1_n_n.rhsIdx i ((ValueIdx.contrEquiv1 dot_S1x1536_S1536x16384_S1x16384_1_0_0_1_n_n 1536 rfl rfl).symm k) = ridx_main_v55 i k := funext fun a => Fin.ext (by
    match a with
    | ⟨0, _⟩ => exact (rhs_main_v55_0 _ _).trans hk
    | ⟨1, _⟩ => exact rhs_main_v55_1 _ _)
  rw [el, er]

-- %cst_22 = stablehlo.constant dense<2.000000e+00> : tensor<f32>
def val_main_cst_22 : (⟨S_, .f32⟩ : BufTy).Contents (Elt F) :=
  constant S_ .f32 0x40000000#32
theorem val_main_cst_22_apply (i : S_.Idx) :
    val_main_cst_22 (F := F) i = FloatOps.ofBits .f32 0x40000000#32 := rfl

-- %56 = stablehlo.broadcast_in_dim %cst_22, dims = [] : (tensor<f32>) -> tensor<1x16384xf32>
def val_main_v56 : (⟨S1x16384, .f32⟩ : BufTy).Contents (Elt F) :=
  broadcastInDim S1x16384 ![] bcast_S_S1x16384 (val_main_cst_22 (F := F))
abbrev idx_main_v56 (i : S1x16384.Idx) : S_.Idx := fun a => a.elim0
theorem val_main_v56_apply (i : S1x16384.Idx) :
    val_main_v56 (F := F) i = val_main_cst_22 (F := F) (idx_main_v56 i) := by
  unfold val_main_v56
  generalize val_main_cst_22 (F := F) = y
  exact broadcastInDim_apply _ bcast_S_S1x16384 y i (idx_main_v56 i) (fun a => a.elim0)

-- %57 = stablehlo.multiply %56, %55 : tensor<1x16384xf32>
def val_main_v57 (x0 : (⟨S676x1536, .f32⟩ : BufTy).Contents (Elt F)) (x1 : (⟨S16384x1536, .f32⟩ : BufTy).Contents (Elt F)) : (⟨S1x16384, .f32⟩ : BufTy).Contents (Elt F) :=
  mulf (val_main_v56 (F := F)) (val_main_v55 (F := F) x0 x1)
theorem val_main_v57_apply (x0 : (⟨S676x1536, .f32⟩ : BufTy).Contents (Elt F)) (x1 : (⟨S16384x1536, .f32⟩ : BufTy).Contents (Elt F)) (i : S1x16384.Idx) :
    val_main_v57 (F := F) x0 x1 i = FloatOps.mulf (val_main_v56 (F := F) i) (val_main_v55 (F := F) x0 x1 i) := rfl

-- %58 = stablehlo.subtract %53, %57 : tensor<1x16384xf32>
def val_main_v58 (x0 : (⟨S676x1536, .f32⟩ : BufTy).Contents (Elt F)) (x1 : (⟨S16384x1536, .f32⟩ : BufTy).Contents (Elt F)) : (⟨S1x16384, .f32⟩ : BufTy).Contents (Elt F) :=
  subf (val_main_v53 (F := F) x0 x1) (val_main_v57 (F := F) x0 x1)
theorem val_main_v58_apply (x0 : (⟨S676x1536, .f32⟩ : BufTy).Contents (Elt F)) (x1 : (⟨S16384x1536, .f32⟩ : BufTy).Contents (Elt F)) (i : S1x16384.Idx) :
    val_main_v58 (F := F) x0 x1 i = FloatOps.subf (val_main_v53 (F := F) x0 x1 i) (val_main_v57 (F := F) x0 x1 i) := rfl

-- %cst_23 = stablehlo.constant dense<9.99999996E-13> : tensor<f32>
def val_main_cst_23 : (⟨S_, .f32⟩ : BufTy).Contents (Elt F) :=
  constant S_ .f32 0x2B8CBCCC#32
theorem val_main_cst_23_apply (i : S_.Idx) :
    val_main_cst_23 (F := F) i = FloatOps.ofBits .f32 0x2B8CBCCC#32 := rfl

-- %59 = stablehlo.broadcast_in_dim %cst_23, dims = [] : (tensor<f32>) -> tensor<1x16384xf32>
def val_main_v59 : (⟨S1x16384, .f32⟩ : BufTy).Contents (Elt F) :=
  broadcastInDim S1x16384 ![] bcast_S_S1x16384 (val_main_cst_23 (F := F))
abbrev idx_main_v59 (i : S1x16384.Idx) : S_.Idx := fun a => a.elim0
theorem val_main_v59_apply (i : S1x16384.Idx) :
    val_main_v59 (F := F) i = val_main_cst_23 (F := F) (idx_main_v59 i) := by
  unfold val_main_v59
  generalize val_main_cst_23 (F := F) = y
  exact broadcastInDim_apply _ bcast_S_S1x16384 y i (idx_main_v59 i) (fun a => a.elim0)

-- %60 = stablehlo.maximum %58, %59 : tensor<1x16384xf32>
def val_main_v60 (x0 : (⟨S676x1536, .f32⟩ : BufTy).Contents (Elt F)) (x1 : (⟨S16384x1536, .f32⟩ : BufTy).Contents (Elt F)) : (⟨S1x16384, .f32⟩ : BufTy).Contents (Elt F) :=
  maximumf (val_main_v58 (F := F) x0 x1) (val_main_v59 (F := F))
theorem val_main_v60_apply (x0 : (⟨S676x1536, .f32⟩ : BufTy).Contents (Elt F)) (x1 : (⟨S16384x1536, .f32⟩ : BufTy).Contents (Elt F)) (i : S1x16384.Idx) :
    val_main_v60 (F := F) x0 x1 i = FloatOps.maximumf (val_main_v58 (F := F) x0 x1 i) (val_main_v59 (F := F) i) := rfl

-- %61 = stablehlo.sqrt %60 : tensor<1x16384xf32>
def val_main_v61 (x0 : (⟨S676x1536, .f32⟩ : BufTy).Contents (Elt F)) (x1 : (⟨S16384x1536, .f32⟩ : BufTy).Contents (Elt F)) : (⟨S1x16384, .f32⟩ : BufTy).Contents (Elt F) :=
  Host.sqrt (val_main_v60 (F := F) x0 x1)
theorem val_main_v61_apply (x0 : (⟨S676x1536, .f32⟩ : BufTy).Contents (Elt F)) (x1 : (⟨S16384x1536, .f32⟩ : BufTy).Contents (Elt F)) (i : S1x16384.Idx) :
    val_main_v61 (F := F) x0 x1 i = FloatOps.hostUnary .sqrt (val_main_v60 (F := F) x0 x1 i) := rfl

-- %62 = stablehlo.negate %61 : tensor<1x16384xf32>
def val_main_v62 (x0 : (⟨S676x1536, .f32⟩ : BufTy).Contents (Elt F)) (x1 : (⟨S16384x1536, .f32⟩ : BufTy).Contents (Elt F)) : (⟨S1x16384, .f32⟩ : BufTy).Contents (Elt F) :=
  Host.negf (val_main_v61 (F := F) x0 x1)
theorem val_main_v62_apply (x0 : (⟨S676x1536, .f32⟩ : BufTy).Contents (Elt F)) (x1 : (⟨S16384x1536, .f32⟩ : BufTy).Contents (Elt F)) (i : S1x16384.Idx) :
    val_main_v62 (F := F) x0 x1 i = FloatOps.hostNegf (val_main_v61 (F := F) x0 x1 i) := rfl

-- %values, %indices = chlo.top_k(%62, k = 3) : tensor<1x16384xf32> -> (tensor<1x3xf32>, tensor<1x3xi32>)
def val_main_values (x0 : (⟨S676x1536, .f32⟩ : BufTy).Contents (Elt F)) (x1 : (⟨S16384x1536, .f32⟩ : BufTy).Contents (Elt F)) : (⟨S1x3, .f32⟩ : BufTy).Contents (Elt F) :=
  (Host.topK S1x3 1 (FloatOps.cmpfTotal .gt) (val_main_v62 (F := F) x0 x1) sliceFits_S1x16384_S1x3).1

-- %values, %indices = chlo.top_k(%62, k = 3) : tensor<1x16384xf32> -> (tensor<1x3xf32>, tensor<1x3xi32>)
def val_main_indices (x0 : (⟨S676x1536, .f32⟩ : BufTy).Contents (Elt F)) (x1 : (⟨S16384x1536, .f32⟩ : BufTy).Contents (Elt F)) : (⟨S1x3, .i32⟩ : BufTy).Contents (Elt F) :=
  (Host.topK S1x3 1 (FloatOps.cmpfTotal .gt) (val_main_v62 (F := F) x0 x1) sliceFits_S1x16384_S1x3).2

-- %63 = stablehlo.slice %indices [0:1, 1:3] : (tensor<1x3xi32>) -> tensor<1x2xi32>
def val_main_v63 (x0 : (⟨S676x1536, .f32⟩ : BufTy).Contents (Elt F)) (x1 : (⟨S16384x1536, .f32⟩ : BufTy).Contents (Elt F)) : (⟨S1x2, .i32⟩ : BufTy).Contents (Elt F) :=
  extractStridedSlice S1x2 ![0, 1] (val_main_indices (F := F) x0 x1) slices_S1x3_S1x2_0_1
abbrev idx_main_v63 (i : S1x2.Idx) : S1x3.Idx := fun a => match a with
  | ⟨0, _⟩ => ⟨(i 0).val, (i 0).isLt⟩
  | ⟨1, _⟩ => ⟨1 + (i 1).val, by have h1 : (i 1).val < 2 := (i 1).isLt; show 1 + (i 1).val < 3; omega⟩
theorem val_main_v63_apply (x0 : (⟨S676x1536, .f32⟩ : BufTy).Contents (Elt F)) (x1 : (⟨S16384x1536, .f32⟩ : BufTy).Contents (Elt F)) (i : S1x2.Idx) :
    val_main_v63 (F := F) x0 x1 i = val_main_indices (F := F) x0 x1 (idx_main_v63 i) := by
  unfold val_main_v63
  generalize val_main_indices (F := F) x0 x1 = y
  exact extractStridedSlice_apply ![0, 1] y slices_S1x3_S1x2_0_1 i (idx_main_v63 i) (fun a => match a with
    | ⟨0, _⟩ => by show (i 0).val = 0 + (i 0).val; omega
    | ⟨1, _⟩ => by show 1 + (i 1).val = 1 + (i 1).val; omega)

-- %64 = stablehlo.reshape %63 : (tensor<1x2xi32>) -> tensor<2xi32>
def val_main_v64 (x0 : (⟨S676x1536, .f32⟩ : BufTy).Contents (Elt F)) (x1 : (⟨S16384x1536, .f32⟩ : BufTy).Contents (Elt F)) : (⟨S2, .i32⟩ : BufTy).Contents (Elt F) :=
  shapeCast _ (val_main_v63 (F := F) x0 x1) shapeCasts_S1x2_S2
abbrev idx_main_v64 (i : S2.Idx) : S1x2.Idx := fun a => match a with
  | ⟨0, _⟩ => ⟨0, Nat.one_pos⟩
  | ⟨1, _⟩ => ⟨((i 0).val) % 2, by have h0 : (i 0).val < 2 := (i 0).isLt; show ((i 0).val) % 2 < 2; omega⟩
theorem val_main_v64_apply (x0 : (⟨S676x1536, .f32⟩ : BufTy).Contents (Elt F)) (x1 : (⟨S16384x1536, .f32⟩ : BufTy).Contents (Elt F)) (i : S2.Idx) :
    val_main_v64 (F := F) x0 x1 i = val_main_v63 (F := F) x0 x1 (idx_main_v64 i) := by
  unfold val_main_v64
  generalize val_main_v63 (F := F) x0 x1 = y
  exact shapeCast_apply y shapeCasts_S1x2_S2 i (idx_main_v64 i)
    (by rewrite [Shape.rowMajor_val_two, Shape.rowMajor_val_one]; have h0 : (i 0).val < 2 := (i 0).isLt; show 0 * 2 + ((i 0).val) % 2 = (i 0).val; omega)

-- %c_24 = stablehlo.constant dense<0> : tensor<i32>
def val_main_c_24 : (⟨S_, .i32⟩ : BufTy).Contents (Elt F) :=
  constantI S_ 32 0#32
theorem val_main_c_24_apply (i : S_.Idx) :
    val_main_c_24 (F := F) i = 0#32 := rfl

-- %65 = stablehlo.broadcast_in_dim %c_24, dims = [] : (tensor<i32>) -> tensor<2xi32>
def val_main_v65 : (⟨S2, .i32⟩ : BufTy).Contents (Elt F) :=
  broadcastInDim S2 ![] bcast_S_S2 (val_main_c_24 (F := F))
abbrev idx_main_v65 (i : S2.Idx) : S_.Idx := fun a => a.elim0
theorem val_main_v65_apply (i : S2.Idx) :
    val_main_v65 (F := F) i = val_main_c_24 (F := F) (idx_main_v65 i) := by
  unfold val_main_v65
  generalize val_main_c_24 (F := F) = y
  exact broadcastInDim_apply _ bcast_S_S2 y i (idx_main_v65 i) (fun a => a.elim0)

-- %66 = stablehlo.compare LT, %64, %65, SIGNED : (tensor<2xi32>, tensor<2xi32>) -> tensor<2xi1>
def val_main_v66 (x0 : (⟨S676x1536, .f32⟩ : BufTy).Contents (Elt F)) (x1 : (⟨S16384x1536, .f32⟩ : BufTy).Contents (Elt F)) : (⟨S2, .i1⟩ : BufTy).Contents (Elt F) :=
  cmpi .slt (val_main_v64 (F := F) x0 x1) (val_main_v65 (F := F))
theorem val_main_v66_apply (x0 : (⟨S676x1536, .f32⟩ : BufTy).Contents (Elt F)) (x1 : (⟨S16384x1536, .f32⟩ : BufTy).Contents (Elt F)) (i : S2.Idx) :
    val_main_v66 (F := F) x0 x1 i = IntOp.cmpi .slt (val_main_v64 (F := F) x0 x1 i) (val_main_v65 (F := F) i) := rfl

-- %c_25 = stablehlo.constant dense<16384> : tensor<i32>
def val_main_c_25 : (⟨S_, .i32⟩ : BufTy).Contents (Elt F) :=
  constantI S_ 32 16384#32
theorem val_main_c_25_apply (i : S_.Idx) :
    val_main_c_25 (F := F) i = 16384#32 := rfl

-- %67 = stablehlo.broadcast_in_dim %c_25, dims = [] : (tensor<i32>) -> tensor<2xi32>
def val_main_v67 : (⟨S2, .i32⟩ : BufTy).Contents (Elt F) :=
  broadcastInDim S2 ![] bcast_S_S2 (val_main_c_25 (F := F))
abbrev idx_main_v67 (i : S2.Idx) : S_.Idx := fun a => a.elim0
theorem val_main_v67_apply (i : S2.Idx) :
    val_main_v67 (F := F) i = val_main_c_25 (F := F) (idx_main_v67 i) := by
  unfold val_main_v67
  generalize val_main_c_25 (F := F) = y
  exact broadcastInDim_apply _ bcast_S_S2 y i (idx_main_v67 i) (fun a => a.elim0)

-- %68 = stablehlo.add %64, %67 : tensor<2xi32>
def val_main_v68 (x0 : (⟨S676x1536, .f32⟩ : BufTy).Contents (Elt F)) (x1 : (⟨S16384x1536, .f32⟩ : BufTy).Contents (Elt F)) : (⟨S2, .i32⟩ : BufTy).Contents (Elt F) :=
  addi (val_main_v64 (F := F) x0 x1) (val_main_v67 (F := F))
theorem val_main_v68_apply (x0 : (⟨S676x1536, .f32⟩ : BufTy).Contents (Elt F)) (x1 : (⟨S16384x1536, .f32⟩ : BufTy).Contents (Elt F)) (i : S2.Idx) :
    val_main_v68 (F := F) x0 x1 i = IntOp.addi (val_main_v64 (F := F) x0 x1 i) (val_main_v67 (F := F) i) := rfl

-- %69 = stablehlo.select %66, %68, %64 : tensor<2xi1>, tensor<2xi32>
def val_main_v69 (x0 : (⟨S676x1536, .f32⟩ : BufTy).Contents (Elt F)) (x1 : (⟨S16384x1536, .f32⟩ : BufTy).Contents (Elt F)) : (⟨S2, .i32⟩ : BufTy).Contents (Elt F) :=
  select (val_main_v66 (F := F) x0 x1) (val_main_v68 (F := F) x0 x1) (val_main_v64 (F := F) x0 x1)
theorem val_main_v69_apply (x0 : (⟨S676x1536, .f32⟩ : BufTy).Contents (Elt F)) (x1 : (⟨S16384x1536, .f32⟩ : BufTy).Contents (Elt F)) (i : S2.Idx) :
    val_main_v69 (F := F) x0 x1 i = Scalar.select (val_main_v66 (F := F) x0 x1 i) (val_main_v68 (F := F) x0 x1 i) (val_main_v64 (F := F) x0 x1 i) := rfl

-- %70 = stablehlo.broadcast_in_dim %69, dims = [0] : (tensor<2xi32>) -> tensor<2x1xi32>
def val_main_v70 (x0 : (⟨S676x1536, .f32⟩ : BufTy).Contents (Elt F)) (x1 : (⟨S16384x1536, .f32⟩ : BufTy).Contents (Elt F)) : (⟨S2x1, .i32⟩ : BufTy).Contents (Elt F) :=
  broadcastInDim S2x1 ![0] bcast_S2_S2x1_0 (val_main_v69 (F := F) x0 x1)
abbrev idx_main_v70 (i : S2x1.Idx) : S2.Idx := fun a => match a with
  | ⟨0, _⟩ => ⟨(i 0).val, (i 0).isLt⟩
theorem val_main_v70_apply (x0 : (⟨S676x1536, .f32⟩ : BufTy).Contents (Elt F)) (x1 : (⟨S16384x1536, .f32⟩ : BufTy).Contents (Elt F)) (i : S2x1.Idx) :
    val_main_v70 (F := F) x0 x1 i = val_main_v69 (F := F) x0 x1 (idx_main_v70 i) := by
  unfold val_main_v70
  generalize val_main_v69 (F := F) x0 x1 = y
  exact broadcastInDim_apply _ bcast_S2_S2x1_0 y i (idx_main_v70 i) (fun a => match a with
    | ⟨0, _⟩ => by show (i 0).val = if (2 : Nat) = 1 then 0 else (i 0).val; rw [if_neg (by decide)])

-- %71 = "stablehlo.gather"(%arg1, %70) <{dimension_numbers = #stablehlo.gather<offset_dims = [1], collapsed_slice_dims = [0], start_index_map = [0], index_vector_dim = 1>, indices_are_sorted = false, slice_sizes = array<i64: 1, 1536>}> : (tensor<16384x1536xf32>, tensor<2x1xi32>) -> tensor<2x1536xf32>
def val_main_v71 (x0 : (⟨S676x1536, .f32⟩ : BufTy).Contents (Elt F)) (x1 : (⟨S16384x1536, .f32⟩ : BufTy).Contents (Elt F)) : (⟨S2x1536, .f32⟩ : BufTy).Contents (Elt F) :=
  Host.gather gather_S16384x1536_S2x1_S2x1536_1_0_n_n_0_1_11536 (x1) (val_main_v70 (F := F) x0 x1)

-- %72 = stablehlo.broadcast_in_dim %30, dims = [0, 1] : (tensor<1x1536xf32>) -> tensor<2x1536xf32>
def val_main_v72 (x0 : (⟨S676x1536, .f32⟩ : BufTy).Contents (Elt F)) (x1 : (⟨S16384x1536, .f32⟩ : BufTy).Contents (Elt F)) : (⟨S2x1536, .f32⟩ : BufTy).Contents (Elt F) :=
  broadcastInDim S2x1536 ![0, 1] bcast_S1x1536_S2x1536_0_1 (val_main_v30 (F := F) x0 x1)
abbrev idx_main_v72 (i : S2x1536.Idx) : S1x1536.Idx := fun a => match a with
  | ⟨0, _⟩ => ⟨0, Nat.one_pos⟩
  | ⟨1, _⟩ => ⟨(i 1).val, (i 1).isLt⟩
theorem val_main_v72_apply (x0 : (⟨S676x1536, .f32⟩ : BufTy).Contents (Elt F)) (x1 : (⟨S16384x1536, .f32⟩ : BufTy).Contents (Elt F)) (i : S2x1536.Idx) :
    val_main_v72 (F := F) x0 x1 i = val_main_v30 (F := F) x0 x1 (idx_main_v72 i) := by
  unfold val_main_v72
  generalize val_main_v30 (F := F) x0 x1 = y
  exact broadcastInDim_apply _ bcast_S1x1536_S2x1536_0_1 y i (idx_main_v72 i) (fun a => match a with
    | ⟨0, _⟩ => by show 0 = if (1 : Nat) = 1 then 0 else (i 0).val; rw [if_pos rfl]
    | ⟨1, _⟩ => by show (i 1).val = if (1536 : Nat) = 1 then 0 else (i 1).val; rw [if_neg (by decide)])

-- %73 = stablehlo.subtract %72, %71 : tensor<2x1536xf32>
def val_main_v73 (x0 : (⟨S676x1536, .f32⟩ : BufTy).Contents (Elt F)) (x1 : (⟨S16384x1536, .f32⟩ : BufTy).Contents (Elt F)) : (⟨S2x1536, .f32⟩ : BufTy).Contents (Elt F) :=
  subf (val_main_v72 (F := F) x0 x1) (val_main_v71 (F := F) x0 x1)
theorem val_main_v73_apply (x0 : (⟨S676x1536, .f32⟩ : BufTy).Contents (Elt F)) (x1 : (⟨S16384x1536, .f32⟩ : BufTy).Contents (Elt F)) (i : S2x1536.Idx) :
    val_main_v73 (F := F) x0 x1 i = FloatOps.subf (val_main_v72 (F := F) x0 x1 i) (val_main_v71 (F := F) x0 x1 i) := rfl

-- %74 = stablehlo.multiply %73, %73 : tensor<2x1536xf32>
def val_main_v74 (x0 : (⟨S676x1536, .f32⟩ : BufTy).Contents (Elt F)) (x1 : (⟨S16384x1536, .f32⟩ : BufTy).Contents (Elt F)) : (⟨S2x1536, .f32⟩ : BufTy).Contents (Elt F) :=
  mulf (val_main_v73 (F := F) x0 x1) (val_main_v73 (F := F) x0 x1)
theorem val_main_v74_apply (x0 : (⟨S676x1536, .f32⟩ : BufTy).Contents (Elt F)) (x1 : (⟨S16384x1536, .f32⟩ : BufTy).Contents (Elt F)) (i : S2x1536.Idx) :
    val_main_v74 (F := F) x0 x1 i = FloatOps.mulf (val_main_v73 (F := F) x0 x1 i) (val_main_v73 (F := F) x0 x1 i) := rfl

-- %cst_26 = stablehlo.constant dense<0.000000e+00> : tensor<f32>
def val_main_cst_26 : (⟨S_, .f32⟩ : BufTy).Contents (Elt F) :=
  constant S_ .f32 0x00000000#32
theorem val_main_cst_26_apply (i : S_.Idx) :
    val_main_cst_26 (F := F) i = FloatOps.ofBits .f32 0x00000000#32 := rfl

-- %75 = stablehlo.reduce(%74 init: %cst_26) applies stablehlo.add across dimensions = [1] : (tensor<2x1536xf32>, tensor<f32>) -> tensor<2xf32> {
def val_main_v75 (x0 : (⟨S676x1536, .f32⟩ : BufTy).Contents (Elt F)) (x1 : (⟨S16384x1536, .f32⟩ : BufTy).Contents (Elt F)) : (⟨S2, .f32⟩ : BufTy).Contents (Elt F) :=
  Host.reduceAdd (val_main_v74 (F := F) x0 x1) (val_main_cst_26 (F := F)) reducesTo_S2x1536_S2_d1 h_S_
abbrev idx_main_v75 (i : S2.Idx) (k : Fin 1536) : S2x1536.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v75_apply (x0 : (⟨S676x1536, .f32⟩ : BufTy).Contents (Elt Ideal)) (x1 : (⟨S16384x1536, .f32⟩ : BufTy).Contents (Elt Ideal)) (i : S2.Idx) :
    val_main_v75 (F := Ideal) x0 x1 i = (val_main_cst_26 (F := Ideal)) (Shape.Idx.first h_S_) + ∑ k : Fin 1536, (val_main_v74 (F := Ideal) x0 x1) (idx_main_v75 i k) := by
  unfold val_main_v75
  generalize val_main_v74 (F := Ideal) x0 x1 = y0
  simp only [Host.reduceAdd, Ideal.hostReduceAdd_def]
  rw [Ideal.hostReduceAdd_single reducesTo_S2x1536_S2_d1 (by decide)]
  refine congrArg (_ + ·) (Finset.sum_congr rfl fun k _ => ?_)
  exact congrArg y0 (funext fun a => Fin.ext (by match a with | ⟨0, _⟩ => rfl | ⟨1, _⟩ => rfl))

-- %76 = stablehlo.sqrt %75 : tensor<2xf32>
def val_main_v76 (x0 : (⟨S676x1536, .f32⟩ : BufTy).Contents (Elt F)) (x1 : (⟨S16384x1536, .f32⟩ : BufTy).Contents (Elt F)) : (⟨S2, .f32⟩ : BufTy).Contents (Elt F) :=
  Host.sqrt (val_main_v75 (F := F) x0 x1)
theorem val_main_v76_apply (x0 : (⟨S676x1536, .f32⟩ : BufTy).Contents (Elt F)) (x1 : (⟨S16384x1536, .f32⟩ : BufTy).Contents (Elt F)) (i : S2.Idx) :
    val_main_v76 (F := F) x0 x1 i = FloatOps.hostUnary .sqrt (val_main_v75 (F := F) x0 x1 i) := rfl

-- %cst_27 = stablehlo.constant dense<1.536000e+03> : tensor<f32>
def val_main_cst_27 : (⟨S_, .f32⟩ : BufTy).Contents (Elt F) :=
  constant S_ .f32 0x44C00000#32
theorem val_main_cst_27_apply (i : S_.Idx) :
    val_main_cst_27 (F := F) i = FloatOps.ofBits .f32 0x44C00000#32 := rfl

-- %77 = stablehlo.sqrt %cst_27 : tensor<f32>
def val_main_v77 : (⟨S_, .f32⟩ : BufTy).Contents (Elt F) :=
  Host.sqrt (val_main_cst_27 (F := F))
theorem val_main_v77_apply (i : S_.Idx) :
    val_main_v77 (F := F) i = FloatOps.hostUnary .sqrt (val_main_cst_27 (F := F) i) := rfl

-- %78 = stablehlo.divide %21, %77 : tensor<f32>
def val_main_v78 (x0 : (⟨S676x1536, .f32⟩ : BufTy).Contents (Elt F)) (x1 : (⟨S16384x1536, .f32⟩ : BufTy).Contents (Elt F)) : (⟨S_, .f32⟩ : BufTy).Contents (Elt F) :=
  Host.divf (val_main_v21 (F := F) x0 x1) (val_main_v77 (F := F))
theorem val_main_v78_apply (x0 : (⟨S676x1536, .f32⟩ : BufTy).Contents (Elt F)) (x1 : (⟨S16384x1536, .f32⟩ : BufTy).Contents (Elt F)) (i : S_.Idx) :
    val_main_v78 (F := F) x0 x1 i = FloatOps.hostDivf (val_main_v21 (F := F) x0 x1 i) (val_main_v77 (F := F) i) := rfl

-- %79 = stablehlo.exponential %78 : tensor<f32>
def val_main_v79 (x0 : (⟨S676x1536, .f32⟩ : BufTy).Contents (Elt F)) (x1 : (⟨S16384x1536, .f32⟩ : BufTy).Contents (Elt F)) : (⟨S_, .f32⟩ : BufTy).Contents (Elt F) :=
  Host.exp (val_main_v78 (F := F) x0 x1)
theorem val_main_v79_apply (x0 : (⟨S676x1536, .f32⟩ : BufTy).Contents (Elt F)) (x1 : (⟨S16384x1536, .f32⟩ : BufTy).Contents (Elt F)) (i : S_.Idx) :
    val_main_v79 (F := F) x0 x1 i = FloatOps.hostUnary .exp (val_main_v78 (F := F) x0 x1 i) := rfl

-- %80 = stablehlo.broadcast_in_dim %77, dims = [] : (tensor<f32>) -> tensor<2xf32>
def val_main_v80 : (⟨S2, .f32⟩ : BufTy).Contents (Elt F) :=
  broadcastInDim S2 ![] bcast_S_S2 (val_main_v77 (F := F))
abbrev idx_main_v80 (i : S2.Idx) : S_.Idx := fun a => a.elim0
theorem val_main_v80_apply (i : S2.Idx) :
    val_main_v80 (F := F) i = val_main_v77 (F := F) (idx_main_v80 i) := by
  unfold val_main_v80
  generalize val_main_v77 (F := F) = y
  exact broadcastInDim_apply _ bcast_S_S2 y i (idx_main_v80 i) (fun a => a.elim0)

-- %81 = stablehlo.divide %76, %80 : tensor<2xf32>
def val_main_v81 (x0 : (⟨S676x1536, .f32⟩ : BufTy).Contents (Elt F)) (x1 : (⟨S16384x1536, .f32⟩ : BufTy).Contents (Elt F)) : (⟨S2, .f32⟩ : BufTy).Contents (Elt F) :=
  Host.divf (val_main_v76 (F := F) x0 x1) (val_main_v80 (F := F))
theorem val_main_v81_apply (x0 : (⟨S676x1536, .f32⟩ : BufTy).Contents (Elt F)) (x1 : (⟨S16384x1536, .f32⟩ : BufTy).Contents (Elt F)) (i : S2.Idx) :
    val_main_v81 (F := F) x0 x1 i = FloatOps.hostDivf (val_main_v76 (F := F) x0 x1 i) (val_main_v80 (F := F) i) := rfl

-- %82 = stablehlo.exponential %81 : tensor<2xf32>
def val_main_v82 (x0 : (⟨S676x1536, .f32⟩ : BufTy).Contents (Elt F)) (x1 : (⟨S16384x1536, .f32⟩ : BufTy).Contents (Elt F)) : (⟨S2, .f32⟩ : BufTy).Contents (Elt F) :=
  Host.exp (val_main_v81 (F := F) x0 x1)
theorem val_main_v82_apply (x0 : (⟨S676x1536, .f32⟩ : BufTy).Contents (Elt F)) (x1 : (⟨S16384x1536, .f32⟩ : BufTy).Contents (Elt F)) (i : S2.Idx) :
    val_main_v82 (F := F) x0 x1 i = FloatOps.hostUnary .exp (val_main_v81 (F := F) x0 x1 i) := rfl

-- %cst_28 = stablehlo.constant dense<0.000000e+00> : tensor<f32>
def val_main_cst_28 : (⟨S_, .f32⟩ : BufTy).Contents (Elt F) :=
  constant S_ .f32 0x00000000#32
theorem val_main_cst_28_apply (i : S_.Idx) :
    val_main_cst_28 (F := F) i = FloatOps.ofBits .f32 0x00000000#32 := rfl

-- %83 = stablehlo.reduce(%82 init: %cst_28) applies stablehlo.add across dimensions = [0] : (tensor<2xf32>, tensor<f32>) -> tensor<f32> {
def val_main_v83 (x0 : (⟨S676x1536, .f32⟩ : BufTy).Contents (Elt F)) (x1 : (⟨S16384x1536, .f32⟩ : BufTy).Contents (Elt F)) : (⟨S_, .f32⟩ : BufTy).Contents (Elt F) :=
  Host.reduceAdd (val_main_v82 (F := F) x0 x1) (val_main_cst_28 (F := F)) reducesTo_S2_S_d0 h_S_
/-- Stated at `F := Ideal`, where the host's float sum is this sum; at a bit-exact instance it is an opaque function of its operand. -/
theorem val_main_v83_apply (x0 : (⟨S676x1536, .f32⟩ : BufTy).Contents (Elt Ideal)) (x1 : (⟨S16384x1536, .f32⟩ : BufTy).Contents (Elt Ideal)) (i : S_.Idx) :
    val_main_v83 (F := Ideal) x0 x1 i = (val_main_cst_28 (F := Ideal)) (Shape.Idx.first h_S_) + ∑ j : S2.Idx, (val_main_v82 (F := Ideal) x0 x1) j := by
  unfold val_main_v83
  generalize val_main_v82 (F := Ideal) x0 x1 = y0
  simp only [Host.reduceAdd, Ideal.hostReduceAdd_def]
  exact Ideal.hostReduceAdd_total reducesTo_S2_S_d0 (fun b => b.elim0) y0 _ i

-- %84 = stablehlo.divide %79, %83 : tensor<f32>
def val_main_v84 (x0 : (⟨S676x1536, .f32⟩ : BufTy).Contents (Elt F)) (x1 : (⟨S16384x1536, .f32⟩ : BufTy).Contents (Elt F)) : (⟨S_, .f32⟩ : BufTy).Contents (Elt F) :=
  Host.divf (val_main_v79 (F := F) x0 x1) (val_main_v83 (F := F) x0 x1)
theorem val_main_v84_apply (x0 : (⟨S676x1536, .f32⟩ : BufTy).Contents (Elt F)) (x1 : (⟨S16384x1536, .f32⟩ : BufTy).Contents (Elt F)) (i : S_.Idx) :
    val_main_v84 (F := F) x0 x1 i = FloatOps.hostDivf (val_main_v79 (F := F) x0 x1 i) (val_main_v83 (F := F) x0 x1 i) := rfl

-- %cst_29 = stablehlo.constant dense<1.000000e+00> : tensor<f32>
def val_main_cst_29 : (⟨S_, .f32⟩ : BufTy).Contents (Elt F) :=
  constant S_ .f32 0x3F800000#32
theorem val_main_cst_29_apply (i : S_.Idx) :
    val_main_cst_29 (F := F) i = FloatOps.ofBits .f32 0x3F800000#32 := rfl

-- %85 = stablehlo.subtract %cst_29, %84 : tensor<f32>
def val_main_v85 (x0 : (⟨S676x1536, .f32⟩ : BufTy).Contents (Elt F)) (x1 : (⟨S16384x1536, .f32⟩ : BufTy).Contents (Elt F)) : (⟨S_, .f32⟩ : BufTy).Contents (Elt F) :=
  subf (val_main_cst_29 (F := F)) (val_main_v84 (F := F) x0 x1)
theorem val_main_v85_apply (x0 : (⟨S676x1536, .f32⟩ : BufTy).Contents (Elt F)) (x1 : (⟨S16384x1536, .f32⟩ : BufTy).Contents (Elt F)) (i : S_.Idx) :
    val_main_v85 (F := F) x0 x1 i = FloatOps.subf (val_main_cst_29 (F := F) i) (val_main_v84 (F := F) x0 x1 i) := rfl

-- %86 = stablehlo.multiply %85, %21 : tensor<f32>
def val_main_v86 (x0 : (⟨S676x1536, .f32⟩ : BufTy).Contents (Elt F)) (x1 : (⟨S16384x1536, .f32⟩ : BufTy).Contents (Elt F)) : (⟨S_, .f32⟩ : BufTy).Contents (Elt F) :=
  mulf (val_main_v85 (F := F) x0 x1) (val_main_v21 (F := F) x0 x1)
theorem val_main_v86_apply (x0 : (⟨S676x1536, .f32⟩ : BufTy).Contents (Elt F)) (x1 : (⟨S16384x1536, .f32⟩ : BufTy).Contents (Elt F)) (i : S_.Idx) :
    val_main_v86 (F := F) x0 x1 i = FloatOps.mulf (val_main_v85 (F := F) x0 x1 i) (val_main_v21 (F := F) x0 x1 i) := rfl

-- %87 = stablehlo.reshape %18 : (tensor<676xf32>) -> tensor<26x26xf32>
def val_main_v87 (x0 : (⟨S676x1536, .f32⟩ : BufTy).Contents (Elt F)) (x1 : (⟨S16384x1536, .f32⟩ : BufTy).Contents (Elt F)) : (⟨S26x26, .f32⟩ : BufTy).Contents (Elt F) :=
  shapeCast _ (val_main_v18 (F := F) x0 x1) shapeCasts_S676_S26x26
abbrev idx_main_v87 (i : S26x26.Idx) : S676.Idx := fun a => match a with
  | ⟨0, _⟩ => ⟨(i 0).val * 26 + (i 1).val, by have h0 : (i 0).val < 26 := (i 0).isLt; have h1 : (i 1).val < 26 := (i 1).isLt; show (i 0).val * 26 + (i 1).val < 676; omega⟩
theorem val_main_v87_apply (x0 : (⟨S676x1536, .f32⟩ : BufTy).Contents (Elt F)) (x1 : (⟨S16384x1536, .f32⟩ : BufTy).Contents (Elt F)) (i : S26x26.Idx) :
    val_main_v87 (F := F) x0 x1 i = val_main_v18 (F := F) x0 x1 (idx_main_v87 i) := by
  unfold val_main_v87
  generalize val_main_v18 (F := F) x0 x1 = y
  exact shapeCast_apply y shapeCasts_S676_S26x26 i (idx_main_v87 i)
    (by rewrite [Shape.rowMajor_val_one, Shape.rowMajor_val_two]; have h0 : (i 0).val < 26 := (i 0).isLt; have h1 : (i 1).val < 26 := (i 1).isLt; show (i 0).val * 26 + (i 1).val = (i 0).val * 26 + (i 1).val; omega)

-- %88 = stablehlo.dot_general %arg2, %87, contracting_dims = [1] x [0], precision = [DEFAULT, DEFAULT] : (tensor<224x26xf32>, tensor<26x26xf32>) -> tensor<224x26xf32>
def val_main_v88 (x0 : (⟨S676x1536, .f32⟩ : BufTy).Contents (Elt F)) (x1 : (⟨S16384x1536, .f32⟩ : BufTy).Contents (Elt F)) (x2 : (⟨S224x26, .f32⟩ : BufTy).Contents (Elt F)) : (⟨S224x26, .f32⟩ : BufTy).Contents (Elt F) :=
  Host.dotGeneral dot_S224x26_S26x26_S224x26_1_0_0_1_n_n none (x2) (val_main_v87 (F := F) x0 x1)
theorem lhs_main_v88_0 (i : S224x26.Idx) (q : dot_S224x26_S26x26_S224x26_1_0_0_1_n_n.contr.Idx) :
    (dot_S224x26_S26x26_S224x26_1_0_0_1_n_n.lhsIdx i q 0).val = (i 0).val := by
  unfold DotDims.lhsIdx
  rw [dif_neg (show ¬(0 : Fin S224x26.rank) ∈ dot_S224x26_S26x26_S224x26_1_0_0_1_n_n.lhsBatch by decide), dif_pos (show (0 : Fin S224x26.rank) ∈ dot_S224x26_S26x26_S224x26_1_0_0_1_n_n.lhsNonContracting by decide)]
  rfl
theorem lhs_main_v88_1 (i : S224x26.Idx) (q : dot_S224x26_S26x26_S224x26_1_0_0_1_n_n.contr.Idx) :
    (dot_S224x26_S26x26_S224x26_1_0_0_1_n_n.lhsIdx i q 1).val = (q ⟨0, by decide⟩).val :=
  dot_S224x26_S26x26_S224x26_1_0_0_1_n_n.lhsIdx_val_of_single rfl i q
theorem rhs_main_v88_0 (i : S224x26.Idx) (q : dot_S224x26_S26x26_S224x26_1_0_0_1_n_n.contr.Idx) :
    (dot_S224x26_S26x26_S224x26_1_0_0_1_n_n.rhsIdx i q 0).val = (q ⟨0, by decide⟩).val :=
  dot_S224x26_S26x26_S224x26_1_0_0_1_n_n.rhsIdx_val_of_single rfl i q
theorem rhs_main_v88_1 (i : S224x26.Idx) (q : dot_S224x26_S26x26_S224x26_1_0_0_1_n_n.contr.Idx) :
    (dot_S224x26_S26x26_S224x26_1_0_0_1_n_n.rhsIdx i q 1).val = (i 1).val := by
  unfold DotDims.rhsIdx
  rw [dif_neg (show ¬(1 : Fin S26x26.rank) ∈ dot_S224x26_S26x26_S224x26_1_0_0_1_n_n.rhsBatch by decide), dif_pos (show (1 : Fin S26x26.rank) ∈ dot_S224x26_S26x26_S224x26_1_0_0_1_n_n.rhsNonContracting by decide)]
  rfl
abbrev lidx_main_v88 (i : S224x26.Idx) (k : Fin 26) : S224x26.Idx := fun a => match a with
  | ⟨0, _⟩ => ⟨(i 0).val, (i 0).isLt⟩
  | ⟨1, _⟩ => ⟨k.val, k.isLt⟩
abbrev ridx_main_v88 (i : S224x26.Idx) (k : Fin 26) : S26x26.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v88_apply (x0 : (⟨S676x1536, .f32⟩ : BufTy).Contents (Elt Ideal)) (x1 : (⟨S16384x1536, .f32⟩ : BufTy).Contents (Elt Ideal)) (x2 : (⟨S224x26, .f32⟩ : BufTy).Contents (Elt Ideal)) (i : S224x26.Idx) :
    val_main_v88 (F := Ideal) x0 x1 x2 i = ∑ k : Fin 26, x2 (lidx_main_v88 i k) * (val_main_v87 (F := Ideal) x0 x1) (ridx_main_v88 i k) := by
  unfold val_main_v88
  generalize val_main_v87 (F := Ideal) x0 x1 = y0
  simp only [Host.dotGeneral]
  rw [Ideal.dotGeneral_apply, ← Equiv.sum_comp (ValueIdx.contrEquiv1 dot_S224x26_S26x26_S224x26_1_0_0_1_n_n 26 rfl rfl).symm]
  refine Finset.sum_congr rfl fun k _ => ?_
  have hk := ValueIdx.contrEquiv1_symm_val dot_S224x26_S26x26_S224x26_1_0_0_1_n_n 26 rfl rfl k
  have el : dot_S224x26_S26x26_S224x26_1_0_0_1_n_n.lhsIdx i ((ValueIdx.contrEquiv1 dot_S224x26_S26x26_S224x26_1_0_0_1_n_n 26 rfl rfl).symm k) = lidx_main_v88 i k := funext fun a => Fin.ext (by
    match a with
    | ⟨0, _⟩ => exact lhs_main_v88_0 _ _
    | ⟨1, _⟩ => exact (lhs_main_v88_1 _ _).trans hk)
  have er : dot_S224x26_S26x26_S224x26_1_0_0_1_n_n.rhsIdx i ((ValueIdx.contrEquiv1 dot_S224x26_S26x26_S224x26_1_0_0_1_n_n 26 rfl rfl).symm k) = ridx_main_v88 i k := funext fun a => Fin.ext (by
    match a with
    | ⟨0, _⟩ => exact (rhs_main_v88_0 _ _).trans hk
    | ⟨1, _⟩ => exact rhs_main_v88_1 _ _)
  rw [el, er]

-- %89 = stablehlo.transpose %arg2, dims = [1, 0] : (tensor<224x26xf32>) -> tensor<26x224xf32>
def val_main_v89 (x2 : (⟨S224x26, .f32⟩ : BufTy).Contents (Elt F)) : (⟨S26x224, .f32⟩ : BufTy).Contents (Elt F) :=
  transpose S26x224 [1, 0] (x2) transposes_S224x26_S26x224_1_0
abbrev idx_main_v89 (i : S26x224.Idx) : S224x26.Idx := fun a => match a with
  | ⟨0, _⟩ => ⟨(i 1).val, (i 1).isLt⟩
  | ⟨1, _⟩ => ⟨(i 0).val, (i 0).isLt⟩
theorem val_main_v89_apply (x2 : (⟨S224x26, .f32⟩ : BufTy).Contents (Elt F)) (i : S26x224.Idx) :
    val_main_v89 (F := F) x2 i = x2 (idx_main_v89 i) := by
  unfold val_main_v89
  exact transpose_apply [1, 0] x2 transposes_S224x26_S26x224_1_0 i (idx_main_v89 i) (fun b => match b with
    | ⟨0, _⟩ => rfl
    | ⟨1, _⟩ => rfl)

-- %90 = stablehlo.dot_general %88, %89, contracting_dims = [1] x [0], precision = [DEFAULT, DEFAULT] : (tensor<224x26xf32>, tensor<26x224xf32>) -> tensor<224x224xf32>
def val_main_v90 (x0 : (⟨S676x1536, .f32⟩ : BufTy).Contents (Elt F)) (x1 : (⟨S16384x1536, .f32⟩ : BufTy).Contents (Elt F)) (x2 : (⟨S224x26, .f32⟩ : BufTy).Contents (Elt F)) : (⟨S224x224, .f32⟩ : BufTy).Contents (Elt F) :=
  Host.dotGeneral dot_S224x26_S26x224_S224x224_1_0_0_1_n_n none (val_main_v88 (F := F) x0 x1 x2) (val_main_v89 (F := F) x2)
theorem lhs_main_v90_0 (i : S224x224.Idx) (q : dot_S224x26_S26x224_S224x224_1_0_0_1_n_n.contr.Idx) :
    (dot_S224x26_S26x224_S224x224_1_0_0_1_n_n.lhsIdx i q 0).val = (i 0).val := by
  unfold DotDims.lhsIdx
  rw [dif_neg (show ¬(0 : Fin S224x26.rank) ∈ dot_S224x26_S26x224_S224x224_1_0_0_1_n_n.lhsBatch by decide), dif_pos (show (0 : Fin S224x26.rank) ∈ dot_S224x26_S26x224_S224x224_1_0_0_1_n_n.lhsNonContracting by decide)]
  rfl
theorem lhs_main_v90_1 (i : S224x224.Idx) (q : dot_S224x26_S26x224_S224x224_1_0_0_1_n_n.contr.Idx) :
    (dot_S224x26_S26x224_S224x224_1_0_0_1_n_n.lhsIdx i q 1).val = (q ⟨0, by decide⟩).val :=
  dot_S224x26_S26x224_S224x224_1_0_0_1_n_n.lhsIdx_val_of_single rfl i q
theorem rhs_main_v90_0 (i : S224x224.Idx) (q : dot_S224x26_S26x224_S224x224_1_0_0_1_n_n.contr.Idx) :
    (dot_S224x26_S26x224_S224x224_1_0_0_1_n_n.rhsIdx i q 0).val = (q ⟨0, by decide⟩).val :=
  dot_S224x26_S26x224_S224x224_1_0_0_1_n_n.rhsIdx_val_of_single rfl i q
theorem rhs_main_v90_1 (i : S224x224.Idx) (q : dot_S224x26_S26x224_S224x224_1_0_0_1_n_n.contr.Idx) :
    (dot_S224x26_S26x224_S224x224_1_0_0_1_n_n.rhsIdx i q 1).val = (i 1).val := by
  unfold DotDims.rhsIdx
  rw [dif_neg (show ¬(1 : Fin S26x224.rank) ∈ dot_S224x26_S26x224_S224x224_1_0_0_1_n_n.rhsBatch by decide), dif_pos (show (1 : Fin S26x224.rank) ∈ dot_S224x26_S26x224_S224x224_1_0_0_1_n_n.rhsNonContracting by decide)]
  rfl
abbrev lidx_main_v90 (i : S224x224.Idx) (k : Fin 26) : S224x26.Idx := fun a => match a with
  | ⟨0, _⟩ => ⟨(i 0).val, (i 0).isLt⟩
  | ⟨1, _⟩ => ⟨k.val, k.isLt⟩
abbrev ridx_main_v90 (i : S224x224.Idx) (k : Fin 26) : S26x224.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v90_apply (x0 : (⟨S676x1536, .f32⟩ : BufTy).Contents (Elt Ideal)) (x1 : (⟨S16384x1536, .f32⟩ : BufTy).Contents (Elt Ideal)) (x2 : (⟨S224x26, .f32⟩ : BufTy).Contents (Elt Ideal)) (i : S224x224.Idx) :
    val_main_v90 (F := Ideal) x0 x1 x2 i = ∑ k : Fin 26, (val_main_v88 (F := Ideal) x0 x1 x2) (lidx_main_v90 i k) * (val_main_v89 (F := Ideal) x2) (ridx_main_v90 i k) := by
  unfold val_main_v90
  generalize val_main_v88 (F := Ideal) x0 x1 x2 = y0
  generalize val_main_v89 (F := Ideal) x2 = y1
  simp only [Host.dotGeneral]
  rw [Ideal.dotGeneral_apply, ← Equiv.sum_comp (ValueIdx.contrEquiv1 dot_S224x26_S26x224_S224x224_1_0_0_1_n_n 26 rfl rfl).symm]
  refine Finset.sum_congr rfl fun k _ => ?_
  have hk := ValueIdx.contrEquiv1_symm_val dot_S224x26_S26x224_S224x224_1_0_0_1_n_n 26 rfl rfl k
  have el : dot_S224x26_S26x224_S224x224_1_0_0_1_n_n.lhsIdx i ((ValueIdx.contrEquiv1 dot_S224x26_S26x224_S224x224_1_0_0_1_n_n 26 rfl rfl).symm k) = lidx_main_v90 i k := funext fun a => Fin.ext (by
    match a with
    | ⟨0, _⟩ => exact lhs_main_v90_0 _ _
    | ⟨1, _⟩ => exact (lhs_main_v90_1 _ _).trans hk)
  have er : dot_S224x26_S26x224_S224x224_1_0_0_1_n_n.rhsIdx i ((ValueIdx.contrEquiv1 dot_S224x26_S26x224_S224x224_1_0_0_1_n_n 26 rfl rfl).symm k) = ridx_main_v90 i k := funext fun a => Fin.ext (by
    match a with
    | ⟨0, _⟩ => exact (rhs_main_v90_0 _ _).trans hk
    | ⟨1, _⟩ => exact rhs_main_v90_1 _ _)
  rw [el, er]

-- %91 = stablehlo.reshape %90 : (tensor<224x224xf32>) -> tensor<1x1x224x224xf32>
def val_main_v91 (x0 : (⟨S676x1536, .f32⟩ : BufTy).Contents (Elt F)) (x1 : (⟨S16384x1536, .f32⟩ : BufTy).Contents (Elt F)) (x2 : (⟨S224x26, .f32⟩ : BufTy).Contents (Elt F)) : (⟨S1x1x224x224, .f32⟩ : BufTy).Contents (Elt F) :=
  shapeCast _ (val_main_v90 (F := F) x0 x1 x2) shapeCasts_S224x224_S1x1x224x224
abbrev idx_main_v91 (i : S1x1x224x224.Idx) : S224x224.Idx := fun a => match a with
  | ⟨0, _⟩ => ⟨((((i 0).val * 1 + (i 1).val) * 224 + (i 2).val) * 224 + (i 3).val) / 224, by have h0 : (i 0).val < 1 := (i 0).isLt; have h1 : (i 1).val < 1 := (i 1).isLt; have h2 : (i 2).val < 224 := (i 2).isLt; have h3 : (i 3).val < 224 := (i 3).isLt; show ((((i 0).val * 1 + (i 1).val) * 224 + (i 2).val) * 224 + (i 3).val) / 224 < 224; omega⟩
  | ⟨1, _⟩ => ⟨((((i 0).val * 1 + (i 1).val) * 224 + (i 2).val) * 224 + (i 3).val) % 224, by have h0 : (i 0).val < 1 := (i 0).isLt; have h1 : (i 1).val < 1 := (i 1).isLt; have h2 : (i 2).val < 224 := (i 2).isLt; have h3 : (i 3).val < 224 := (i 3).isLt; show ((((i 0).val * 1 + (i 1).val) * 224 + (i 2).val) * 224 + (i 3).val) % 224 < 224; omega⟩
theorem val_main_v91_apply (x0 : (⟨S676x1536, .f32⟩ : BufTy).Contents (Elt F)) (x1 : (⟨S16384x1536, .f32⟩ : BufTy).Contents (Elt F)) (x2 : (⟨S224x26, .f32⟩ : BufTy).Contents (Elt F)) (i : S1x1x224x224.Idx) :
    val_main_v91 (F := F) x0 x1 x2 i = val_main_v90 (F := F) x0 x1 x2 (idx_main_v91 i) := by
  unfold val_main_v91
  generalize val_main_v90 (F := F) x0 x1 x2 = y
  exact shapeCast_apply y shapeCasts_S224x224_S1x1x224x224 i (idx_main_v91 i)
    (by rewrite [Shape.rowMajor_val_two, Shape.rowMajor_val_four]; have h0 : (i 0).val < 1 := (i 0).isLt; have h1 : (i 1).val < 1 := (i 1).isLt; have h2 : (i 2).val < 224 := (i 2).isLt; have h3 : (i 3).val < 224 := (i 3).isLt; show ((((i 0).val * 1 + (i 1).val) * 224 + (i 2).val) * 224 + (i 3).val) / 224 * 224 + ((((i 0).val * 1 + (i 1).val) * 224 + (i 2).val) * 224 + (i 3).val) % 224 = (((i 0).val * 1 + (i 1).val) * 224 + (i 2).val) * 224 + (i 3).val; omega)

/-- The term the Run module states for `main_v86` over any contents `V0` is the stage. -/
theorem val_main_v86_eq (V0 : Valuation τ sig (Elt F)) :
    mulf (subf (constant S_ .f32 0x3F800000#32) (Host.divf (Host.exp (Host.divf (Cert.ReferenceIdeal.Value.res_main_v21 V0) (Cert.ReferenceIdeal.Value.res_main_v77 V0))) (Host.reduceAdd (Host.exp (Host.divf (Host.sqrt (Host.reduceAdd (mulf (Cert.ReferenceIdeal.Value.res_main_v73 V0) (Cert.ReferenceIdeal.Value.res_main_v73 V0)) (constant S_ .f32 0x00000000#32) reducesTo_S2x1536_S2_d1 h_S_)) (broadcastInDim S2 ![] bcast_S_S2 (Cert.ReferenceIdeal.Value.res_main_v77 V0)))) (constant S_ .f32 0x00000000#32) reducesTo_S2_S_d0 h_S_))) (Cert.ReferenceIdeal.Value.res_main_v21 V0)
      = val_main_v86 (F := F) (V0 (Proc.devRef .tc main_arg0)) (V0 (Proc.devRef .tc main_arg1)) := rfl

/-- The term the Run module states for `main_v91` over any contents `V0` is the stage. -/
theorem val_main_v91_eq (V0 : Valuation τ sig (Elt F)) :
    shapeCast _ (Host.dotGeneral dot_S224x26_S26x224_S224x224_1_0_0_1_n_n none (Host.dotGeneral dot_S224x26_S26x26_S224x26_1_0_0_1_n_n none (V0 (Proc.devRef .tc main_arg2)) (shapeCast _ (Cert.ReferenceIdeal.Value.res_main_v18 V0) shapeCasts_S676_S26x26)) (transpose S26x224 [1, 0] (V0 (Proc.devRef .tc main_arg2)) transposes_S224x26_S26x224_1_0)) shapeCasts_S224x224_S1x1x224x224
      = val_main_v91 (F := F) (V0 (Proc.devRef .tc main_arg0)) (V0 (Proc.devRef .tc main_arg1)) (V0 (Proc.devRef .tc main_arg2)) := rfl

end Cert.ReferenceIdeal.Read

end
-- ==== Proof.Picks.lean ====
module

public import Idealize.ShloMosaic.Lib.Pointwise
public import Idealize.ShloMosaic.Lib.SortPrefix

/-!
  Facts about picking places, with no kernel in them: the first place where a table is least, how a
  left fold of an arg-minimum reducer, a signed minimum of masked counters, a masked sum and a stable
  sort find it, and the real numbers behind the squared distance.
-/

@[expose] public section

set_option maxRecDepth 16384

noncomputable section

namespace Cert.Picks

open Idealize.ShloMosaic

/-- `k` is the first place where `f` is least. -/
def FirstMin {n : ℕ} {α : Type} [LinearOrder α] (f : Fin n → α) (k : Fin n) : Prop :=
  (∀ j, f k ≤ f j) ∧ ∀ j, j < k → f k < f j

/-- There is one first least place. -/
theorem FirstMin.unique {n : ℕ} {α : Type} [LinearOrder α] {f : Fin n → α} {k k' : Fin n}
    (h : FirstMin f k) (h' : FirstMin f k') : k = k' := by
  rcases lt_trichotomy k k' with hlt | heq | hgt
  · exact absurd (h'.2 k hlt) (not_lt.mpr (h.1 k'))
  · exact heq
  · exact absurd (h.2 k' hgt) (not_lt.mpr (h'.1 k))

/-- A table with an entry has a first least place. -/
theorem exists_firstMin {n : ℕ} {α : Type} [LinearOrder α] (hn : 0 < n) (f : Fin n → α) :
    ∃ k, FirstMin f k := by
  obtain ⟨k, -, hk⟩ := Finset.exists_min_image (Finset.univ : Finset (Fin n)) (fun j => toLex (f j, j))
    ⟨⟨0, hn⟩, Finset.mem_univ _⟩
  refine ⟨k, fun j => ?_, fun j hj => ?_⟩
  · have := hk j (Finset.mem_univ _)
    rw [Prod.Lex.toLex_le_toLex] at this
    rcases this with h | ⟨h, -⟩
    · exact h.le
    · exact h.le
  · have := hk j (Finset.mem_univ _)
    rw [Prod.Lex.toLex_le_toLex] at this
    rcases this with h | ⟨-, h⟩
    · exact h
    · exact absurd hj (not_lt.mpr h)

/-- The first least place of a table is that of any table ordered the same way. -/
theorem FirstMin.congr {n : ℕ} {α β : Type} [LinearOrder α] [LinearOrder β] {f : Fin n → α} {g : Fin n → β}
    {k : Fin n} (hle : ∀ i j, f i ≤ f j ↔ g i ≤ g j) (h : FirstMin f k) : FirstMin g k :=
  ⟨fun j => (hle k j).mp (h.1 j), fun j hj => not_le.mp fun c => absurd (h.2 j hj) (not_lt.mpr ((hle j k).mpr c))⟩

/-! ### Folds -/

/-- The minimum of a table from plus infinity is its value at a least place. -/
theorem fold_min_eq {ι : Type} [Fintype ι] (f : ι → EReal) (i : ι) (h : ∀ j, f i ≤ f j) :
    Finset.fold min ⊤ f Finset.univ = f i := by
  apply le_antisymm
  · exact (Finset.le_fold_min _).mp le_rfl |>.2 i (Finset.mem_univ _)
  · exact (Finset.le_fold_min _).mpr ⟨le_top, fun j _ => h j⟩

/-- The maximum of a table from minus infinity is its value at a greatest place. -/
theorem fold_max_eq {ι : Type} [Fintype ι] (f : ι → EReal) (i : ι) (h : ∀ j, f j ≤ f i) :
    Finset.fold max ⊥ f Finset.univ = f i := by
  apply le_antisymm
  · exact (Finset.fold_max_le _).mpr ⟨bot_le, fun j _ => h j⟩
  · exact (Finset.fold_max_le _).mp le_rfl |>.2 i (Finset.mem_univ _)

/-- The signed minimum of two words is the lesser as integers. -/
theorem toInt_minsi (x y : BitVec 32) : (IntOp.minsi x y).toInt = min x.toInt y.toInt := by
  unfold IntOp.minsi
  split
  · rename_i h
    rw [min_eq_left]
    exact ((BitVec.slt_iff_toInt_lt).mp h).le
  · rename_i h
    rw [min_eq_right]
    exact not_lt.mp fun c => h ((BitVec.slt_iff_toInt_lt).mpr c)

/-- A signed minimum over a table is the least of the entries as integers. -/
theorem toInt_fold_minsi {ι : Type} (s : Finset ι) (b : BitVec 32) (f : ι → BitVec 32) :
    (Finset.fold IntOp.minsi b f s).toInt = Finset.fold min b.toInt (fun i => (f i).toInt) s := by
  classical
  induction s using Finset.induction_on with
  | empty => simp
  | insert a s ha ih => rw [Finset.fold_insert ha, Finset.fold_insert ha, toInt_minsi, ih]

/-- A small number's word is that number as an integer. -/
theorem toInt_ofNat {n : ℕ} (h : n < 2147483648) : (BitVec.ofNat 32 n).toInt = (n : ℤ) := by
  rw [BitVec.toInt_eq_toNat_of_lt] <;> rw [BitVec.toNat_ofNat] <;> omega

/-- The signed minimum of the numbers of the marked places (the greatest word elsewhere) is the number of
    the marked place of least number. -/
theorem fold_minsi_first {ι : Type} [Fintype ι] (num : ι → ℕ) (hn : ∀ i, num i < 2147483647) (P : ι → Prop)
    [DecidablePred P] (i : ι) (hi : P i) (hmin : ∀ j, P j → num i ≤ num j) :
    Finset.fold IntOp.minsi 2147483647#32 (fun i => if P i then BitVec.ofNat 32 (num i) else 2147483647#32)
      Finset.univ = BitVec.ofNat 32 (num i) := by
  have h' : (2147483647#32 : BitVec 32).toInt = 2147483647 := by decide
  have hi' : (BitVec.ofNat 32 (num i)).toInt = (num i : ℤ) := toInt_ofNat (by have := hn i; omega)
  apply BitVec.eq_of_toInt_eq
  rw [toInt_fold_minsi, hi']
  apply le_antisymm
  · have := (Finset.le_fold_min (s := Finset.univ) (b := (2147483647#32 : BitVec 32).toInt)
      (f := fun i => (if P i then BitVec.ofNat 32 (num i) else 2147483647#32 : BitVec 32).toInt) _).mp le_rfl |>.2 i
      (Finset.mem_univ _)
    simp only [hi, if_true] at this
    rwa [hi'] at this
  · refine (Finset.le_fold_min _).mpr ⟨?_, fun j _ => ?_⟩
    · have h := hn i
      rw [h']; omega
    · by_cases hj : P j
      · simp only [hj, if_true]
        rw [toInt_ofNat (n := num j) (by have := hn j; omega)]
        exact_mod_cast hmin j hj
      · simp only [hj, if_false]
        have h := hn i
        rw [h']; omega

/-- A word sum of a table with one entry marked, zero elsewhere, is that entry. -/
theorem fold_addi_pick {ι : Type} [Fintype ι] (f : ι → BitVec 32) (i : ι) (h : ∀ j, j ≠ i → f j = 0#32) :
    Finset.fold IntOp.addi 0#32 f Finset.univ = f i := by
  classical
  have e : ∀ s : Finset ι, Finset.fold IntOp.addi 0#32 f s = if i ∈ s then f i else 0#32 := by
    intro s
    induction s using Finset.induction_on with
    | empty => simp
    | insert a s ha ih =>
      rw [Finset.fold_insert ha, ih]
      unfold IntOp.addi
      by_cases hai : a = i
      · subst hai; simp [ha]
      · rw [h a hai]
        by_cases his : i ∈ s <;> simp [his, Ne.symm hai]
  rw [e, if_pos (Finset.mem_univ _)]

/-- A comparison of two small numbers' words for equality tells whether the numbers are equal. -/
theorem cmpi_eq_ofNat {a b : ℕ} (ha : a < 4294967296) (hb : b < 4294967296) :
    IntOp.cmpi .eq (BitVec.ofNat 32 a) (BitVec.ofNat 32 b) = if a = b then 1#1 else 0#1 := by
  unfold IntOp.cmpi
  by_cases h : a = b
  · subst h; simp
  · have : BitVec.ofNat 32 a ≠ BitVec.ofNat 32 b := by
      intro e
      have := congrArg BitVec.toNat e
      rw [BitVec.toNat_ofNat, BitVec.toNat_ofNat, Nat.mod_eq_of_lt ha, Nat.mod_eq_of_lt hb] at this
      exact h this
    have e : (BitVec.ofNat 32 a == BitVec.ofNat 32 b) = false := by simpa using this
    simp only [e, h, if_false]
    decide

/-! ### The reducers of an arg-minimum -/

section Lex
variable {α : Type} [LinearOrder α]

/-- One pair comes no later than another: the value first, then the counter as a signed integer. -/
def LexLe (a b : α × BitVec 32) : Prop := a.1 < b.1 ∨ (a.1 = b.1 ∧ a.2.toInt ≤ b.2.toInt)

/-- The order of pairs is transitive. -/
theorem LexLe.trans {a b c : α × BitVec 32} (h : LexLe a b) (h' : LexLe b c) : LexLe a c := by
  rcases h with h | ⟨h, i⟩ <;> rcases h' with h' | ⟨h', i'⟩
  · exact Or.inl (h.trans h')
  · exact Or.inl (h' ▸ h)
  · exact Or.inl (h ▸ h')
  · exact Or.inr ⟨h.trans h', i.trans i'⟩

/-- A left fold of a reducer that keeps the earlier of two pairs ends on a pair of the list, or the first one,
    that comes no later than any of them. -/
theorem foldl_lex (op : α × BitVec 32 → α × BitVec 32 → α × BitVec 32)
    (hop : ∀ a b, (op a b = a ∨ op a b = b) ∧ LexLe (op a b) a ∧ LexLe (op a b) b)
    (L : List (α × BitVec 32)) (a : α × BitVec 32) :
    (L.foldl op a = a ∨ L.foldl op a ∈ L) ∧ LexLe (L.foldl op a) a ∧ ∀ b ∈ L, LexLe (L.foldl op a) b := by
  induction L generalizing a with
  | nil => exact ⟨Or.inl rfl, Or.inr ⟨rfl, le_rfl⟩, by simp⟩
  | cons c L ih =>
    obtain ⟨h1, h2, h3⟩ := ih (op a c)
    obtain ⟨g1, g2, g3⟩ := hop a c
    rw [List.foldl_cons]
    refine ⟨?_, h2.trans g2, ?_⟩
    · rcases h1 with h1 | h1
      · rcases g1 with g1 | g1
        · exact Or.inl (h1.trans g1)
        · exact Or.inr (by rw [h1, g1]; exact List.mem_cons_self)
      · exact Or.inr (List.mem_cons_of_mem _ h1)
    · intro b hb
      rcases List.mem_cons.mp hb with hb | hb
      · rw [hb]; exact h2.trans g3
      · exact h3 b hb

end Lex

/-! ### The first three of a stable sort -/

/-- Two ways of coming before that agree on every pair met in the list's own order sort it the same way. -/
theorem stableSort_agree {n : ℕ} (B B' : Fin n → Fin n → Bool) (hB : ∀ a b : Fin n, a < b → B b a = B' b a)
    (L : List (Fin n)) (hL : L.Pairwise (· < ·)) : stableSort B L = stableSort B' L := by
  have ins : ∀ (a : Fin n) (M : List (Fin n)), (∀ b ∈ M, a < b) → insertBefore B a M = insertBefore B' a M := by
    intro a M
    induction M with
    | nil => intro _; rfl
    | cons b M ih =>
      intro h
      unfold insertBefore
      rw [hB a b (h b List.mem_cons_self), ih fun c hc => h c (List.mem_cons_of_mem _ hc)]
  induction L with
  | nil => rfl
  | cons a L ih =>
    rw [List.pairwise_cons] at hL
    unfold stableSort
    rw [← ih hL.2]
    exact ins a _ fun b hb => hL.1 b ((perm_stableSort B L).mem_iff.mp hb)

/-- `i1`, `i2`, `i3` are the first three places of `w` in increasing order, an equal entry's earlier place first: each is
    the first least place of `w` with the places before it written over by plus infinity. -/
structure Three {n : ℕ} (w : Fin n → EReal) (i1 i2 i3 : Fin n) : Prop where
  one : FirstMin w i1
  two : FirstMin (fun k => if k = i1 then ⊤ else w k) i2
  three : FirstMin (fun k => if k = i2 then ⊤ else if k = i1 then ⊤ else w k) i3

/-- Tables ordered alike have the same three least places. -/
theorem Three.of_order {n : ℕ} {w w' : Fin n → EReal} {i1 i2 i3 : Fin n} (hn : ∀ k, w k ≠ ⊤) (hn' : ∀ k, w' k ≠ ⊤)
    (hle : ∀ i j, w i ≤ w j ↔ w' i ≤ w' j) (h : Three w i1 i2 i3) : Three w' i1 i2 i3 := by
  refine ⟨h.one.congr hle, h.two.congr fun i j => ?_, h.three.congr fun i j => ?_⟩
  · split <;> split <;> simp [hle, hn, hn']
  · by_cases a : i = i2 <;> by_cases b : i = i1 <;> by_cases c : j = i2 <;> by_cases d : j = i1 <;>
      simp [a, b, c, d, hle, hn, hn']

/-- A stable sort of the places by `w` starts with the three. -/
theorem sortedFrom_three {n : ℕ} (hn : 3 ≤ n) (w : Fin n → EReal) (hw : ∀ k, w k ≠ ⊤) (B : Fin n → Fin n → Bool)
    (hB : ∀ k k', B k k' = decide (w k < w k')) {i1 i2 i3 : Fin n} (h : Three w i1 i2 i3) (j : Fin 3) :
    sortedFrom B (j.castLE hn) = (![i1, i2, i3] : Fin 3 → Fin n) j := by
  set B' : Fin n → Fin n → Bool := fun k k' =>
    (fun a b : EReal => decide (a < b)) (w k) (w k') || (decide (w k = w k') && decide (k < k')) with hB'
  have tot : StrictTotalBefore B' := by
    refine StrictTotalBefore.of_key_then_position (fun a b : EReal => decide (a < b)) w ?_ ?_ ?_
    · intro a; simp
    · intro a b c; simpa using fun h h' => lt_trans h h'
    · intro a b
      rcases lt_trichotomy a b with h | h | h
      · left; simpa using h
      · right; left; exact h
      · right; right; simpa using h
  have same : sortedFrom B = sortedFrom B' := by
    have e : stableSort B (List.finRange n) = stableSort B' (List.finRange n) := by
      apply stableSort_agree
      · intro a b hab
        rw [hB, hB']
        simp [not_lt.mpr hab.le]
      · exact List.pairwise_lt_finRange n
    funext k
    unfold sortedFrom
    exact List.get_of_eq e _
  have n12 : i2 ≠ i1 := by
    rintro rfl
    obtain ⟨k, hk⟩ : ∃ k : Fin n, k ≠ i2 := by
      by_cases h0 : i2 = ⟨0, by omega⟩
      · exact ⟨⟨1, by omega⟩, by rw [h0]; simp⟩
      · exact ⟨⟨0, by omega⟩, fun e => h0 e.symm⟩
    have := h.two.1 k
    simp [hk, hw] at this
  have n3 : i3 ≠ i1 ∧ i3 ≠ i2 := by
    obtain ⟨k, hk1, hk2⟩ : ∃ k : Fin n, k ≠ i1 ∧ k ≠ i2 := by
      by_contra c
      push Not at c
      have a0 := c ⟨0, by omega⟩
      have a1 := c ⟨1, by omega⟩
      have a2 := c ⟨2, by omega⟩
      simp only [Fin.ext_iff, ne_eq] at a0 a1 a2
      omega
    have := h.three.1 k
    simp only [hk1, hk2, if_false] at this
    constructor
    · rintro rfl
      simp [hw] at this
    · rintro rfl
      simp [hw] at this
  have b12 : B' i1 i2 = true := by
    rcases lt_or_eq_of_le (h.one.1 i2) with c | c
    · simp [hB', c]
    · have : ¬ i2 < i1 := fun q => absurd (h.one.2 i2 q) (by rw [c]; exact lt_irrefl _)
      have : i1 < i2 := lt_of_le_of_ne (not_lt.mp this) (Ne.symm n12)
      simp [hB', c, this]
  have second : ∀ k, k ≠ i1 → k ≠ i2 → B' i2 k = true := by
    intro k hk hk2
    have h1 := h.two.1 k
    simp only [hk, n12, if_false] at h1
    rcases lt_or_eq_of_le h1 with c | c
    · simp [hB', c]
    · have : ¬ k < i2 := by
        intro q
        have := h.two.2 k q
        simp only [hk, n12, if_false] at this
        rw [c] at this; exact lt_irrefl _ this
      have : i2 < k := lt_of_le_of_ne (not_lt.mp this) (Ne.symm hk2)
      simp [hB', c, this]
  have third : ∀ k, k ≠ i1 → k ≠ i2 → k ≠ i3 → B' i3 k = true := by
    intro k hk hk2 hk3
    have h1 := h.three.1 k
    simp only [hk, hk2, n3.1, n3.2, if_false] at h1
    rcases lt_or_eq_of_le h1 with c | c
    · simp [hB', c]
    · have : ¬ k < i3 := by
        intro q
        have := h.three.2 k q
        simp only [hk, hk2, n3.1, n3.2, if_false] at this
        rw [c] at this; exact lt_irrefl _ this
      have : i3 < k := lt_of_le_of_ne (not_lt.mp this) (Ne.symm hk3)
      simp [hB', c, this]
  have b23 : B' i2 i3 = true := second i3 n3.1 n3.2
  have b13 : B' i1 i3 = true := tot.trans _ _ _ b12 b23
  rw [same]
  refine tot.sortedFrom_eq_of_prefix hn (σ := ![i1, i2, i3]) ?_ ?_ ?_ j
  · intro a b hab
    fin_cases a <;> fin_cases b <;> simp_all [n12.symm, n3.1.symm, n3.2.symm]
  · intro a b hab
    fin_cases a <;> fin_cases b <;>
      first
      | exact absurd hab (by decide)
      | exact tot.asymm _ _ b12
      | exact tot.asymm _ _ b13
      | exact tot.asymm _ _ b23
  · intro a p hp
    have p1 : p ≠ i1 := fun e => hp 0 e.symm
    have p2 : p ≠ i2 := fun e => hp 1 e.symm
    have p3 : p ≠ i3 := fun e => hp 2 e.symm
    have c3 := third p p1 p2 p3
    have c2 := second p p1 p2
    fin_cases a
    · exact tot.asymm _ _ (tot.trans _ _ _ b12 c2)
    · exact tot.asymm _ _ c2
    · exact tot.asymm _ _ c3

end Cert.Picks

end
-- ==== Proof.Nums.lean ====
module

public import proofs.«01_k».proof.Proof.Picks

/-!
  The numbers of the problem: the literals' values, sums of real numbers read as extended reals, the squared
  distance of two rows, and the distance made of it.
-/

@[expose] public section

set_option maxRecDepth 16384

noncomputable section

namespace Cert.Picks

open Idealize.ShloMosaic

/-! ### Literals -/

/-- The literal `+inf` is plus infinity. -/
theorem lit_top : Ideal.ofBits .f32 2139095040#32 = ⊤ := by simp [Ideal.ofBits, Ideal.ieee]
/-- The literal `-inf` is minus infinity. -/
theorem lit_bot : Ideal.ofBits .f32 4286578688#32 = ⊥ := by simp [Ideal.ofBits, Ideal.ieee]
/-- The literal `-2`. -/
theorem lit_neg_two : Ideal.ofBits .f32 3221225472#32 = ((-2 : ℝ) : EReal) := by
  simp [Ideal.ofBits, Ideal.ieee, -EReal.coe_mul]; norm_num
/-- The literal `2`. -/
theorem lit_two : Ideal.ofBits .f32 1073741824#32 = ((2 : ℝ) : EReal) := by
  simp [Ideal.ofBits, Ideal.ieee, -EReal.coe_mul]; norm_num
/-- The literal `0`. -/
theorem lit_zero : Ideal.ofBits .f32 0#32 = ((0 : ℝ) : EReal) := by simp [Ideal.ofBits, Ideal.ieee]

/-- The clamp's literal, a real number. -/
def eps : ℝ := 9223372 * (2 : ℝ) ^ (-63 : ℤ)
/-- The clamp's literal is that real number. -/
theorem lit_eps : Ideal.ofBits .f32 730643660#32 = ((eps : ℝ) : EReal) := by
  unfold eps
  simp [Ideal.ofBits, Ideal.ieee, -EReal.coe_mul]
/-- It is positive. -/
theorem eps_pos : 0 < eps := by unfold eps; positivity

/-! ### Sums -/

/-- A sum of real numbers read as extended reals is the real sum. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The squared distance of two rows. -/
def dsq {n : ℕ} (x y : Fin n → ℝ) : ℝ := ∑ d, (x d - y d) * (x d - y d)

/-- A squared distance is not negative. -/
theorem dsq_nonneg {n : ℕ} (x y : Fin n → ℝ) : 0 ≤ dsq x y :=
  Finset.sum_nonneg fun d _ => mul_self_nonneg _

/-- It is symmetric. -/
theorem dsq_comm {n : ℕ} (x y : Fin n → ℝ) : dsq x y = dsq y x :=
  Finset.sum_congr rfl fun d _ => by ring

/-- The three-sum form of the squared distance. -/
theorem dsq_expand {n : ℕ} (x y : Fin n → ℝ) :
    dsq x y = ∑ d, x d * x d + ∑ d, y d * y d - 2 * ∑ d, x d * y d := by
  unfold dsq
  rw [Finset.mul_sum, ← Finset.sum_add_distrib, ← Finset.sum_sub_distrib]
  exact Finset.sum_congr rfl fun d _ => by ring

/-- The three-sum form of the squared distance, over the extended reals. -/
theorem dsqE {n : ℕ} (x y : Fin n → ℝ) :
    (∑ d, ((x d : ℝ) : EReal) * ((x d : ℝ) : EReal) + ∑ d, ((y d : ℝ) : EReal) * ((y d : ℝ) : EReal)
      - Ideal.ofBits .f32 1073741824#32 * ∑ d, ((x d : ℝ) : EReal) * ((y d : ℝ) : EReal)) = ((dsq x y : ℝ) : EReal) := by
  simp only [lit_two, ← EReal.coe_mul, sum_coe, ← EReal.coe_add, ← EReal.coe_sub, dsq_expand]

/-! ### The distance -/

/-- The square root of a real number that is not negative. -/
theorem sqrt_coe {r : ℝ} (h : 0 ≤ r) : Ideal.sqrt (r : EReal) = ((Real.sqrt r : ℝ) : EReal) := by
  show (if r < 0 then (⊥ : EReal) else ((Real.sqrt r : ℝ) : EReal)) = _
  rw [if_neg (not_lt.mpr h)]

/-- The distance made of a squared distance: the root of it, clamped below. -/
def far (r : ℝ) : EReal := Ideal.sqrt (max (r : EReal) (eps : EReal))

/-- The distance is a real number. -/
theorem far_eq (r : ℝ) : far r = ((Real.sqrt (max r eps) : ℝ) : EReal) := by
  unfold far
  have e : max (r : EReal) (eps : EReal) = ((max r eps : ℝ) : EReal) := (EReal.coe_strictMono.monotone.map_max).symm
  rw [e, sqrt_coe (le_trans eps_pos.le (le_max_right _ _))]

/-- The distance is not plus infinity. -/
theorem far_ne_top (r : ℝ) : far r ≠ ⊤ := by rw [far_eq]; exact EReal.coe_ne_top _
/-- The distance is not minus infinity. -/
theorem far_ne_bot (r : ℝ) : far r ≠ ⊥ := by rw [far_eq]; exact EReal.coe_ne_bot _

/-- A squared distance the clamp does not blur: nothing, or past the clamp. -/
def Sep (r : ℝ) : Prop := r ≤ 0 ∨ eps < r

/-- Squared distances the clamp does not blur are ordered as their distances. -/
theorem far_le_iff {r s : ℝ} (hr : Sep r) (hs : Sep s) (r0 : 0 ≤ r) (s0 : 0 ≤ s) : far r ≤ far s ↔ r ≤ s := by
  rw [far_eq, far_eq, EReal.coe_le_coe_iff]
  have hp := eps_pos
  rw [Real.sqrt_le_sqrt_iff (le_trans hp.le (le_max_right _ _))]
  rcases hr with hr | hr <;> rcases hs with hs | hs
  · have : r = s := by linarith
    simp [this]
  · constructor
    · intro _; linarith
    · intro h; exact max_le_max_right _ h
  · rw [max_eq_left hr.le, max_eq_right (by linarith)]
    constructor
    · intro h; linarith
    · intro h; linarith
  · rw [max_eq_left hr.le, max_eq_left hs.le]

end Cert.Picks

end
-- ==== Proof.HostPicks.lean ====
module

public import proofs.«01_k».proof.Proof.Nums
public import proofs.«01_k».proof.Proof.RefRead
public import Idealize.ShloMosaic.Lib.Pointwise
public import Idealize.ShloMosaic.Lib.DynamicIndex
public import Idealize.ShloMosaic.Lib.Routing.Ops
public import Idealize.ShloMosaic.Lib.Routing.OpsPair

/-!
  How the reference's picking operations read over the extended reals: its arg-minimum and arg-maximum,
  a slice at a computed row, and its three greatest.
-/

@[expose] public section

set_option maxRecDepth 16384

noncomputable section

namespace Cert.Picks

open Idealize.ShloMosaic
open Cert.ReferenceIdeal Cert.ReferenceIdeal.Gen

/-- An arg-reduction over the extended reals with a reducer that keeps the earlier pair: it gives the initial pair or one
    of the pairs reduced, and none of these comes before it. -/
theorem argReduce_pick (inst : LinearOrder EReal) {s t u : Shape} {axes : List (Fin s.rank)}
    (op : Ideal .f32 × BitVec 32 → Ideal .f32 × BitVec 32 → Ideal .f32 × BitVec 32)
    (hop : ∀ a b, (op a b = a ∨ op a b = b) ∧ @LexLe EReal inst (op a b) a ∧ @LexLe EReal inst (op a b) b)
    (x : FVec Ideal s .f32) (y : s.Idx → BitVec 32) (ix : u.Idx → Ideal .f32) (iy : u.Idx → BitVec 32)
    (h : s.ReducesTo axes t) (hu : 0 < u.numel) (j : t.Idx) :
    (Host.argReduce op x y ix iy h hu j = (ix (Shape.Idx.first hu), iy (Shape.Idx.first hu))
      ∨ ∃ i, h.drop i = j ∧ Host.argReduce op x y ix iy h hu j = (x i, y i))
    ∧ ∀ i, h.drop i = j → @LexLe EReal inst (Host.argReduce op x y ix iy h hu j) (x i, y i) := by
  rw [Idealize.ShloMosaic.Ideal.argReduce_eq_reduce2, Host.reduce2_eq_foldl_fiber]
  obtain ⟨h1, h2, h3⟩ := @foldl_lex EReal inst op hop
    (Host.argReduceFiber x y h j) (ix (Shape.Idx.first hu), iy (Shape.Idx.first hu))
  refine ⟨?_, fun i hi => h3 _ ?_⟩
  · rcases h1 with h1 | h1
    · exact Or.inl h1
    · right
      unfold Host.argReduceFiber at h1
      rw [List.mem_map] at h1
      obtain ⟨n, hn, e⟩ := h1
      rw [List.mem_filter] at hn
      refine ⟨s.rowMajor.symm n, by simpa using hn.2, ?_⟩
      unfold Host.argReduceFiber
      exact e.symm
  · unfold Host.argReduceFiber
    rw [List.mem_map]
    exact ⟨s.rowMajor i, by rw [List.mem_filter]; simp [hi], by simp⟩

/-- The test "less" over the extended reals. -/
theorem cmp_lt (a b : EReal) : FloatOps.cmpf (F := Ideal) (φ := .f32) .olt a b = BitVec.ofBool (decide (a < b)) := by
  rw [Idealize.ShloMosaic.Ideal.cmpf_def]; unfold Ideal.cmp; simp
/-- The test "greater". -/
theorem cmp_gt (a b : EReal) : FloatOps.cmpf (F := Ideal) (φ := .f32) .ogt a b = BitVec.ofBool (decide (b < a)) := by
  rw [Idealize.ShloMosaic.Ideal.cmpf_def]; unfold Ideal.cmp; simp
/-- The test "equal". -/
theorem cmp_eq (a b : EReal) : FloatOps.cmpf (F := Ideal) (φ := .f32) .oeq a b = BitVec.ofBool (decide (a = b)) := by
  rw [Idealize.ShloMosaic.Ideal.cmpf_def]; unfold Ideal.cmp; simp
/-- No value tests as different from itself. -/
theorem cmp_ne (a : EReal) : FloatOps.cmpf (F := Ideal) (φ := .f32) .une a a = 0#1 := by
  rw [Idealize.ShloMosaic.Ideal.cmpf_def]; unfold Ideal.cmp; simp

/-- The arg-minimum's reducer keeps the lesser value, of equal ones the lesser counter. -/
theorem argmin_step (a b : EReal × BitVec 32) :
    (reducer_argmin_f32_i32 (F := Ideal) a b = a ∨ reducer_argmin_f32_i32 (F := Ideal) a b = b)
    ∧ LexLe (reducer_argmin_f32_i32 (F := Ideal) a b) a ∧ LexLe (reducer_argmin_f32_i32 (F := Ideal) a b) b := by
  obtain ⟨a1, a2⟩ := a
  obtain ⟨b1, b2⟩ := b
  unfold reducer_argmin_f32_i32
  simp only [cmp_lt, cmp_eq, cmp_ne, Scalar.select]
  rcases lt_trichotomy a1 b1 with h | h | h
  · simp [h, h.ne, IntOp.ori, IntOp.andi, LexLe]
  · subst h
    by_cases g : a2.slt b2
    · have g' := (BitVec.slt_iff_toInt_lt).mp g
      simp [IntOp.ori, IntOp.andi, IntOp.cmpi, LexLe, g, g'.le]
    · have g' := not_lt.mp fun c => g ((BitVec.slt_iff_toInt_lt).mpr c)
      simp [IntOp.ori, IntOp.andi, IntOp.cmpi, LexLe, g, g']
  · simp [h, h.ne', not_lt.mpr h.le, IntOp.ori, IntOp.andi, LexLe]

/-- The arg-maximum's reducer keeps the greater value, of equal ones the lesser counter. -/
theorem argmax_step (a b : EReal × BitVec 32) :
    (reducer_argmax_f32_i32 (F := Ideal) a b = a ∨ reducer_argmax_f32_i32 (F := Ideal) a b = b)
    ∧ LexLe (α := ERealᵒᵈ) (reducer_argmax_f32_i32 (F := Ideal) a b) a
    ∧ LexLe (α := ERealᵒᵈ) (reducer_argmax_f32_i32 (F := Ideal) a b) b := by
  obtain ⟨a1, a2⟩ := a
  obtain ⟨b1, b2⟩ := b
  have key : ∀ (c d : EReal × BitVec 32), LexLe (α := ERealᵒᵈ) c d ↔ d.1 < c.1 ∨ (c.1 = d.1 ∧ c.2.toInt ≤ d.2.toInt) :=
    fun c d => Iff.rfl
  simp only [key]
  unfold reducer_argmax_f32_i32
  simp only [cmp_gt, cmp_eq, cmp_ne, Scalar.select]
  rcases lt_trichotomy b1 a1 with h | h | h
  · simp [h, h.ne', IntOp.ori, IntOp.andi]
  · subst h
    by_cases g : a2.slt b2
    · have g' := (BitVec.slt_iff_toInt_lt).mp g
      simp [IntOp.ori, IntOp.andi, IntOp.cmpi, g, g'.le]
    · have g' := not_lt.mp fun c => g ((BitVec.slt_iff_toInt_lt).mpr c)
      simp [IntOp.ori, IntOp.andi, IntOp.cmpi, g, g']
  · simp [h, h.ne, not_lt.mpr h.le, IntOp.ori, IntOp.andi]

/-- The reference's arg-minimum of a row of finite distances is the word of the first least place. -/
theorem argmin_row (x : FVec Ideal S676x16384 .f32) (q : Fin 676) (k : Fin 16384)
    (hk : FirstMin (fun k => x (ix2 q k)) k) (hf : ∀ k, x (ix2 q k) ≠ ⊤)
    (ix : S_.Idx → Ideal .f32) (iy : S_.Idx → BitVec 32) (hix : ix (Shape.Idx.first h_S_) = ⊤)
    (h : S676x16384.ReducesTo [1] S676) :
    (Host.argReduce (reducer_argmin_f32_i32 (F := Ideal)) x (iotaInDim S676x16384 32 1) ix iy h h_S_ (ix1 q)).2
      = BitVec.ofNat 32 k.val := by
  have hd : ∀ i : S676x16384.Idx, h.drop i = ix1 q ↔ i 0 = q := by
    intro i
    constructor
    · intro e
      have := congrFun e 0
      exact this
    · intro e
      funext a
      have : a = 0 := Subsingleton.elim _ _
      subst this
      exact e
  have hi : ∀ i : S676x16384.Idx, i 0 = q → i = ix2 q (i 1) := by
    intro i e
    funext a
    match a with
    | ⟨0, _⟩ => exact e
    | ⟨1, _⟩ => rfl
  obtain ⟨h1, h2⟩ := argReduce_pick inferInstance (reducer_argmin_f32_i32 (F := Ideal)) argmin_step x
    (iotaInDim S676x16384 32 1) ix iy h h_S_ (ix1 q)
  have hk' := h2 (ix2 q k) ((hd _).mpr rfl)
  rcases h1 with h1 | ⟨i, hi0, h1⟩
  · exfalso
    rw [h1, hix] at hk'
    rcases hk' with c | ⟨c, -⟩
    · exact not_top_lt c
    · exact hf k c.symm
  · obtain ⟨k', e⟩ : ∃ k' : Fin 16384, i = ix2 q k' := ⟨i 1, hi i ((hd i).mp hi0)⟩
    subst e
    rw [h1] at hk' ⊢
    have w : ∀ k : Fin 16384, (iotaInDim S676x16384 32 1 (ix2 q k)) = BitVec.ofNat 32 k.val := fun _ => rfl
    simp only [w k, w k'] at hk' ⊢
    have hkk : k' = k := by
      rcases hk' with c | ⟨c, d⟩
      · exact absurd c (not_lt.mpr (hk.1 k'))
      · dsimp only at c d
        have k1 := k'.isLt
        have k2 := k.isLt
        rw [toInt_ofNat (by omega), toInt_ofNat (by omega)] at d
        by_contra ne
        have lt : k' < k := lt_of_le_of_ne (by exact_mod_cast d) ne
        have t : (x (ix2 q k) : EReal) < x (ix2 q k') := hk.2 k' lt
        rw [c] at t
        exact lt_irrefl _ t
    rw [hkk]

/-- The reference's arg-maximum of the finite row minima is the word of the first greatest place. -/
theorem argmax_all (x : FVec Ideal S676 .f32) (k : Fin 676)
    (hk : FirstMin (fun k => OrderDual.toDual (x (ix1 k) : EReal)) k) (hf : ∀ k, x (ix1 k) ≠ ⊥)
    (ix : S_.Idx → Ideal .f32) (iy : S_.Idx → BitVec 32) (hix : ix (Shape.Idx.first h_S_) = ⊥)
    (h : S676.ReducesTo [0] S_) (j : S_.Idx) :
    (Host.argReduce (reducer_argmax_f32_i32 (F := Ideal)) x (iotaInDim S676 32 0) ix iy h h_S_ j).2
      = BitVec.ofNat 32 k.val := by
  have hd : ∀ i : S676.Idx, h.drop i = j := fun i => funext fun a => a.elim0
  have hi : ∀ i : S676.Idx, i = ix1 (i 0) := by
    intro i
    funext a
    match a with
    | ⟨0, _⟩ => rfl
  obtain ⟨h1, h2⟩ := argReduce_pick (inferInstanceAs (LinearOrder ERealᵒᵈ)) (reducer_argmax_f32_i32 (F := Ideal))
    argmax_step x (iotaInDim S676 32 0) ix iy h h_S_ j
  have hk' := h2 (ix1 k) (hd _)
  rcases h1 with h1 | ⟨i, hi0, h1⟩
  · exfalso
    rw [h1, hix] at hk'
    rcases hk' with c | ⟨c, -⟩
    · exact not_lt_bot (show (x (ix1 k) : EReal) < ⊥ from c)
    · exact hf k c.symm
  · obtain ⟨k', e⟩ : ∃ k' : Fin 676, i = ix1 k' := ⟨i 0, hi i⟩
    subst e
    rw [h1] at hk' ⊢
    have w : ∀ k : Fin 676, (iotaInDim S676 32 0 (ix1 k)) = BitVec.ofNat 32 k.val := fun _ => rfl
    simp only [w k, w k'] at hk' ⊢
    have hkk : k' = k := by
      rcases hk' with c | ⟨c, d⟩
      · exact absurd (show OrderDual.toDual (x (ix1 k') : EReal) < OrderDual.toDual (x (ix1 k) : EReal) from c) (not_lt.mpr (hk.1 k'))
      · have k1 := k'.isLt
        have k2 := k.isLt
        change (BitVec.ofNat 32 k'.val).toInt ≤ (BitVec.ofNat 32 k.val).toInt at d
        rw [toInt_ofNat (by omega), toInt_ofNat (by omega)] at d
        by_contra ne
        have lt : k' < k := lt_of_le_of_ne (by exact_mod_cast d) ne
        have := hk.2 k' lt
        have c' : (x (ix1 k') : EReal) = x (ix1 k) := c
        have t : (x (ix1 k') : EReal) < x (ix1 k) := this
        rw [c'] at t
        exact lt_irrefl _ t
    rw [hkk]

/-- A one-row slice of a table at a computed row whose number is `n`. -/
theorem dynamicSlice_row {N D : ℕ} (x : Vec Ideal ⟨2, ![N, D]⟩ .f32) (start : Fin 2 → Int) (n : Fin N)
    (h : (⟨2, ![N, D]⟩ : Shape).Slices (fun _ => 0) ⟨2, ![1, D]⟩) (h0 : start 0 = (n.val : ℤ)) (h1 : start 1 = 0) (d : Fin D) :
    Host.dynamicSlice ⟨2, ![1, D]⟩ x start h (ix2 0 d) = x (ix2 n d) := by
  have hoff : (⟨2, ![N, D]⟩ : Shape).Slices ![n.val, 0] ⟨2, ![1, D]⟩ := by
    refine ⟨h.1, fun a => ?_⟩
    match a with
    | ⟨0, _⟩ => exact n.isLt
    | ⟨1, _⟩ => exact (Nat.zero_add D).le
  rw [Host.dynamicSlice_eq_extractStridedSlice _ x start ![n.val, 0] h hoff]
  · refine congrArg x (funext fun a => Fin.ext ?_)
    match a with
    | ⟨0, _⟩ => rfl
    | ⟨1, _⟩ => exact Nat.zero_add _
  · intro a
    match a with
    | ⟨0, _⟩ => exact h0
    | ⟨1, _⟩ => exact h1

/-- A one-entry slice of a table at a computed place whose number is `n`. -/
theorem dynamicSlice_entry {N : ℕ} (x : IVec ⟨1, ![N]⟩ 32) (start : Fin 1 → Int) (n : Fin N)
    (h : (⟨1, ![N]⟩ : Shape).Slices (fun _ => 0) ⟨1, ![1]⟩) (h0 : start 0 = (n.val : ℤ)) :
    Host.dynamicSlice ⟨1, ![1]⟩ x start h (ix1 0) = x (ix1 n) := by
  have hoff : (⟨1, ![N]⟩ : Shape).Slices ![n.val] ⟨1, ![1]⟩ := by
    refine ⟨h.1, fun a => ?_⟩
    match a with
    | ⟨0, _⟩ => exact n.isLt
  rw [Host.dynamicSlice_eq_extractStridedSlice _ x start ![n.val] h hoff]
  · refine congrArg x (funext fun a => Fin.ext ?_)
    match a with
    | ⟨0, _⟩ => rfl
  · intro a
    match a with
    | ⟨0, _⟩ => exact h0

/-- A one-row slice at a row given as a word and column zero. -/
theorem dynamicSlice_row_word {N D : ℕ} (x : Vec Ideal ⟨2, ![N, D]⟩ .f32) (a b : S_.Idx → BitVec 32) (j : S_.Idx) (n : Fin N)
    (h : (⟨2, ![N, D]⟩ : Shape).Slices (fun _ => 0) ⟨2, ![1, D]⟩) (hN : N < 2147483648)
    (h0 : a j = BitVec.ofNat 32 n.val) (h1 : b j = 0#32) (d : Fin D) :
    Host.dynamicSlice ⟨2, ![1, D]⟩ x (fun k => ((![a, b] : Fin 2 → S_.Idx → BitVec 32) k j).toInt) h (ix2 0 d) = x (ix2 n d) := by
  have hn := n.isLt
  refine dynamicSlice_row x _ n h ?_ ?_ d
  · exact (congrArg BitVec.toInt h0).trans (toInt_ofNat (by omega))
  · exact congrArg BitVec.toInt h1

/-- A one-entry slice at a place given as a word. -/
theorem dynamicSlice_entry_word {N : ℕ} (x : IVec ⟨1, ![N]⟩ 32) (a : S_.Idx → BitVec 32) (j : S_.Idx) (n : Fin N)
    (h : (⟨1, ![N]⟩ : Shape).Slices (fun _ => 0) ⟨1, ![1]⟩) (hN : N < 2147483648) (h0 : a j = BitVec.ofNat 32 n.val) :
    Host.dynamicSlice ⟨1, ![1]⟩ x (fun k => ((![a] : Fin 1 → S_.Idx → BitVec 32) k j).toInt) h (ix1 0) = x (ix1 n) := by
  have hn := n.isLt
  refine dynamicSlice_entry x _ n h ?_
  exact (congrArg BitVec.toInt h0).trans (toInt_ofNat (by omega))

/-- The places a selection of the greatest along a one-row table gives, as words. -/
theorem topK_row {N M : ℕ} (x : FVec Ideal ⟨2, ![1, N]⟩ .f32) (gt : Ideal .f32 → Ideal .f32 → BitVec 1) (hM : M ≤ N)
    (h : (⟨2, ![1, N]⟩ : Shape).Slices (fun _ => 0) ⟨2, ![1, M]⟩) (j : Fin M) :
    (Host.topK ⟨2, ![1, M]⟩ 1 gt x h).2 (ix2 0 j)
      = BitVec.ofNat 32 (sortedFrom (fun k k' : Fin N => gt (x (ix2 0 k)) (x (ix2 0 k')) == 1#1) (j.castLE hM)).val := by
  unfold Host.topK Host.sort2 extractStridedSlice
  have hr : (1 : ℕ) < (⟨2, ![1, N]⟩ : Shape).rank := Nat.one_lt_two
  have hs : ∀ (J : (⟨2, ![1, N]⟩ : Shape).Idx) (k : Fin N), J.along ⟨1, hr⟩ k ⟨1, hr⟩ = k :=
    fun J k => Function.update_self _ _ _
  simp only [dif_pos hr, iotaInDim]
  refine (congrArg (fun n : Fin N => BitVec.ofNat 32 n.val) (hs _ _)).trans ?_
  refine congrArg (fun n : Fin N => BitVec.ofNat 32 n.val) ?_
  have e1 : ∀ (J : (⟨2, ![1, N]⟩ : Shape).Idx) (k : Fin N), J.along ⟨1, hr⟩ k = ix2 0 k := by
    intro J k
    funext a
    match a with
    | ⟨0, _⟩ => exact (Subsingleton.elim (α := Fin 1) _ _)
    | ⟨1, _⟩ => exact hs J k
  have e2 : ∀ (B B' : Fin N → Fin N → Bool) (a b : Fin N), B = B' → a = b → sortedFrom B a = sortedFrom B' b := by
    intro B B' a b h h'; rw [h, h']
  apply e2
  · funext k k'
    exact congrArg (fun v => v == 1#1) (congrArg₂ gt (congrArg x (e1 _ k)) (congrArg x (e1 _ k')))
  · exact Fin.ext (Nat.zero_add _)

/-- The places of the reference's three greatest of the negated distances are the three of least distance. -/
theorem topK_places (x : FVec Ideal S1x16384 .f32) (h : S1x16384.Slices (fun _ => 0) S1x3) (w : Fin 16384 → EReal)
    (hw : ∀ k, w k ≠ ⊤) (hx : ∀ k k', x (ix2 0 k') < x (ix2 0 k) ↔ w k < w k') {i1 i2 i3 : Fin 16384}
    (h3 : Three w i1 i2 i3) (j : Fin 3) :
    (Host.topK S1x3 1 (FloatOps.cmpfTotal .gt) x h).2 (ix2 0 j)
      = BitVec.ofNat 32 ((![i1, i2, i3] : Fin 3 → Fin 16384) j).val := by
  rw [← sortedFrom_three (by decide) w hw
    (fun k k' => FloatOps.cmpfTotal (F := Ideal) (φ := .f32) .gt (x (ix2 0 k)) (x (ix2 0 k')) == 1#1) ?_ h3 j]
  · exact topK_row x (FloatOps.cmpfTotal (F := Ideal) (φ := .f32) .gt) (by decide) h j
  · intro k k'
    rw [Ideal.cmpfTotal_def]
    have e : Ideal.cmp CmpDirection.gt.ordered (x (ix2 0 k)) (x (ix2 0 k'))
      = BitVec.ofBool (decide ((x (ix2 0 k') : EReal) < x (ix2 0 k))) := rfl
    rw [e]
    by_cases c : w k < w k'
    · simp [c, (hx k k').mpr c]
    · have c' : ¬ (x (ix2 0 k') : EReal) < x (ix2 0 k) := fun q => c ((hx k k').mp q)
      simp [c, c']

end Cert.Picks

end
-- ==== Proof.RVal.lean ====
module

public import proofs.«01_k».proof.Proof.HostPicks

/-!
  The reference's two results over the extended reals, for finite operands whose squared distances the clamp
  does not blur.
-/

@[expose] public section

set_option maxRecDepth 16384

noncomputable section

namespace Cert.Picks

open Idealize.ShloMosaic

/-- The rows of the two tables as real numbers, with the places the problem picks: each patch's first nearest library row,
    the first patch of greatest least distance, and the three library rows nearest to that patch's row. -/
structure Picked (p : Fin 676 → Fin 1536 → ℝ) (l : Fin 16384 → Fin 1536 → ℝ) where
  sepP : ∀ q k, Sep (dsq (p q) (l k))
  sepL : ∀ k k', Sep (dsq (l k) (l k'))
  ks : Fin 676 → Fin 16384
  hks : ∀ q, FirstMin (fun k => dsq (p q) (l k)) (ks q)
  s : Fin 676
  hs : FirstMin (fun q => OrderDual.toDual (far (dsq (p q) (l (ks q))))) s
  i1 : Fin 16384
  i2 : Fin 16384
  i3 : Fin 16384
  h3 : Three (fun k => (dsq (l (ks s)) (l k) : EReal)) i1 i2 i3

variable {p : Fin 676 → Fin 1536 → ℝ} {l : Fin 16384 → Fin 1536 → ℝ}

/-- The least distance of a patch. -/
def Picked.mv (D : Picked p l) (q : Fin 676) : EReal := far (dsq (p q) (l (D.ks q)))

/-- A first least place written over, the table still has a first least place. -/
theorem exists_three {n : ℕ} (hn : 0 < n) (w : Fin n → EReal) : ∃ i1 i2 i3, Three w i1 i2 i3 := by
  obtain ⟨i1, h1⟩ := exists_firstMin hn w
  obtain ⟨i2, h2⟩ := exists_firstMin hn (fun k => if k = i1 then ⊤ else w k)
  obtain ⟨i3, h3⟩ := exists_firstMin hn (fun k => if k = i2 then ⊤ else if k = i1 then ⊤ else w k)
  exact ⟨i1, i2, i3, h1, h2, h3⟩

/-- The places exist. -/
theorem exists_picked (sepP : ∀ q k, Sep (dsq (p q) (l k))) (sepL : ∀ k k', Sep (dsq (l k) (l k'))) :
    Nonempty (Picked p l) := by
  choose ks hks using fun q => exists_firstMin (by decide) (fun k => dsq (p q) (l k))
  obtain ⟨s, hs⟩ := exists_firstMin (by decide) (fun q => OrderDual.toDual (far (dsq (p q) (l (ks q)))))
  obtain ⟨i1, i2, i3, h3⟩ := exists_three (by decide) (fun k => (dsq (l (ks s)) (l k) : EReal))
  exact ⟨⟨sepP, sepL, ks, hks, s, hs, i1, i2, i3, h3⟩⟩

/-- The score of a greatest distance and the two neighbours' distances. -/
def scoreOf (ss t2 t3 : EReal) : EReal :=
  (Ideal.ofBits .f32 1065353216#32
    - Ideal.div (Ideal.exp (Ideal.div ss (Ideal.sqrt (Ideal.ofBits .f32 1153433600#32))))
        (Ideal.exp (Ideal.div t2 (Ideal.sqrt (Ideal.ofBits .f32 1153433600#32)))
          + Ideal.exp (Ideal.div t3 (Ideal.sqrt (Ideal.ofBits .f32 1153433600#32))))) * ss

/-- The score the problem picks. -/
def Picked.score (D : Picked p l) : EReal :=
  scoreOf (D.mv D.s) (Ideal.sqrt ((dsq (p D.s) (l D.i2) : ℝ) : EReal)) (Ideal.sqrt ((dsq (p D.s) (l D.i3) : ℝ) : EReal))

end Cert.Picks

namespace Cert.ReferenceIdeal.Val

open Cert.ReferenceIdeal Cert.ReferenceIdeal.Gen Cert.ReferenceIdeal.Read
open Idealize.ShloMosaic Idealize.ShloMosaic.TcCoe
open Cert.Picks

variable (x0 : (⟨S676x1536, .f32⟩ : BufTy).Contents (Elt Ideal)) (x1 : (⟨S16384x1536, .f32⟩ : BufTy).Contents (Elt Ideal))
variable {p : Fin 676 → Fin 1536 → ℝ} {l : Fin 16384 → Fin 1536 → ℝ}
variable (hx0 : ∀ q d, x0 (ix2 q d) = ((p q d : ℝ) : EReal)) (hx1 : ∀ k d, x1 (ix2 k d) = ((l k d : ℝ) : EReal))
include hx0 hx1

/-- The distance of a patch and a library row. -/
theorem dist_eq (q : Fin 676) (k : Fin 16384) : val_main_v17 (F := Ideal) x0 x1 (ix2 q k) = far (dsq (p q) (l k)) := by
  pointwise [val_main_v17, val_main_v16, val_main_v14, val_main_v15, val_main_v13, val_main_v12, val_main_v11, val_main_v10,
    val_main_v9, val_main_v8, val_main_v7, val_main_v6, val_main_v5, val_main_v4, val_main_v3, val_main_v2, val_main_v1,
    val_main_v0, val_main_cst, val_main_cst_0, val_main_cst_1, val_main_cst_2]
  simp only [hx0, hx1]
  rw [dsqE, lit_eps, far]

/-- A patch's least distance. -/
theorem rowMin_eq (D : Picked p l) (q : Fin 676) : val_main_v18 (F := Ideal) x0 x1 (ix1 q) = D.mv q := by
  pointwise [val_main_v18, val_main_cst_3]
  simp only [dist_eq x0 x1 hx0 hx1]
  first
  | rw [lit_top]
  | skip
  refine fold_min_eq _ (D.ks q) fun j => ?_
  exact (far_le_iff (D.sepP _ _) (D.sepP _ _) (dsq_nonneg _ _) (dsq_nonneg _ _)).mpr ((D.hks q).1 j)

/-- A patch's first nearest library row. -/
theorem rowArg_eq (D : Picked p l) (q : Fin 676) :
    val_main_v19 (F := Ideal) x0 x1 (ix1 q) = BitVec.ofNat 32 (D.ks q).val := by
  have h1 : FirstMin (fun k => (val_main_v17 (F := Ideal) x0 x1 (ix2 q k) : EReal)) (D.ks q) := by
    have e : (fun k => (val_main_v17 (F := Ideal) x0 x1 (ix2 q k) : EReal)) = fun k => far (dsq (p q) (l k)) :=
      funext fun k => dist_eq x0 x1 hx0 hx1 q k
    rw [e]
    exact (D.hks q).congr fun i j =>
      (far_le_iff (D.sepP q i) (D.sepP q j) (dsq_nonneg _ _) (dsq_nonneg _ _)).symm
  have h2 : ∀ k, (val_main_v17 (F := Ideal) x0 x1 (ix2 q k) : EReal) ≠ ⊤ := by
    intro k
    rw [dist_eq x0 x1 hx0 hx1]
    exact far_ne_top _
  have h3 : val_main_call0_cst (F := Ideal) (Shape.Idx.first h_S_) = ⊤ := by
    rw [val_main_call0_cst_apply]
    exact lit_top
  have e : val_main_v19 (F := Ideal) x0 x1 = fun j => (Host.argReduce (reducer_argmin_f32_i32 (F := Ideal))
      (val_main_v17 (F := Ideal) x0 x1) (iotaInDim S676x16384 32 1) (val_main_call0_cst (F := Ideal))
      (val_main_call0_c (F := Ideal)) reducesTo_S676x16384_S676_d1 h_S_ j).2 := rfl
  exact (congrFun e (ix1 q)).trans (argmin_row (val_main_v17 (F := Ideal) x0 x1) q (D.ks q) h1 h2
    (val_main_call0_cst (F := Ideal)) (val_main_call0_c (F := Ideal)) h3 reducesTo_S676x16384_S676_d1)

/-- The first patch of greatest least distance. -/
theorem sArg_eq (D : Picked p l) : val_main_v20 (F := Ideal) x0 x1 ix0 = BitVec.ofNat 32 D.s.val := by
  have h1 : FirstMin (fun k => OrderDual.toDual (val_main_v18 (F := Ideal) x0 x1 (ix1 k) : EReal)) D.s := by
    have e : (fun k => OrderDual.toDual (val_main_v18 (F := Ideal) x0 x1 (ix1 k) : EReal))
        = fun k => OrderDual.toDual (far (dsq (p k) (l (D.ks k)))) :=
      funext fun k => congrArg OrderDual.toDual (rowMin_eq x0 x1 hx0 hx1 D k)
    rw [e]
    exact D.hs
  have h2 : ∀ k, (val_main_v18 (F := Ideal) x0 x1 (ix1 k) : EReal) ≠ ⊥ := by
    intro k
    rw [rowMin_eq x0 x1 hx0 hx1 D]
    exact far_ne_bot _
  have h3 : val_main_call1_cst (F := Ideal) (Shape.Idx.first h_S_) = ⊥ := by
    rw [val_main_call1_cst_apply]
    exact lit_bot
  have e : val_main_v20 (F := Ideal) x0 x1 = fun j => (Host.argReduce (reducer_argmax_f32_i32 (F := Ideal))
      (val_main_v18 (F := Ideal) x0 x1) (iotaInDim S676 32 0) (val_main_call1_cst (F := Ideal))
      (val_main_call1_c (F := Ideal)) reducesTo_S676_S_d0 h_S_ j).2 := rfl
  exact (congrFun e ix0).trans (argmax_all (val_main_v18 (F := Ideal) x0 x1) D.s h1 h2 (val_main_call1_cst (F := Ideal))
    (val_main_call1_c (F := Ideal)) h3 reducesTo_S676_S_d0 ix0)

/-- The greatest least distance. -/
theorem sStar_eq (D : Picked p l) : val_main_v21 (F := Ideal) x0 x1 ix0 = D.mv D.s := by
  pointwise [val_main_v21, val_main_cst_4]
  simp only [rowMin_eq x0 x1 hx0 hx1 D]
  first
  | rw [lit_bot]
  | skip
  exact fold_max_eq _ D.s fun j => D.hs.1 j

omit hx0 hx1 in
/-- A number below the table's extent is not moved by the index normalisation. -/
theorem wrap_ofNat (n : ℕ) (a : BitVec 32) (h : n < 2147483648) :
    Scalar.select (IntOp.cmpi .slt (BitVec.ofNat 32 n) 0#32) a (BitVec.ofNat 32 n) = BitVec.ofNat 32 n :=
  Routing.wrap_of_lt _ _ (by rw [BitVec.toNat_ofNat]; omega)

/-- The patch row's slice starts at the picked patch. -/
theorem row_start (D : Picked p l) : val_main_v24 (F := Ideal) x0 x1 ix0 = BitVec.ofNat 32 D.s.val := by
  have hs := D.s.isLt
  pointwise [val_main_v24, val_main_v23, val_main_v22, val_main_c, val_main_c_5]
  simp only [sArg_eq x0 x1 hx0 hx1 D]
  exact wrap_ofNat _ _ (by omega)

omit hx0 hx1 in
/-- The patch row's slice starts at column zero. -/
theorem col_start : val_main_v27 (F := Ideal) ix0 = 0#32 := by
  pointwise [val_main_v27, val_main_v26, val_main_v25, val_main_c_6, val_main_c_7, val_main_c_8, val_main_c_9, val_main_c_10]
  rfl

/-- The index read is the picked patch's. -/
theorem entry_start (D : Picked p l) : val_main_v33 (F := Ideal) x0 x1 ix0 = BitVec.ofNat 32 D.s.val := by
  have hs := D.s.isLt
  pointwise [val_main_v33, val_main_v32, val_main_v31, val_main_c_11, val_main_c_12]
  simp only [sArg_eq x0 x1 hx0 hx1 D]
  exact wrap_ofNat _ _ (by omega)

omit hx0 hx1 in
/-- An array without axes has one index. -/
theorem ix0_eq (j : S_.Idx) : j = ix0 := funext fun a => a.elim0

/-- The picked patch. -/
theorem mTest_eq (D : Picked p l) (d : Fin 1536) : val_main_v30 (F := Ideal) x0 x1 (ix2 0 d) = ((p D.s d : ℝ) : EReal) := by
  have hs := D.s.isLt
  pointwise [val_main_v30, val_main_v29]
  rw [← hx0]
  unfold val_main_v28
  exact dynamicSlice_row_word x0 (val_main_v24 (F := Ideal) x0 x1) (val_main_v27 (F := Ideal)) (Shape.Idx.first h_S_) D.s
    sliceFits_S676x1536_S1x1536 (by decide)
    ((congrArg (val_main_v24 (F := Ideal) x0 x1) (ix0_eq (Shape.Idx.first h_S_))).trans (row_start x0 x1 hx0 hx1 D))
    ((congrArg (val_main_v27 (F := Ideal)) (ix0_eq (Shape.Idx.first h_S_))).trans col_start) d

/-- The picked patch's nearest library row's number. -/
theorem jStar_eq (D : Picked p l) : val_main_v35 (F := Ideal) x0 x1 ix0 = BitVec.ofNat 32 (D.ks D.s).val := by
  have hs := D.s.isLt
  pointwise [val_main_v35]
  rw [← rowArg_eq x0 x1 hx0 hx1 D]
  unfold val_main_v34
  exact dynamicSlice_entry_word (val_main_v19 (F := Ideal) x0 x1) (val_main_v33 (F := Ideal) x0 x1) (Shape.Idx.first h_S_) D.s
    sliceFits_S676_S1 (by decide)
    ((congrArg (val_main_v33 (F := Ideal) x0 x1) (ix0_eq (Shape.Idx.first h_S_))).trans (entry_start x0 x1 hx0 hx1 D))

/-- The library row's slice starts at the picked patch's nearest row. -/
theorem lib_start (D : Picked p l) : val_main_v38 (F := Ideal) x0 x1 ix0 = BitVec.ofNat 32 (D.ks D.s).val := by
  have hs := (D.ks D.s).isLt
  pointwise [val_main_v38, val_main_v37, val_main_v36, val_main_c_13, val_main_c_14]
  simp only [jStar_eq x0 x1 hx0 hx1 D]
  exact wrap_ofNat _ _ (by omega)

omit hx0 hx1 in
/-- The library row's slice starts at column zero. -/
theorem libcol_start : val_main_v41 (F := Ideal) ix0 = 0#32 := by
  pointwise [val_main_v41, val_main_v40, val_main_v39, val_main_c_15, val_main_c_16, val_main_c_17, val_main_c_18, val_main_c_19]
  rfl

/-- The picked patch's nearest library row. -/
theorem mStar_eq (D : Picked p l) (d : Fin 1536) :
    val_main_v44 (F := Ideal) x0 x1 (ix2 0 d) = ((l (D.ks D.s) d : ℝ) : EReal) := by
  have hs := (D.ks D.s).isLt
  pointwise [val_main_v44, val_main_v43]
  rw [← hx1]
  unfold val_main_v42
  exact dynamicSlice_row_word x1 (val_main_v38 (F := Ideal) x0 x1) (val_main_v41 (F := Ideal)) (Shape.Idx.first h_S_) (D.ks D.s)
    sliceFits_S16384x1536_S1x1536 (by decide)
    ((congrArg (val_main_v38 (F := Ideal) x0 x1) (ix0_eq (Shape.Idx.first h_S_))).trans (lib_start x0 x1 hx0 hx1 D))
    ((congrArg (val_main_v41 (F := Ideal)) (ix0_eq (Shape.Idx.first h_S_))).trans libcol_start) d

/-- The negated distance of that library row and another. -/
theorem mstarDist_eq (D : Picked p l) (k : Fin 16384) :
    val_main_v62 (F := Ideal) x0 x1 (ix2 0 k) = - far (dsq (l (D.ks D.s)) (l k)) := by
  pointwise [val_main_v62, val_main_v61, val_main_v60, val_main_v59, val_main_v58, val_main_v57, val_main_v56, val_main_v55,
    val_main_v54, val_main_v53, val_main_v52, val_main_v51, val_main_v50, val_main_v49, val_main_v48, val_main_v47,
    val_main_v46, val_main_v45, val_main_cst_20, val_main_cst_21, val_main_cst_22, val_main_cst_23]
  simp only [hx1, mStar_eq x0 x1 hx0 hx1 D]
  rw [dsqE, lit_eps, far]

/-- The numbers of the three nearest library rows. -/
theorem three_eq (D : Picked p l) (j : Fin 3) : val_main_indices (F := Ideal) x0 x1 (ix2 0 j)
    = BitVec.ofNat 32 ((![D.i1, D.i2, D.i3] : Fin 3 → Fin 16384) j).val := by
  refine topK_places _ _ (fun k => (dsq (l (D.ks D.s)) (l k) : EReal)) (fun k => EReal.coe_ne_top _) (fun k k' => ?_) D.h3 j
  rw [mstarDist_eq x0 x1 hx0 hx1 D, mstarDist_eq x0 x1 hx0 hx1 D, EReal.neg_lt_neg_iff, EReal.coe_lt_coe_iff,
    ← not_le, ← not_le, far_le_iff (D.sepL _ _) (D.sepL _ _) (dsq_nonneg _ _) (dsq_nonneg _ _)]

/-- The second and third of them, as the gather takes them. -/
theorem pair_eq (D : Picked p l) (j : Fin 2) : val_main_v70 (F := Ideal) x0 x1 (ix2 j 0)
    = BitVec.ofNat 32 ((![D.i2, D.i3] : Fin 2 → Fin 16384) j).val := by
  have h : val_main_v64 (F := Ideal) x0 x1 (ix1 j) = BitVec.ofNat 32 ((![D.i2, D.i3] : Fin 2 → Fin 16384) j).val := by
    have e : val_main_v64 (F := Ideal) x0 x1 (ix1 j)
      = val_main_indices (F := Ideal) x0 x1 (ix2 0 ⟨1 + j.val, by omega⟩) := by
      pointwise [val_main_v64, val_main_v63]
    rw [e, three_eq x0 x1 hx0 hx1 D]
    match j with
    | 0 => rfl
    | 1 => rfl
  pointwise [val_main_v70, val_main_v69, val_main_v68, val_main_v67, val_main_v66, val_main_v65, val_main_c_24, val_main_c_25]
  rw [h]
  exact wrap_ofNat _ _ (by have := ((![D.i2, D.i3] : Fin 2 → Fin 16384) j).isLt; omega)

/-- The rows gathered. -/
theorem gather_eq (D : Picked p l) (j : Fin 2) (d : Fin 1536) : val_main_v71 (F := Ideal) x0 x1 (ix2 j d)
    = ((l ((![D.i2, D.i3] : Fin 2 → Fin 16384) j) d : ℝ) : EReal) := by
  rw [← hx1]
  exact Routing.gather_row (nb := 16384) (B := 1536) (n := 2) gather_S16384x1536_S2x1_S2x1536_1_0_n_n_0_1_11536 rfl rfl rfl rfl rfl
    x1 (val_main_v70 (F := Ideal) x0 x1) j d ((![D.i2, D.i3] : Fin 2 → Fin 16384) j) (pair_eq x0 x1 hx0 hx1 D j) (by decide)

/-- The distances of the picked patch to the two rows. -/
theorem norm_eq (D : Picked p l) (j : Fin 2) : val_main_v76 (F := Ideal) x0 x1 (ix1 j)
    = Ideal.sqrt ((dsq (p D.s) (l ((![D.i2, D.i3] : Fin 2 → Fin 16384) j)) : ℝ) : EReal) := by
  pointwise [val_main_v76, val_main_v75, val_main_v74, val_main_v73, val_main_v72, val_main_cst_26]
  simp only [mTest_eq x0 x1 hx0 hx1 D, gather_eq x0 x1 hx0 hx1 D, ← EReal.coe_sub, ← EReal.coe_mul, sum_coe]
  rfl

/-- The reference's first result is the score the problem picks. -/
theorem score_eq (D : Picked p l) : val_main_v86 (F := Ideal) x0 x1 ix0 = D.score := by
  pointwise [val_main_v86, val_main_v85, val_main_v84, val_main_v83, val_main_v82, val_main_v81, val_main_v80, val_main_v79,
    val_main_v78, val_main_v77, val_main_cst_27, val_main_cst_28, val_main_cst_29, Picked.score, scoreOf]
  rw [Fin.sum_univ_two, sStar_eq x0 x1 hx0 hx1 D, norm_eq x0 x1 hx0 hx1 D, norm_eq x0 x1 hx0 hx1 D]
  rfl

variable (x2 : (⟨S224x26, .f32⟩ : BufTy).Contents (Elt Ideal))

/-- The reference's second result: the least distances as a square map, taken through the operator on both sides. -/
theorem map_eq (D : Picked p l) (a b : Fin 224) : val_main_v91 (F := Ideal) x0 x1 x2 (ix4 0 0 a b)
    = ∑ j : Fin 26, (∑ i : Fin 26, x2 (ix2 a i) * D.mv ⟨i.val * 26 + j.val, by omega⟩) * x2 (ix2 b j) := by
  pointwise [val_main_v91, val_main_v90, val_main_v89, val_main_v88, val_main_v87]
  simp only [rowMin_eq x0 x1 hx0 hx1 D]

end Cert.ReferenceIdeal.Val

end
-- ==== Proof.KPick.lean ====
module

public import proofs.«01_k».proof.Proof.Nums
public import proofs.«01_k».proof.Proof.RVal
public import proofs.«01_k».proof.Proof.RunAll
public import Idealize.ShloMosaic.Lib.Pointwise

/-!
  The second call's computations over the extended reals: the three library rows nearest to the picked one, found by
  three passes over the table of squared distances, the score made of two of them, and the score map.
-/

@[expose] public section

set_option maxRecDepth 16384

noncomputable section

namespace Cert.KernelIdeal.Val

open Cert.KernelIdeal Cert.KernelIdeal.Gen Cert.KernelIdeal.Hand
open Idealize.ShloMosaic Idealize.ShloMosaic.TcCoe
open Cert.Picks

/-- The least entry of a table. -/
def minOf (w : FVec Ideal S4x4096 .f32) : Ideal .f32 :=
  extractAt ![0, 0, 0] (shapeCast S1x1x1 (multiReduction .minimumf [1, 2] S1 (shapeCast S1x4x4096 w shapeCasts_S4x4096_S1x4x4096)
    0x7F800000#32 reduces_S1x4x4096_S1 (.inl rfl) rfl) shapeCasts_S1_S1x1x1) inpos_S1x1x1_p0_0_0
/-- The least word of a table. -/
def minsiOf (n : IVec S4x4096 32) : BitVec 32 :=
  extractAt ![0, 0, 0] (shapeCast S1x1x1 (multiReductionI .minsi [1, 2] S1 (shapeCast S1x4x4096 n shapeCasts_S4x4096_S1x4x4096)
    2147483647#32 reduces_S1x4x4096_S1 rfl) shapeCasts_S1_S1x1x1) inpos_S1x1x1_p0_0_0
/-- The sum of a table. -/
def sumOf (w : FVec Ideal S4x4096 .f32) : Ideal .f32 :=
  extractAt ![0, 0, 0] (shapeCast S1x1x1 (multiReduction .add [1, 2] S1 (shapeCast S1x4x4096 w shapeCasts_S4x4096_S1x4x4096)
    0x00000000#32 reduces_S1x4x4096_S1 (.inl rfl) rfl) shapeCasts_S1_S1x1x1) inpos_S1x1x1_p0_0_0

/-- The minimum over the whole array, as a fold. -/
theorem minOf_eq (w : FVec Ideal S4x4096 .f32) :
    minOf w = Finset.fold min ⊤ (fun x : Fin 4 × Fin 4096 => w (ix2 x.1 x.2)) Finset.univ := by
  pointwise [minOf]
  rw [lit_top]
/-- The least word over the whole array, as a fold. -/
theorem minsiOf_eq (n : IVec S4x4096 32) :
    minsiOf n = Finset.fold IntOp.minsi 2147483647#32 (fun x : Fin 4 × Fin 4096 => n (ix2 x.1 x.2)) Finset.univ := by
  pointwise [minsiOf]
/-- The sum over the whole array. -/
theorem sumOf_eq (w : FVec Ideal S4x4096 .f32) : sumOf w = ∑ a : Fin 4, ∑ b : Fin 4096, w (ix2 a b) := by
  pointwise [sumOf]

/-- The word of the first place of the least entry. -/
def firstIdx (w : FVec Ideal S4x4096 .f32) : BitVec 32 :=
  minsiOf (select (cmpf .oeq w (broadcast S4x4096 (minOf w))) k1_pay3 (broadcast S4x4096 2147483647#32))
/-- The table with the place of a word written over. -/
def cover (i : BitVec 32) (w : FVec Ideal S4x4096 .f32) : FVec Ideal S4x4096 .f32 :=
  select (cmpi .eq k1_pay3 (broadcast S4x4096 i)) (broadcast S4x4096 (Named.named κ "far" 0x7F61B1E6#32 : Ideal .f32)) w
/-- The entry at the place of a word. -/
def entryAt (i : BitVec 32) (w : FVec Ideal S4x4096 .f32) : Ideal .f32 :=
  sumOf (select (cmpi .eq k1_pay3 (broadcast S4x4096 i)) w (broadcast S4x4096 (Scalar.ofBits .f32 0x00000000#32 : Ideal .f32)))

/-- The first covering, by the definitions above. -/
theorem pay4_eq (w : FVec Ideal S4x4096 .f32) : k1_pay4 (F := Ideal) w = cover (firstIdx w) w := rfl
/-- The word of the first least place of the covered table, by the definitions above. -/
theorem pay5_eq (w : FVec Ideal S4x4096 .f32) :
    extractAt ![0, 0, 0] (k1_pay5 (F := Ideal) w) inpos_S1x1x1_p0_0_0 = firstIdx (k1_pay4 (F := Ideal) w) := rfl
/-- The least places of the table covered twice, by the definitions above. -/
theorem pay6_eq (w : FVec Ideal S4x4096 .f32) :
    k1_pay6 (F := Ideal) w = cmpf .oeq (cover (firstIdx (k1_pay4 (F := Ideal) w)) (k1_pay4 (F := Ideal) w))
      (broadcast S4x4096 (minOf (cover (firstIdx (k1_pay4 (F := Ideal) w)) (k1_pay4 (F := Ideal) w)))) := rfl

/-- The one entry of a one by one array. -/
theorem extract_one (ss : FVec Ideal S1x1 .f32) : extractAt ![0, 0] ss inpos_S1x1_p0_0 = ss (ix2 0 0) := by
  pointwise []

/-- A choice by equality with one value, read at a place. -/
theorem select_eq {s : Shape} (w : FVec Ideal s .f32) (M : Ideal .f32) (n : IVec s 32) (c : BitVec 32) (y : s.Idx) :
    select (cmpf .oeq w (broadcast s M)) n (broadcast s c) y = if (w y : EReal) = M then n y else c := by
  show Scalar.select (FloatOps.cmpf (F := Ideal) (φ := .f32) .oeq (w y) M) (n y) c = _
  rw [cmp_eq]
  unfold Scalar.select
  by_cases h : (w y : EReal) = M
  · simp only [h, decide_true, if_true]; rfl
  · simp only [h, decide_false, if_false]; rfl

/-- The score the second call writes, by the definitions above. -/
theorem score1_eq (wd td : FVec Ideal S4x4096 .f32) (ss : FVec Ideal S1x1 .f32) :
    score1 (F := Ideal) wd td ss (ix2 0 0) = scoreOf (ss (ix2 0 0))
      (Ideal.sqrt (max (entryAt (firstIdx (k1_pay4 (F := Ideal) wd)) td) (Ideal.ofBits .f32 0#32)))
      (Ideal.sqrt (max (entryAt (firstIdx (cover (firstIdx (k1_pay4 (F := Ideal) wd)) (k1_pay4 (F := Ideal) wd))) td)
        (Ideal.ofBits .f32 0#32))) := by
  unfold score1
  rw [pay5_eq, pay6_eq]
  generalize firstIdx (k1_pay4 (F := Ideal) wd) = i
  generalize k1_pay4 (F := Ideal) wd = w
  have e : k1_pay2 (F := Ideal) td k1_pay3 i (cmpf .oeq (cover i w) (broadcast S4x4096 (minOf (cover i w)))) 2147483647#32 ss
      = broadcast S1x1 (Scalar.mulf (Scalar.subf (Scalar.ofBits .f32 0x3F800000#32 : Ideal .f32)
          (Scalar.divf (Scalar.exp (Scalar.divf (extractAt ![0, 0] ss inpos_S1x1_p0_0) (Scalar.sqrt (Scalar.ofBits .f32 0x44C00000#32))))
            (Scalar.addf (Scalar.exp (Scalar.divf (Scalar.sqrt (Scalar.maximumf (entryAt i td)
              (Scalar.ofBits .f32 0x00000000#32))) (Scalar.sqrt (Scalar.ofBits .f32 0x44C00000#32))))
            (Scalar.exp (Scalar.divf (Scalar.sqrt (Scalar.maximumf (entryAt (firstIdx (cover i w)) td)
              (Scalar.ofBits .f32 0x00000000#32))) (Scalar.sqrt (Scalar.ofBits .f32 0x44C00000#32)))))))
          (extractAt ![0, 0] ss inpos_S1x1_p0_0)) := rfl
  rw [e]
  generalize entryAt i td = u
  generalize entryAt (firstIdx (cover i w)) td = v
  rw [extract_one]
  rfl

/-- The named constant is plus infinity. -/
theorem far_top : (Named.named κ "far" 0x7F61B1E6#32 : Ideal .f32) = (⊤ : EReal) := by
  rfl

/-- The table of places: row a, column b is a*4096+b. -/
theorem pay3_apply (a : Fin 4) (b : Fin 4096) : k1_pay3 (ix2 a b) = BitVec.ofNat 32 (a.val * 4096 + b.val) := by
  have e : k1_pay3 (ix2 a b) = IntOp.addi (IntOp.muli (BitVec.ofNat 32 a.val) 4096#32) (BitVec.ofNat 32 b.val) := by
    pointwise [k1_pay3]
  rw [e]
  apply BitVec.eq_of_toNat_eq
  unfold IntOp.addi IntOp.muli
  have h1 := a.isLt
  have h2 := b.isLt
  simp only [BitVec.toNat_add, BitVec.toNat_mul, BitVec.toNat_ofNat]
  omega

/-- A table as one row of 16384 entries. -/
def flat (w : FVec Ideal S4x4096 .f32) (k : Fin 16384) : EReal := w (ix2 ⟨k.val / 4096, by omega⟩ ⟨k.val % 4096, by omega⟩)
/-- A place of the table as a place of the row. -/
def place (x : Fin 4 × Fin 4096) : Fin 16384 := ⟨x.1.val * 4096 + x.2.val, by omega⟩
/-- The flattened array at a place. -/
theorem flat_place (w : FVec Ideal S4x4096 .f32) (x : Fin 4 × Fin 4096) : flat w (place x) = w (ix2 x.1 x.2) := by
  obtain ⟨a, b⟩ := x
  have h1 : (⟨(place (a, b)).val / 4096, by have := (place (a, b)).isLt; omega⟩ : Fin 4) = a := Fin.ext (by
    show (a.val * 4096 + b.val) / 4096 = a.val
    omega)
  have h2 : (⟨(place (a, b)).val % 4096, by omega⟩ : Fin 4096) = b := Fin.ext (by
    show (a.val * 4096 + b.val) % 4096 = b.val
    omega)
  unfold flat
  rw [h1, h2]
/-- Every library row has its place. -/
theorem exists_place (k : Fin 16384) : ∃ x, place x = k :=
  ⟨(⟨k.val / 4096, by omega⟩, ⟨k.val % 4096, by omega⟩), Fin.ext (by show k.val / 4096 * 4096 + k.val % 4096 = k.val; omega)⟩

/-- The first place of the least entry, found. -/
theorem firstIdx_eq (w : FVec Ideal S4x4096 .f32) (k : Fin 16384) (h : FirstMin (flat w) k) :
    firstIdx w = BitVec.ofNat 32 k.val := by
  obtain ⟨x, rfl⟩ := exists_place k
  have hM : minOf w = w (ix2 x.1 x.2) := by
    rw [minOf_eq]
    refine fold_min_eq (fun x : Fin 4 × Fin 4096 => (w (ix2 x.1 x.2) : EReal)) x fun y => ?_
    have := h.1 (place y)
    rwa [flat_place, flat_place] at this
  unfold firstIdx
  rw [minsiOf_eq]
  have e : (fun y : Fin 4 × Fin 4096 => select (cmpf .oeq w (broadcast S4x4096 (minOf w))) k1_pay3
      (broadcast S4x4096 2147483647#32) (ix2 y.1 y.2))
      = fun y => if (w (ix2 y.1 y.2) : EReal) = w (ix2 x.1 x.2) then BitVec.ofNat 32 (place y).val else 2147483647#32 := by
    funext y
    rw [select_eq, hM, pay3_apply]
    rfl
  rw [e]
  refine fold_minsi_first (fun y => (place y).val) (fun y => by have := (place y).isLt; omega) _ x rfl fun y hy => ?_
  by_contra c
  have := h.2 (place y) (Nat.lt_of_not_le c)
  rw [flat_place, flat_place, hy] at this
  exact lt_irrefl _ this

/-- The table with a place written over, as a row. -/
theorem flat_cover (w : FVec Ideal S4x4096 .f32) (i k : Fin 16384) :
    flat (cover (BitVec.ofNat 32 i.val) w) k = if k = i then ⊤ else flat w k := by
  obtain ⟨x, rfl⟩ := exists_place k
  rw [flat_place, flat_place]
  show Scalar.select (IntOp.cmpi .eq (k1_pay3 (ix2 x.1 x.2)) (BitVec.ofNat 32 i.val)) (Named.named κ "far" 0x7F61B1E6#32 : Ideal .f32)
    (w (ix2 x.1 x.2)) = _
  have h1 := (place x).isLt
  have h2 := i.isLt
  rw [pay3_apply, far_top]
  have e := cmpi_eq_ofNat (a := (place x).val) (b := i.val) (by omega) (by omega)
  change IntOp.cmpi .eq (BitVec.ofNat 32 (x.1.val * 4096 + x.2.val)) (BitVec.ofNat 32 i.val) = _ at e
  rw [e]
  unfold Scalar.select
  by_cases c : (place x).val = i.val
  · have c' : place x = i := Fin.ext c
    simp [c, c']
  · have c' : place x ≠ i := fun q => c (congrArg Fin.val q)
    simp [c, c']

/-- The entry at a place, found. -/
theorem entryAt_eq (w : FVec Ideal S4x4096 .f32) (i : Fin 16384) : entryAt (BitVec.ofNat 32 i.val) w = flat w i := by
  obtain ⟨x, rfl⟩ := exists_place i
  rw [flat_place]
  unfold entryAt
  rw [sumOf_eq, ← Fintype.sum_prod_type' (f := fun (a : Fin 4) (b : Fin 4096) =>
    (select (cmpi .eq k1_pay3 (broadcast S4x4096 (BitVec.ofNat 32 (place x).val))) w
      (broadcast S4x4096 (Scalar.ofBits .f32 0x00000000#32 : Ideal .f32)) (ix2 a b) : EReal))]
  have h : ∀ y : Fin 4 × Fin 4096, (select (cmpi .eq k1_pay3 (broadcast S4x4096 (BitVec.ofNat 32 (place x).val))) w
      (broadcast S4x4096 (Scalar.ofBits .f32 0x00000000#32 : Ideal .f32)) (ix2 y.1 y.2) : EReal)
      = if y = x then (w (ix2 y.1 y.2) : EReal) else 0 := by
    intro y
    show Scalar.select (IntOp.cmpi .eq (k1_pay3 (ix2 y.1 y.2)) (BitVec.ofNat 32 (place x).val)) (w (ix2 y.1 y.2))
      (Ideal.ofBits .f32 0#32) = _
    have h1 := (place x).isLt
    have h2 := (place y).isLt
    rw [pay3_apply]
    have e := cmpi_eq_ofNat (a := (place y).val) (b := (place x).val) (by omega) (by omega)
    change IntOp.cmpi .eq (BitVec.ofNat 32 (y.1.val * 4096 + y.2.val)) (BitVec.ofNat 32 (place x).val) = _ at e
    rw [e, lit_zero]
    unfold Scalar.select
    by_cases c : (place y).val = (place x).val
    · have c' : y = x := by
        change y.1.val * 4096 + y.2.val = x.1.val * 4096 + x.2.val at c
        have a1 := y.2.isLt
        have a2 := x.2.isLt
        exact Prod.ext (Fin.ext (by omega)) (Fin.ext (by omega))
      simp [c']
    · have c' : y ≠ x := fun q => c (by rw [q])
      simp [c, c']
  rw [Finset.sum_congr rfl fun y _ => h y]
  rw [Finset.sum_ite_eq' Finset.univ x]
  simp

end Cert.KernelIdeal.Val

end
-- ==== Proof.KPay.lean ====
module

public import proofs.«01_k».proof.Proof.KPick

/-!
  What the two calls' computations are at a place, over the extended reals, as sums, least entries and first places.
-/

@[expose] public section

set_option maxRecDepth 16384

noncomputable section

namespace Cert.KernelIdeal.Val

open Cert.KernelIdeal Cert.KernelIdeal.Gen Cert.KernelIdeal.Hand
open Idealize.ShloMosaic Idealize.ShloMosaic.TcCoe
open Cert.Picks

/-! ### The first call -/

/-- A library row against a patch row: the library row's squared norm less twice their product. -/
theorem p17 (x : Vec Ideal S676x1536 .f32) (l : Vec Ideal S2048x1536 .f32) (r : Fin 2048) (q : Fin 676) (u v : Fin 1536 → ℝ)
    (hx : ∀ d, (x (ix2 q d) : EReal) = (u d : ℝ)) (hl : ∀ d, (l (ix2 r d) : EReal) = (v d : ℝ)) :
    (k0_pay17 (F := Ideal) (k0_pay13 x) l (ix2 r q) : EReal) = ((dsq u v - ∑ d, u d * u d : ℝ) : EReal) := by
  have e : (k0_pay17 (F := Ideal) (k0_pay13 x) l (ix2 r q) : EReal)
      = ∑ d, (l (ix2 r d) : EReal) * l (ix2 r d)
        + ∑ d, (l (ix2 r d) : EReal) * ((x (ix2 q d) : EReal) * Ideal.ofBits .f32 3221225472#32) := by
    pointwise [k0_pay17, k0_pay13, k0_pay14]
  rw [e]
  simp only [hx, hl, lit_neg_two, ← EReal.coe_mul, sum_coe, ← EReal.coe_add]
  congr 1
  rw [dsq_expand]
  have : ∑ d, v d * (u d * -2) = -(2 * ∑ d, u d * v d) := by
    rw [Finset.mul_sum, ← Finset.sum_neg_distrib]
    exact Finset.sum_congr rfl fun d _ => by ring
  rw [this]
  ring

/-- The least entry of a patch's column. -/
theorem p18 (x : Vec Ideal S676x1536 .f32) (l : Vec Ideal S2048x1536 .f32) (q : Fin 676) :
    (k0_pay18 (F := Ideal) x l (ix2 0 q) : EReal) = Finset.fold min ⊤ (fun r => (k0_pay17 (F := Ideal) x l (ix2 r q) : EReal)) Finset.univ := by
  pointwise [k0_pay18]
  rw [lit_top]

/-- The number of the first row with the least entry. -/
theorem p19 (i : grid0.Coords) (x : Vec Ideal S676x1536 .f32) (l : Vec Ideal S2048x1536 .f32) (q : Fin 676) :
    k0_pay19 (F := Ideal) i x l (ix2 0 q) = IntOp.addi (Finset.fold IntOp.minsi 2147483647#32 (fun r : Fin 2048 =>
        if (k0_pay17 (F := Ideal) x l (ix2 r q) : EReal) = k0_pay18 (F := Ideal) x l (ix2 0 q) then BitVec.ofNat 32 r.val
        else 2147483647#32) Finset.univ) (Scalar.muli (BitVec.ofNat 32 (i 0).val) 2048#32) := by
  pointwise [k0_pay19]

/-- The better of the block's least entry and the least entry before it. -/
theorem p3 (x y : Vec Ideal S1x676 .f32) (q : Fin 676) :
    (k0_pay3 (F := Ideal) x y (ix2 0 q) : EReal) = if (x (ix2 0 q) : EReal) < y (ix2 0 q) then x (ix2 0 q) else y (ix2 0 q) := by
  pointwise [k0_pay3, k0_pay1, k0_pay2]

/-- The number of the better. -/
theorem p4 (x y : Vec Ideal S1x676 .f32) (a b : IVec S1x676 32) (q : Fin 676) :
    k0_pay4 (F := Ideal) x a y b (ix2 0 q) = if (x (ix2 0 q) : EReal) < y (ix2 0 q) then a (ix2 0 q) else b (ix2 0 q) := by
  pointwise [k0_pay4, k0_pay1, k0_pay2]

/-- A patch's least distance, from its least entry. -/
theorem p8 (x : Vec Ideal S676x1536 .f32) (y : Vec Ideal S1x676 .f32) (q : Fin 676) (u : Fin 1536 → ℝ) (r : ℝ)
    (hx : ∀ d, (x (ix2 q d) : EReal) = (u d : ℝ)) (hy : (y (ix2 0 q) : EReal) = ((r - ∑ d, u d * u d : ℝ) : EReal)) :
    (k0_pay8 (F := Ideal) x y (ix2 0 q) : EReal) = far r := by
  have e : (k0_pay8 (F := Ideal) x y (ix2 0 q) : EReal) = Ideal.sqrt (max ((y (ix2 0 q) : EReal)
      + ∑ d, (x (ix2 q d) : EReal) * x (ix2 q d)) (Ideal.ofBits .f32 730643660#32)) := by
    pointwise [k0_pay8]
  rw [e, hy, lit_eps]
  simp only [hx, ← EReal.coe_mul, sum_coe, ← EReal.coe_add, sub_add_cancel]
  rfl

/-- The greatest least distance. -/
theorem p9 (x : Vec Ideal S676x1536 .f32) (y : Vec Ideal S1x676 .f32) :
    (k0_pay9 (F := Ideal) x y : EReal)
      = Finset.fold max ⊥ (fun z : Fin 1 × Fin 676 => (k0_pay8 (F := Ideal) x y (ix2 0 z.2) : EReal)) Finset.univ := by
  pointwise [k0_pay9]
  rw [lit_bot]

/-- The number of the first patch with the greatest least distance. -/
theorem p10 (x : Vec Ideal S676x1536 .f32) (y : Vec Ideal S1x676 .f32) :
    k0_pay10 (F := Ideal) x y (ix3 0 0 0)
      = Finset.fold IntOp.minsi 2147483647#32 (fun z : Fin 1 × Fin 676 =>
          if (k0_pay8 (F := Ideal) x y (ix2 0 z.2) : EReal) = k0_pay9 (F := Ideal) x y then BitVec.ofNat 32 z.2.val
          else 2147483647#32) Finset.univ := by
  pointwise [k0_pay10]

/-- The number kept for that patch. -/
theorem p11 (x : Vec Ideal S676x1536 .f32) (y : Vec Ideal S1x676 .f32) (n : IVec S1x676 32) :
    k0_pay11 (F := Ideal) x y n (ix3 0 0 0)
      = Finset.fold IntOp.addi 0#32 (fun z : Fin 1 × Fin 676 =>
          Scalar.select (IntOp.cmpi .eq (BitVec.ofNat 32 z.2.val) (k0_pay10 (F := Ideal) x y (ix3 0 0 0))) (n (ix2 0 z.2)) 0#32)
          Finset.univ := by
  pointwise [k0_pay11]

/-- That patch's row. -/
theorem p12 (x : Vec Ideal S676x1536 .f32) (y : Vec Ideal S1x676 .f32) (d : Fin 1536) :
    (k0_pay12 (F := Ideal) x y (ix2 0 d) : EReal)
      = ∑ r : Fin 676, Scalar.select (IntOp.cmpi .eq (BitVec.ofNat 32 r.val) (k0_pay10 (F := Ideal) x y (ix3 0 0 0)))
          (x (ix2 r d) : EReal) 0 := by
  pointwise [k0_pay12]

/-- The entry of a one-entry table. -/
theorem extract_word (v : IVec S1x1x1 32) : extractAt ![0, 0, 0] v inpos_S1x1x1_p0_0_0 = v (ix3 0 0 0) := by
  pointwise []
/-- A number spread over a one by one array. -/
theorem p5 (v : Ideal .f32) : k0_pay5 (F := Ideal) v (ix2 0 0) = v := by
  pointwise [k0_pay5]
/-- A word spread over a one by one array. -/
theorem p6 (v : BitVec 32) : k0_pay6 v (ix2 0 0) = v := by
  pointwise [k0_pay6]
/-- The same of the second word. -/
theorem p7 (v : BitVec 32) : k0_pay7 v (ix2 0 0) = v := by
  pointwise [k0_pay7]

/-- A library row's squared norm. -/
theorem p15 (l : Vec Ideal S2048x1536 .f32) (r : Fin 2048) :
    (k0_pay15 (F := Ideal) l (ix3 0 0 r) : EReal) = ∑ d, (l (ix2 r d) : EReal) * l (ix2 r d) := by
  pointwise [k0_pay15, k0_pay14]
/-- The library rows handed to the second call. -/
theorem p16 (l : Vec Ideal S2048x1536 .f32) (r : Fin 2048) (d : Fin 1536) :
    (k0_pay16 (F := Ideal) l (ix2 r d) : EReal) = l (ix2 r d) := by
  pointwise [k0_pay16]

/-! ### The second call -/

/-- The squared distance of a library row to the nearest row, from its squared norm. -/
theorem q11 (a : Vec Ideal S4096x1536 .bf16) (b : Vec Ideal S1x1x4096 .f32) (m t : Vec Ideal S1x1536 .f32) (r : Fin 4096)
    (u v : Fin 1536 → ℝ) (hm : ∀ d, (m (ix2 0 d) : EReal) = (u d : ℝ)) (ha : ∀ d, (a (ix2 r d) : EReal) = (v d : ℝ))
    (hb : (b (ix3 0 0 r) : EReal) = ((∑ d, v d * v d : ℝ) : EReal)) :
    (k1_pay11 (F := Ideal) a b m t (ix2 0 r) : EReal) = ((dsq u v : ℝ) : EReal) := by
  have e : (k1_pay11 (F := Ideal) a b m t (ix2 0 r) : EReal) = (b (ix3 0 0 r) : EReal)
      - Ideal.ofBits .f32 1073741824#32 * ∑ d, (m (ix2 0 d) : EReal) * a (ix2 r d)
      + ∑ y : Fin 1, ∑ d, (m (ix2 0 d) : EReal) * m (ix2 0 d) := by
    pointwise [k1_pay11, k1_pay10, k1_pay9, k1_pay8, k1_pay7]
  rw [e, hb, lit_two]
  simp only [hm, ha, ← EReal.coe_mul, sum_coe, ← EReal.coe_add, ← EReal.coe_sub, Finset.univ_unique, Finset.sum_singleton]
  congr 1
  rw [dsq_expand]
  ring

/-- The squared distance of a library row to the picked patch's row. -/
theorem q12 (a : Vec Ideal S4096x1536 .bf16) (b : Vec Ideal S1x1x4096 .f32) (m t : Vec Ideal S1x1536 .f32) (r : Fin 4096)
    (u v : Fin 1536 → ℝ) (ht : ∀ d, (t (ix2 0 d) : EReal) = (u d : ℝ)) (ha : ∀ d, (a (ix2 r d) : EReal) = (v d : ℝ))
    (hb : (b (ix3 0 0 r) : EReal) = ((∑ d, v d * v d : ℝ) : EReal)) :
    (k1_pay12 (F := Ideal) a b m t (ix2 0 r) : EReal) = ((dsq u v : ℝ) : EReal) := by
  have e : (k1_pay12 (F := Ideal) a b m t (ix2 0 r) : EReal) = (b (ix3 0 0 r) : EReal)
      - Ideal.ofBits .f32 1073741824#32 * ∑ d, (t (ix2 0 d) : EReal) * a (ix2 r d)
      + ∑ y : Fin 1, ∑ d, (t (ix2 0 d) : EReal) * t (ix2 0 d) := by
    pointwise [k1_pay12, k1_pay10, k1_pay9, k1_pay8, k1_pay7]
  rw [e, hb, lit_two]
  simp only [ht, ha, ← EReal.coe_mul, sum_coe, ← EReal.coe_add, ← EReal.coe_sub, Finset.univ_unique, Finset.sum_singleton]
  congr 1
  rw [dsq_expand]
  ring

/-- The score map: the operator applied to both sides. -/
theorem q1 (a : Vec Ideal S224x26 .f32) (m : Vec Ideal S26x26 .f32) (i j : Fin 224) :
    (k1_pay1 (F := Ideal) a m (ix2 i j) : EReal)
      = ∑ y : Fin 26, (∑ x : Fin 26, (a (ix2 i x) : EReal) * m (ix2 x y)) * a (ix2 j y) := by
  pointwise [k1_pay1]

/-- The score of the picked places, from the two tables of squared distances and the greatest least distance. -/
theorem score1_picked {p : Fin 676 → Fin 1536 → ℝ} {l : Fin 16384 → Fin 1536 → ℝ} (D : Picked p l)
    (wd td : FVec Ideal S4x4096 .f32) (ss : FVec Ideal S1x1 .f32)
    (hw : ∀ k, flat wd k = ((dsq (l (D.ks D.s)) (l k) : ℝ) : EReal)) (ht : ∀ k, flat td k = ((dsq (p D.s) (l k) : ℝ) : EReal))
    (hs : (ss (ix2 0 0) : EReal) = D.mv D.s) : (score1 (F := Ideal) wd td ss (ix2 0 0) : EReal) = D.score := by
  have f0 : flat wd = fun k => ((dsq (l (D.ks D.s)) (l k) : ℝ) : EReal) := funext hw
  have e1 : firstIdx wd = BitVec.ofNat 32 D.i1.val := firstIdx_eq wd D.i1 (by rw [f0]; exact D.h3.one)
  have f1 : flat (k1_pay4 (F := Ideal) wd) = fun k => if k = D.i1 then ⊤ else ((dsq (l (D.ks D.s)) (l k) : ℝ) : EReal) := by
    funext k
    rw [pay4_eq, e1, flat_cover, hw]
  have e2 : firstIdx (k1_pay4 (F := Ideal) wd) = BitVec.ofNat 32 D.i2.val := firstIdx_eq _ D.i2 (by rw [f1]; exact D.h3.two)
  have f2 : flat (cover (BitVec.ofNat 32 D.i2.val) (k1_pay4 (F := Ideal) wd))
      = fun k => if k = D.i2 then ⊤ else if k = D.i1 then ⊤ else ((dsq (l (D.ks D.s)) (l k) : ℝ) : EReal) := by
    funext k
    rw [flat_cover, f1]
  have e3 : firstIdx (cover (BitVec.ofNat 32 D.i2.val) (k1_pay4 (F := Ideal) wd)) = BitVec.ofNat 32 D.i3.val :=
    firstIdx_eq _ D.i3 (by rw [f2]; exact D.h3.three)
  have mx : ∀ u v : Fin 1536 → ℝ, max ((dsq u v : ℝ) : EReal) (Ideal.ofBits .f32 0#32) = ((dsq u v : ℝ) : EReal) := by
    intro u v
    rw [lit_zero]
    exact max_eq_left (EReal.coe_le_coe_iff.mpr (dsq_nonneg u v))
  rw [score1_eq, e2, e3, entryAt_eq, entryAt_eq, ht, ht, hs, mx, mx]
  rfl

end Cert.KernelIdeal.Val

end
-- ==== Proof.K0Val.lean ====
module

public import proofs.«01_k».proof.Proof.KPay

/-!
  What the first call leaves, over the extended reals: each patch's least distance with the number of its first nearest
  library row, and the first patch whose least distance is greatest, with its distance, row and nearest row's number.
-/

@[expose] public section

set_option maxRecDepth 16384

noncomputable section

namespace Cert.KernelIdeal.Val

open Cert.KernelIdeal Cert.KernelIdeal.Gen Cert.KernelIdeal.Hand
open Idealize.ShloMosaic Idealize.ShloMosaic.TcCoe
open Cert.Picks

/-- A row of a block of 2048 library rows, as a row of the whole library. -/
def lrow (n : ℕ) (hn : n < 8) (r : Fin 2048) : Fin 16384 := ⟨2048 * n + r.val, by omega⟩

/-- A one-word product and sum below the wrap. -/
theorem word_row (n : ℕ) (hn : n < 8) (r : Fin 2048) :
    IntOp.addi (BitVec.ofNat 32 r.val) (Scalar.muli (BitVec.ofNat 32 n) 2048#32) = BitVec.ofNat 32 (lrow n hn r).val := by
  apply BitVec.eq_of_toNat_eq
  unfold IntOp.addi Scalar.muli IntOp.muli lrow
  have h1 := r.isLt
  simp only [BitVec.toNat_add, BitVec.toNat_mul, BitVec.toNat_ofNat]
  omega

/-- The grid's one coordinate is the step. -/
theorem coord0 (t : Fin cfg0.N) : ((grid0.coords t) 0).val = t.val :=
  (by decide +kernel : ∀ t : Fin grid0.N, ((grid0.coords t) 0).val = t.val) t

section
variable (V : (c : Dev nD) → (b : Ref sig .tc) → Buf (Elt Ideal) ((c : Thread nD τ).loc b)) (c : Dev nD)
variable (p : Fin 676 → Fin 1536 → ℝ) (l : Fin 16384 → Fin 1536 → ℝ)
variable (hX : ∀ q d, (patch0 V c (ix2 q d) : EReal) = (p q d : ℝ))
variable (hL : ∀ n hn r d, (lib0 V c n (ix2 r d) : EReal) = (l (lrow n hn r) d : ℝ))

/-- A squared distance less the patch row's squared norm: what the call compares. -/
def part (q : Fin 676) (k : Fin 16384) : ℝ := dsq (p q) (l k) - ∑ d, p q d * p q d

include hX hL

/-- A block's column, entry by entry. -/
theorem blk_entry (n : ℕ) (hn : n < 8) (r : Fin 2048) (q : Fin 676) :
    (k0_pay17 (F := Ideal) (pm2 V c) (lib0 V c n) (ix2 r q) : EReal) = ((part p l q (lrow n hn r) : ℝ) : EReal) :=
  p17 _ _ r q (p q) (l (lrow n hn r)) (hX q) (hL n hn r)

/-- A block's least entry and its first row's number. -/
theorem blk_least (n : ℕ) (hn : n < 8) (q : Fin 676) : ∃ r : Fin 2048,
    FirstMin (fun r => part p l q (lrow n hn r)) r
    ∧ (k0_pay18 (F := Ideal) (pm2 V c) (lib0 V c n) (ix2 0 q) : EReal) = ((part p l q (lrow n hn r) : ℝ) : EReal)
    ∧ k0_pay19 (F := Ideal) (grid0.coords (pt0 n)) (pm2 V c) (lib0 V c n) (ix2 0 q) = BitVec.ofNat 32 (lrow n hn r).val := by
  obtain ⟨r, hr⟩ := exists_firstMin (by decide) (fun r : Fin 2048 => part p l q (lrow n hn r))
  have e : (k0_pay18 (F := Ideal) (pm2 V c) (lib0 V c n) (ix2 0 q) : EReal) = ((part p l q (lrow n hn r) : ℝ) : EReal) := by
    rw [p18, funext fun r => blk_entry V c p l hX hL n hn r q]
    exact fold_min_eq (fun r : Fin 2048 => ((part p l q (lrow n hn r) : ℝ) : EReal)) r fun j => EReal.coe_le_coe_iff.mpr (hr.1 j)
  refine ⟨r, hr, e, ?_⟩
  have hc : ((grid0.coords (pt0 n)) 0).val = n := (coord0 _).trans (Nat.mod_eq_of_lt hn)
  rw [p19, e, hc, ← word_row n hn r]
  simp only [blk_entry V c p l hX hL n hn _ q, EReal.coe_eq_coe_iff]
  rw [fold_minsi_first (fun r : Fin 2048 => r.val) (fun r => lt_trans r.isLt (by decide))
    (fun j => part p l q (lrow n hn j) = part p l q (lrow n hn r)) r rfl fun j hj => ?_]
  by_contra h
  exact absurd (hr.2 j (Nat.lt_of_not_le h)) (by dsimp only; rw [hj]; exact lt_irrefl _)

/-- After the blocks up to `n`, the least entry so far and its first row's number. -/
theorem acc_least (n : ℕ) (hn : n < 8) (q : Fin 676) : ∃ k : Fin 16384, k.val < 2048 * (n + 1)
    ∧ ((acc0 V c n).1 (ix2 0 q) : EReal) = ((part p l q k : ℝ) : EReal)
    ∧ (acc0 V c n).2 (ix2 0 q) = BitVec.ofNat 32 k.val
    ∧ (∀ j : Fin 16384, j.val < 2048 * (n + 1) → part p l q k ≤ part p l q j) ∧ ∀ j < k, part p l q k < part p l q j := by
  induction n with
  | zero =>
    obtain ⟨r, hr, e1, e2⟩ := blk_least V c p l hX hL 0 hn q
    have hrow : ∀ j : Fin 16384, (h : j.val < 2048) → lrow 0 hn ⟨j.val, h⟩ = j := fun j h => Fin.ext (by simp [lrow])
    have hv : (lrow 0 hn r).val = r.val := by simp [lrow]
    have hlt := r.isLt
    rw [acc0_zero]
    dsimp only
    refine ⟨lrow 0 hn r, by rw [hv]; omega, e1, e2, fun j hj => ?_, fun j hj => ?_⟩
    · have := hr.1 ⟨j.val, by omega⟩
      dsimp only at this
      rwa [hrow j (by omega)] at this
    · have hj' : j.val < (lrow 0 hn r).val := hj
      have := hr.2 ⟨j.val, by omega⟩ (show j.val < r.val by omega)
      dsimp only at this
      rwa [hrow j (by omega)] at this
  | succ n ih =>
    obtain ⟨k, hk, e1, e2, hle, hlt⟩ := ih (by omega)
    obtain ⟨r, hr, b1, b2⟩ := blk_least V c p l hX hL (n + 1) hn q
    have hrl := r.isLt
    have hv : (lrow (n + 1) hn r).val = 2048 * (n + 1) + r.val := rfl
    have hrow : ∀ j : Fin 16384, (h : j.val - 2048 * (n + 1) < 2048) → 2048 * (n + 1) ≤ j.val →
        lrow (n + 1) hn ⟨j.val - 2048 * (n + 1), h⟩ = j := fun j h h' => Fin.ext (by simp only [lrow]; omega)
    have hb1 : ∀ j : Fin 16384, 2048 * (n + 1) ≤ j.val → j.val < 2048 * (n + 1 + 1) → part p l q (lrow (n + 1) hn r) ≤ part p l q j := by
      intro j h h'
      have := hr.1 ⟨j.val - 2048 * (n + 1), by omega⟩
      dsimp only at this
      rwa [hrow j (by omega) h] at this
    have hb2 : ∀ j : Fin 16384, 2048 * (n + 1) ≤ j.val → j < lrow (n + 1) hn r → part p l q (lrow (n + 1) hn r) < part p l q j := by
      intro j h h'
      have h'' : j.val < (lrow (n + 1) hn r).val := h'
      have := hr.2 ⟨j.val - 2048 * (n + 1), by omega⟩ (show j.val - 2048 * (n + 1) < r.val by omega)
      dsimp only at this
      rwa [hrow j (by omega) h] at this
    rw [acc0_succ]
    dsimp only
    rw [p3, p4, b1, b2, e1, e2]
    simp only [EReal.coe_lt_coe_iff]
    by_cases h : part p l q (lrow (n + 1) hn r) < part p l q k
    · refine ⟨lrow (n + 1) hn r, by omega, by rw [if_pos h], by rw [if_pos h], fun j hj => ?_, fun j hj => ?_⟩
      · by_cases hc : j.val < 2048 * (n + 1)
        · exact le_trans h.le (hle j hc)
        · exact hb1 j (by omega) hj
      · by_cases hc : j.val < 2048 * (n + 1)
        · exact lt_of_lt_of_le h (hle j hc)
        · exact hb2 j (by omega) hj
    · refine ⟨k, by omega, by rw [if_neg h], by rw [if_neg h], fun j hj => ?_, hlt⟩
      by_cases hc : j.val < 2048 * (n + 1)
      · exact hle j hc
      · exact le_trans (not_lt.mp h) (hb1 j (by omega) hj)

variable (D : Picked p l)

/-- After the last block: each patch's first nearest library row. -/
theorem acc_last (q : Fin 676) : ((acc0 V c 7).1 (ix2 0 q) : EReal) = ((dsq (p q) (l (D.ks q)) - ∑ d, p q d * p q d : ℝ) : EReal)
    ∧ (acc0 V c 7).2 (ix2 0 q) = BitVec.ofNat 32 (D.ks q).val := by
  obtain ⟨k, -, e1, e2, hle, hlt⟩ := acc_least V c p l hX hL 7 (by decide) q
  have hk : k = D.ks q := FirstMin.unique (f := fun k => dsq (p q) (l k))
    ⟨fun j => sub_le_sub_iff_right _ |>.mp (hle j (by have := j.isLt; omega)), fun j hj => sub_lt_sub_iff_right _ |>.mp (hlt j hj)⟩ (D.hks q)
  subst hk
  exact ⟨e1, e2⟩

/-- The first call's least distances are the picked ones. -/
theorem minv_eq (q : Fin 676) : (minv0 V c (ix2 0 q) : EReal) = D.mv q :=
  p8 _ _ q (p q) _ (hX q) (acc_last V c p l hX hL D q).1

/-- The greatest least distance. -/
theorem sstar_val : (k0_pay9 (F := Ideal) (patch0 V c) (acc0 V c 7).1 : EReal) = D.mv D.s := by
  have hm : ∀ q, (k0_pay8 (F := Ideal) (patch0 V c) (acc0 V c 7).1 (ix2 0 q) : EReal) = D.mv q := minv_eq V c p l hX hL D
  rw [p9]
  simp only [hm]
  exact fold_max_eq (fun z : Fin 1 × Fin 676 => D.mv z.2) (0, D.s) fun z => D.hs.1 z.2

/-- The first call's greatest least distance is the picked patch's. -/
theorem sstar_eq : (sstar0 V c (ix2 0 0) : EReal) = D.mv D.s := by
  unfold sstar0
  rw [p5]
  exact sstar_val V c p l hX hL D

/-- The picked patch's number. -/
theorem sword : k0_pay10 (F := Ideal) (patch0 V c) (acc0 V c 7).1 (ix3 0 0 0) = BitVec.ofNat 32 D.s.val := by
  rw [p10, sstar_val V c p l hX hL D]
  have hm : ∀ q, (k0_pay8 (F := Ideal) (patch0 V c) (acc0 V c 7).1 (ix2 0 q) : EReal) = D.mv q := minv_eq V c p l hX hL D
  refine fold_minsi_first (fun z : Fin 1 × Fin 676 => z.2.val) (fun z => by have := z.2.isLt; omega) _ ((0, D.s) : Fin 1 × Fin 676)
    (hm D.s) fun z hz => ?_
  rw [hm] at hz
  by_contra h
  have h2 := D.hs.2 z.2 (Nat.lt_of_not_le h)
  have h3 : D.mv z.2 < D.mv D.s := h2
  rw [hz] at h3
  exact lt_irrefl _ h3

/-- The first call's patch index is the picked patch. -/
theorem sidx_eq : sidx0 V c (ix2 0 0) = BitVec.ofNat 32 D.s.val := by
  unfold sidx0
  rw [p6, extract_word]
  exact sword V c p l hX hL D

/-- The number of the picked patch's nearest library row. -/
theorem jstar_eq : jstar0 V c (ix2 0 0) = BitVec.ofNat 32 (D.ks D.s).val := by
  unfold jstar0
  rw [p7, extract_word, p11, sword V c p l hX hL D, fold_addi_pick _ ((0, D.s) : Fin 1 × Fin 676)]
  · dsimp only
    rw [cmpi_eq_ofNat (by have := D.s.isLt; omega) (by have := D.s.isLt; omega), if_pos rfl]
    exact (acc_last V c p l hX hL D D.s).2
  · rintro ⟨a, q⟩ hq
    have hne : q.val ≠ D.s.val := fun h => hq (Prod.ext (Subsingleton.elim _ _) (Fin.ext h))
    dsimp only
    rw [cmpi_eq_ofNat (by have := q.isLt; omega) (by have := D.s.isLt; omega), if_neg hne]
    rfl

/-- The picked patch's row. -/
theorem mtest_eq (d : Fin 1536) : (mtest0 V c (ix2 0 d) : EReal) = ((p D.s d : ℝ) : EReal) := by
  unfold mtest0
  rw [p12, sword V c p l hX hL D]
  have h : ∀ r : Fin 676, (Scalar.select (IntOp.cmpi .eq (BitVec.ofNat 32 r.val) (BitVec.ofNat 32 D.s.val))
      (patch0 V c (ix2 r d) : EReal) 0 : EReal) = if r = D.s then ((p r d : ℝ) : EReal) else 0 := by
    intro r
    rw [cmpi_eq_ofNat (by have := r.isLt; omega) (by have := D.s.isLt; omega), hX]
    unfold Scalar.select
    by_cases e : r = D.s
    · simp [e]
    · have e' : r.val ≠ D.s.val := fun q => e (Fin.ext q)
      simp [e, e']
  rw [Finset.sum_congr rfl fun r _ => h r, Finset.sum_ite_eq']
  simp

end

end Cert.KernelIdeal.Val

end
-- ==== Proof.Glue0.lean ====
module

public import proofs.«01_k».proof.Proof.K0Val
public import Idealize.ShloMosaic.Lib.Pipeline.ValueKit

/-!
  From the first call's blocks to whole arrays: the blocks it reads of its arguments, and the arrays it leaves.
-/

@[expose] public section

set_option maxRecDepth 16384

noncomputable section

namespace Cert.KernelIdeal.Val

open Cert.KernelIdeal Cert.KernelIdeal.Gen Cert.KernelIdeal.Hand
open Idealize.ShloMosaic Idealize.ShloMosaic.TcCoe
open Cert.Picks

/-- The patch window is the whole table at every step. -/
theorem index0_0 : ∀ t : Fin cfg0.N, win0_0.index t = ![0, 0] := (by decide +kernel : ∀ t : Fin grid0.N, _)
/-- The library window is the step's block of rows. -/
theorem index0_1 : ∀ t : Fin cfg0.N, win0_1.index t = ![t.val, 0] := (by decide +kernel : ∀ t : Fin grid0.N, _)
/-- The window of squared norms: two steps to a row. -/
theorem index0_4 : ∀ t : Fin cfg0.N, win0_4.index t = ![t.val / 2, 0, t.val % 2] := (by decide +kernel : ∀ t : Fin grid0.N, _)
/-- The window of the library's copy is the step's block of rows. -/
theorem index0_5 : ∀ t : Fin cfg0.N, win0_5.index t = ![t.val, 0] := (by decide +kernel : ∀ t : Fin grid0.N, _)

section
variable (V : (c : Dev nD) → (b : Ref sig .tc) → Buf (Elt Ideal) ((c : Thread nD τ).loc b)) (c : Dev nD)

/-- The patch block is the first argument. -/
theorem patch0_eq (q : Fin 676) (d : Fin 1536) : patch0 V c (ix2 q d) = V c main_arg0 (ix2 q d) := by
  unfold patch0
  blk_simp [iblk0]
  congr 1
  blk_ext [index0_0]
/-- A library block is that stretch of the second argument. -/
theorem lib0_eq (n : ℕ) (hn : n < 8) (r : Fin 2048) (d : Fin 1536) : lib0 V c n (ix2 r d) = V c main_arg1 (ix2 (lrow n hn r) d) := by
  have hp : (pt0 n).val = n := Nat.mod_eq_of_lt hn
  unfold lib0
  blk_simp [iblk0]
  congr 1
  blk_ext [index0_1, hp]
  all_goals simp only [lrow]
  all_goals omega

/-- A row number of the squared norms' table. -/
def bsqRow (i : S4x1x4096.Idx) : Fin 16384 := ⟨(i 0).val * 4096 + (i 2).val, by
  have h0 : (i 0).val < 4 := (i 0).isLt
  have h2 : (i 2).val < 4096 := (i 2).isLt
  omega⟩
/-- The library's squared norms, as the first call leaves them. -/
def bsqG (x : FVec Ideal S16384x1536 .f32) : FVec Ideal S4x1x4096 .f32 := fun i =>
  (∑ d : Fin 1536, (x (ix2 (bsqRow i) d) : EReal) * x (ix2 (bsqRow i) d) : EReal)

/-- The array of squared norms after the call. -/
theorem arr0_4 : (dat0 V c).arrAt 4 cfg0.N = bsqG (V c main_arg1) := by
  refine (dat0 V c).arrAt_eq_of_covers 4 _ (by decide +kernel) fun t hf y => ?_
  blk_simp
  rw [after0_4]
  have ht := N0_lt t
  have y0 : (y 0).val = 0 := Nat.lt_one_iff.mp (y 0).isLt
  have y1 : (y 1).val = 0 := Nat.lt_one_iff.mp (y 1).isLt
  have y2 : (y 2).val < 2048 := (y 2).isLt
  obtain ⟨r, hr⟩ : ∃ r : Fin 2048, (y 2).val = r.val := ⟨⟨(y 2).val, y2⟩, rfl⟩
  have hy : y = ix3 0 0 r := by
    funext a
    apply Fin.ext
    fin_cases a
    · exact y0
    · exact y1
    · exact hr
  have hb : bsqRow ((win0_4.blk t).view.emb y) = lrow t.val ht r := by
    apply Fin.ext
    show ((win0_4.blk t).view.emb y 0).val * 4096 + ((win0_4.blk t).view.emb y 2).val = 2048 * t.val + r.val
    blk_simp [index0_4]
    simp only [y0, hr, Matrix.cons_val]
    omega
  unfold bsqG
  rw [hb, hy]
  refine (p15 _ r).trans ?_
  exact Finset.sum_congr rfl fun d _ => by rw [lib0_eq V c t.val ht]

/-- The library, as the first call hands it on. -/
theorem arr0_5 : (dat0 V c).arrAt 5 cfg0.N = V c main_arg1 := by
  refine (dat0 V c).arrAt_eq_of_covers 5 _ (by decide +kernel) fun t hf y => ?_
  blk_simp
  rw [after0_5]
  have ht := N0_lt t
  have y0 : (y 0).val < 2048 := (y 0).isLt
  have y1 : (y 1).val < 1536 := (y 1).isLt
  obtain ⟨r, hr⟩ : ∃ r : Fin 2048, (y 0).val = r.val := ⟨⟨(y 0).val, y0⟩, rfl⟩
  obtain ⟨d, hd⟩ : ∃ d : Fin 1536, (y 1).val = d.val := ⟨⟨(y 1).val, y1⟩, rfl⟩
  have hy : y = ix2 r d := by
    funext a
    apply Fin.ext
    fin_cases a
    · exact hr
    · exact hd
  have he : (win0_5.blk t).view.emb y = ix2 (lrow t.val ht r) d := by
    blk_ext [index0_5]
    all_goals simp only [lrow, hr, hd]
    all_goals omega
  rw [he, hy]
  exact (p16 _ r d).trans (lib0_eq V c t.val ht r d)

/-- The last point of the first call. -/
def last0 : Fin cfg0.N := pt0 7
/-- The last step is step 7. -/
theorem last0_val : last0.val = 7 := rfl

/-- The least distances, as the first call leaves it. -/
theorem arr0_2_of (x) (e : (dat0 V c).after 2 last0 = x) : (dat0 V c).arrAt 2 cfg0.N = x := by
  refine (dat0 V c).arrAt_eq_of_after_last 2 last0 (by decide +kernel) _ fun j => ?_
  rw [e]
  rfl
/-- The array of least distances after the call. -/
theorem arr0_2 : (dat0 V c).arrAt 2 cfg0.N = minv0 V c := arr0_2_of V c _ ((after0_2 V c last0).trans (if_pos last0_val))

/-- The picked patch's row, as the first call leaves it. -/
theorem arr0_6_of (x) (e : (dat0 V c).after 6 last0 = x) : (dat0 V c).arrAt 6 cfg0.N = x := by
  refine (dat0 V c).arrAt_eq_of_after_last 6 last0 (by decide +kernel) _ fun j => ?_
  rw [e]
  rfl
/-- The picked patch after the call. -/
theorem arr0_6 : (dat0 V c).arrAt 6 cfg0.N = mtest0 V c := arr0_6_of V c _ (after0_6 V c last0)

/-- The picked patch's number, as the first call leaves it. -/
theorem arr0_7_of (x) (e : (dat0 V c).after 7 last0 = x) : (dat0 V c).arrAt 7 cfg0.N = x := by
  refine (dat0 V c).arrAt_eq_of_after_last 7 last0 (by decide +kernel) _ fun j => ?_
  rw [e]
  rfl
/-- The picked patch's index after the call. -/
theorem arr0_7 : (dat0 V c).arrAt 7 cfg0.N = sidx0 V c := arr0_7_of V c _ (after0_7 V c last0)

/-- The number of its nearest library row, as the first call leaves it. -/
theorem arr0_8_of (x) (e : (dat0 V c).after 8 last0 = x) : (dat0 V c).arrAt 8 cfg0.N = x := by
  refine (dat0 V c).arrAt_eq_of_after_last 8 last0 (by decide +kernel) _ fun j => ?_
  rw [e]
  rfl
/-- The picked library row's index after the call. -/
theorem arr0_8 : (dat0 V c).arrAt 8 cfg0.N = jstar0 V c := arr0_8_of V c _ (after0_8 V c last0)

/-- The greatest least distance, as the first call leaves it. -/
theorem arr0_9_of (x) (e : (dat0 V c).after 9 last0 = x) : (dat0 V c).arrAt 9 cfg0.N = x := by
  refine (dat0 V c).arrAt_eq_of_after_last 9 last0 (by decide +kernel) _ fun j => ?_
  rw [e]
  rfl
/-- The greatest least distance after the call. -/
theorem arr0_9 : (dat0 V c).arrAt 9 cfg0.N = sstar0 V c := arr0_9_of V c _ (after0_9 V c last0)

end

end Cert.KernelIdeal.Val

end
-- ==== Proof.Glue1.lean ====
module

public import proofs.«01_k».proof.Proof.KPay
public import Idealize.ShloMosaic.Lib.Pipeline.ValueKit

/-!
  From the second call's blocks to whole arrays: the blocks it reads, and the score and score map it leaves.
-/

@[expose] public section

set_option maxRecDepth 16384

noncomputable section

namespace Cert.KernelIdeal.Val

open Cert.KernelIdeal Cert.KernelIdeal.Gen Cert.KernelIdeal.Hand
open Idealize.ShloMosaic Idealize.ShloMosaic.TcCoe
open Cert.Picks

/-- The library window is the step's block of rows. -/
theorem index1_0 : ∀ t : Fin cfg1.N, win1_0.index t = ![t.val, 0] := (by decide +kernel : ∀ t : Fin grid1.N, _)
/-- The window of squared norms is the step's row. -/
theorem index1_1 : ∀ t : Fin cfg1.N, win1_1.index t = ![t.val, 0, 0] := (by decide +kernel : ∀ t : Fin grid1.N, _)
/-- The window of the picked library row is whole. -/
theorem index1_2 : ∀ t : Fin cfg1.N, win1_2.index t = ![0, 0] := (by decide +kernel : ∀ t : Fin grid1.N, _)
/-- The window of the picked patch is whole. -/
theorem index1_3 : ∀ t : Fin cfg1.N, win1_3.index t = ![0, 0] := (by decide +kernel : ∀ t : Fin grid1.N, _)
/-- The window of the greatest least distance is whole. -/
theorem index1_4 : ∀ t : Fin cfg1.N, win1_4.index t = ![0, 0] := (by decide +kernel : ∀ t : Fin grid1.N, _)
/-- The window of the 26 by 26 map is whole. -/
theorem index1_5 : ∀ t : Fin cfg1.N, win1_5.index t = ![0, 0] := (by decide +kernel : ∀ t : Fin grid1.N, _)
/-- The window of the operator is whole. -/
theorem index1_6 : ∀ t : Fin cfg1.N, win1_6.index t = ![0, 0] := (by decide +kernel : ∀ t : Fin grid1.N, _)

/-- A row of a block of 4096 library rows, as a row of the whole library. -/
def brow (n : ℕ) (hn : n < 4) (r : Fin 4096) : Fin 16384 := ⟨n * 4096 + r.val, by omega⟩

section
variable (V : (c : Dev nD) → (b : Ref sig .tc) → Buf (Elt Ideal) ((c : Thread nD τ).loc b)) (c : Dev nD)

/-- What step n reads of the library. -/
theorem libb1_eq (n : ℕ) (hn : n < 4) (r : Fin 4096) (d : Fin 1536) :
    libb1 V c n (ix2 r d) = V c main_v0_3 (ix2 (brow n hn r) d) := by
  have hp : (pt1 n).val = n := Nat.mod_eq_of_lt hn
  unfold libb1
  blk_simp [iblk1]
  congr 1
  blk_ext [index1_0, hp]
  all_goals simp only [brow]
/-- What step n reads of the squared norms. -/
theorem bsq1_eq (n : ℕ) (hn : n < 4) (r : Fin 4096) : bsq1 V c n (ix3 0 0 r) = V c main_v0_2 (ix3 ⟨n, hn⟩ 0 r) := by
  have hp : (pt1 n).val = n := Nat.mod_eq_of_lt hn
  unfold bsq1
  blk_simp [iblk1]
  congr 1
  blk_ext [index1_1, hp]
/-- What the steps read of the picked library row. -/
theorem mstar1_eq (d : Fin 1536) : mstar1 V c (ix2 0 d) = V c main_v8 (ix2 0 d) := by
  unfold mstar1
  blk_simp [iblk1]
  congr 1
  blk_ext [index1_2]
/-- What the steps read of the picked patch. -/
theorem mtest1_eq (d : Fin 1536) : mtest1 V c (ix2 0 d) = V c main_v0_4 (ix2 0 d) := by
  unfold mtest1
  blk_simp [iblk1]
  congr 1
  blk_ext [index1_3]
/-- What the steps read of the greatest least distance. -/
theorem sstar1_eq : sstar1 V c (ix2 0 0) = V c main_v0_7 (ix2 0 0) := by
  unfold sstar1
  blk_simp [iblk1]
  congr 1
  blk_ext [index1_4]
/-- What the first step reads of the 26 by 26 map. -/
theorem m26_eq (i j : Fin 26) : m26 V c (ix2 i j) = V c main_v9 (ix2 i j) := by
  unfold m26
  blk_simp [iblk1]
  congr 1
  blk_ext [index1_5]
/-- What the first step reads of the operator. -/
theorem aop1_eq (i : Fin 224) (j : Fin 26) : aop1 V c (ix2 i j) = V c main_arg2 (ix2 i j) := by
  unfold aop1
  blk_simp [iblk1]
  congr 1
  blk_ext [index1_6]

/-- The last point of the second call. -/
def last1 : Fin cfg1.N := pt1 3

/-- The score's array after the call is what the last step leaves in its window. -/
theorem arr1_7_of (x) (e : (dat1 V c).after 7 last1 = x) : (dat1 V c).arrAt 7 cfg1.N = x := by
  refine (dat1 V c).arrAt_eq_of_after_last 7 last1 (by decide +kernel) _ fun j => ?_
  rw [e]
  rfl
/-- The score after the call. -/
theorem arr1_7 : (dat1 V c).arrAt 7 cfg1.N = score V c := arr1_7_of V c _ (after1_7 V c last1)
/-- The map's array after the call is what the last step leaves in its window. -/
theorem arr1_8_of (x) (e : (dat1 V c).after 8 last1 = x) : (dat1 V c).arrAt 8 cfg1.N = x := by
  refine (dat1 V c).arrAt_eq_of_after_last 8 last1 (by decide +kernel) _ fun j => ?_
  rw [e]
  rfl
/-- The map after the call. -/
theorem arr1_8 : (dat1 V c).arrAt 8 cfg1.N = smap V c := arr1_8_of V c _ (after1_8 V c last1)

variable {p : Fin 676 → Fin 1536 → ℝ} {l : Fin 16384 → Fin 1536 → ℝ} (D : Picked p l)

/-- The score, from what the second call finds. -/
theorem score_picked
    (hl : ∀ n hn r d, (V c main_v0_3 (ix2 (brow n hn r) d) : EReal) = ((l (brow n hn r) d : ℝ) : EReal))
    (hb : ∀ n hn r, (V c main_v0_2 (ix3 ⟨n, hn⟩ 0 r) : EReal) = ((∑ d, l (brow n hn r) d * l (brow n hn r) d : ℝ) : EReal))
    (hm : ∀ d, (V c main_v8 (ix2 0 d) : EReal) = ((l (D.ks D.s) d : ℝ) : EReal))
    (ht : ∀ d, (V c main_v0_4 (ix2 0 d) : EReal) = ((p D.s d : ℝ) : EReal))
    (hs : (V c main_v0_7 (ix2 0 0) : EReal) = D.mv D.s) :
    (score V c (ix2 0 0) : EReal) = D.score := by
  have hk : ∀ k : Fin 16384, ∃ n, ∃ hn : n < 4, ∃ r, brow n hn r = k ∧ k.val / 4096 = n ∧ k.val % 4096 = r.val := fun k =>
    ⟨k.val / 4096, by omega, ⟨k.val % 4096, by omega⟩, Fin.ext (by simp only [brow]; omega), rfl, rfl⟩
  refine score1_picked D _ _ _ (fun k => ?_) (fun k => ?_) ?_
  · obtain ⟨n, hn, r, rfl, h1, h2⟩ := hk k
    have e : flat (wdFull V c) (brow n hn r) = (rowW V c n (ix2 0 r) : EReal) := by
      unfold flat wdFull
      simp only [h1, h2]
      rfl
    rw [e]
    exact q11 _ _ _ _ r _ _ (fun d => (mstar1_eq V c d).trans (hm d)) (fun d => (libb1_eq V c n hn r d).trans (hl n hn r d))
      ((bsq1_eq V c n hn r).trans (hb n hn r))
  · obtain ⟨n, hn, r, rfl, h1, h2⟩ := hk k
    have e : flat (tdFull V c) (brow n hn r) = (rowT V c n (ix2 0 r) : EReal) := by
      unfold flat tdFull
      simp only [h1, h2]
      rfl
    rw [e]
    exact q12 _ _ _ _ r _ _ (fun d => (mtest1_eq V c d).trans (ht d)) (fun d => (libb1_eq V c n hn r d).trans (hl n hn r d))
      ((bsq1_eq V c n hn r).trans (hb n hn r))
  · exact (sstar1_eq V c).trans hs

/-- The score map, from what the second call finds. -/
theorem smap_apply (A : FVec Ideal S224x26 .f32) (M : FVec Ideal S26x26 .f32) (hA : V c main_arg2 = A) (hM : V c main_v9 = M)
    (i j : Fin 224) : (smap V c (ix2 i j) : EReal)
    = ∑ y : Fin 26, (∑ x : Fin 26, (A (ix2 i x) : EReal) * M (ix2 x y)) * A (ix2 j y) := by
  subst hA hM
  unfold smap
  refine (q1 _ _ i j).trans ?_
  refine Finset.sum_congr rfl fun y _ => ?_
  rw [aop1_eq V c j y]
  congr 1
  exact Finset.sum_congr rfl fun x _ => by rw [aop1_eq V c i x, m26_eq V c x y]

end

end Cert.KernelIdeal.Val

end
-- ==== Proof.Glue.lean ====
module

public import proofs.«01_k».proof.Proof.Glue0
public import proofs.«01_k».proof.Proof.Glue1

/-!
  The kernel's two results over the extended reals, as functions of its arguments: the two calls and the host operations
  between and after them put together.
-/

@[expose] public section

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.StableHlo
open Cert.Picks

/-! ### The host operations -/

/-- The second call reads the least distances as a 26 by 26 map. -/
theorem host1_v9 (W : Valuation τ sig (Elt Ideal)) : StableHlo.after (hostOps1 (F := Ideal)) W (Proc.devRef .tc main_v9)
    = shapeCast S26x26 (W (Proc.devRef .tc main_v0_0)) shapeCasts_S1x676_S26x26 := by
  after_results_entrywise [cast_eq]
/-- The second call reads one library row, sliced at the word the first call left. -/
theorem host1_v8 (W : Valuation τ sig (Elt Ideal)) : StableHlo.after (hostOps1 (F := Ideal)) W (Proc.devRef .tc main_v8)
    = Host.dynamicSlice S1x1536 (W (Proc.devRef .tc main_arg1)) (fun k => ((![
      select (cmpi .slt (shapeCast S_ (W (Proc.devRef .tc main_v0_6)) shapeCasts_S1x1_S_) (constantI S_ 32 0#32))
        (addi (shapeCast S_ (W (Proc.devRef .tc main_v0_6)) shapeCasts_S1x1_S_) (constantI S_ 32 16384#32))
        (shapeCast S_ (W (Proc.devRef .tc main_v0_6)) shapeCasts_S1x1_S_),
      select (cmpi .slt (constantI S_ 32 0#32) (constantI S_ 32 0#32)) (addi (constantI S_ 32 0#32) (constantI S_ 32 1536#32))
        (constantI S_ 32 0#32)] : Fin 2 → IVec S_ 32) k (Shape.Idx.first h_S_)).toInt) sliceFits_S16384x1536_S1x1536 := by
  after_results_entrywise [cast_eq]
/-- The first result is the second call's score, its axes dropped. -/
theorem host2_v11 (W : Valuation τ sig (Elt Ideal)) : StableHlo.after (hostOps2 (F := Ideal)) W (Proc.devRef .tc main_v11)
    = shapeCast S_ (W (Proc.devRef .tc main_v10_0)) shapeCasts_S1x1_S_ := by
  after_results_entrywise [cast_eq]
/-- The second result is the second call's map, with two axes of length one added. -/
theorem host2_v12 (W : Valuation τ sig (Elt Ideal)) : StableHlo.after (hostOps2 (F := Ideal)) W (Proc.devRef .tc main_v12)
    = shapeCast S1x1x224x224 (W (Proc.devRef .tc main_v10_1)) shapeCasts_S224x224_S1x1x224x224 := by
  after_results_entrywise [cast_eq]

/-- A one by one array without its axes holds its one entry. -/
theorem cast_one (x : FVec Ideal S1x1 .f32) : shapeCast S_ x shapeCasts_S1x1_S_ ix0 = x (ix2 0 0) := by
  pointwise []
/-- The same of words. -/
theorem cast_word (x : IVec S1x1 32) : shapeCast S_ x shapeCasts_S1x1_S_ ix0 = x (ix2 0 0) := by
  pointwise []
/-- A map with two axes of length one added holds the same entries. -/
theorem cast_map (x : FVec Ideal S224x224 .f32) (a b : Fin 224) :
    shapeCast S1x1x224x224 x shapeCasts_S224x224_S1x1x224x224 (ix4 0 0 a b) = x (ix2 a b) := by
  pointwise []
/-- A row of 676 read as 26 by 26 has at row i, column j the entry i*26+j. -/
theorem cast_patch (x : FVec Ideal S1x676 .f32) (i j : Fin 26) :
    shapeCast S26x26 x shapeCasts_S1x676_S26x26 (ix2 i j) = x (ix2 0 ⟨i.val * 26 + j.val, by omega⟩) := by
  pointwise []

/-! ### The two calls -/

section
variable (m : (ℓ : Loc nD τ sig) → Buf (Elt Ideal) ℓ) (c : Dev nD)
variable {p : Fin 676 → Fin 1536 → ℝ} {l : Fin 16384 → Fin 1536 → ℝ}
variable (x0 : FVec Ideal S676x1536 .f32) (x1 : FVec Ideal S16384x1536 .f32) (x2 : FVec Ideal S224x26 .f32)
variable (e0 : m ((c.tc : Thread nD τ).loc main_arg0) = x0) (e1 : m ((c.tc : Thread nD τ).loc main_arg1) = x1)
  (e2 : m ((c.tc : Thread nD τ).loc main_arg2) = x2)
variable (hx0 : ∀ q d, (x0 (ix2 q d) : EReal) = ((p q d : ℝ) : EReal)) (hx1 : ∀ k d, (x1 (ix2 k d) : EReal) = ((l k d : ℝ) : EReal))
variable (D : Picked p l)

/-- The buffers as the first call finds them. -/
abbrev W0 : (c : Dev nD) → (b : Ref sig .tc) → Buf (Elt Ideal) ((c : Thread nD τ).loc b) := fun c b => U0 m c (Proc.devRef .tc b)
/-- The buffers as the second call finds them. -/
abbrev W2 : (c : Dev nD) → (b : Ref sig .tc) → Buf (Elt Ideal) ((c : Thread nD τ).loc b) := fun c b => U2 m c (Proc.devRef .tc b)

/-- After the first call: the least distances. -/
theorem U1_v0_0 : U1 m c (Proc.devRef .tc main_v0_0) = minv0 (W0 m) c :=
  (Pipeline.afterRegion_arr (d0 m c) (U0 m c) winFacts0.arr_inj 2).trans (arr0_2 (W0 m) c)
/-- After the first call: the squared norms of the library rows. -/
theorem U1_v0_2 : U1 m c (Proc.devRef .tc main_v0_2) = bsqG (W0 m c main_arg1) :=
  (Pipeline.afterRegion_arr (d0 m c) (U0 m c) winFacts0.arr_inj 4).trans (arr0_4 (W0 m) c)
/-- After the first call: the copy of the library. -/
theorem U1_v0_3 : U1 m c (Proc.devRef .tc main_v0_3) = W0 m c main_arg1 :=
  (Pipeline.afterRegion_arr (d0 m c) (U0 m c) winFacts0.arr_inj 5).trans (arr0_5 (W0 m) c)
/-- After the first call: the picked patch. -/
theorem U1_v0_4 : U1 m c (Proc.devRef .tc main_v0_4) = mtest0 (W0 m) c :=
  (Pipeline.afterRegion_arr (d0 m c) (U0 m c) winFacts0.arr_inj 6).trans (arr0_6 (W0 m) c)
/-- After the first call: the index of the picked library row. -/
theorem U1_v0_6 : U1 m c (Proc.devRef .tc main_v0_6) = jstar0 (W0 m) c :=
  (Pipeline.afterRegion_arr (d0 m c) (U0 m c) winFacts0.arr_inj 8).trans (arr0_8 (W0 m) c)
/-- After the first call: the greatest least distance. -/
theorem U1_v0_7 : U1 m c (Proc.devRef .tc main_v0_7) = sstar0 (W0 m) c :=
  (Pipeline.afterRegion_arr (d0 m c) (U0 m c) winFacts0.arr_inj 9).trans (arr0_9 (W0 m) c)

/-- The host code between the calls leaves the squared norms. -/
theorem U2_v0_2 : W2 m c main_v0_2 = bsqG (W0 m c main_arg1) := (U2_of m c main_v0_2 (by decide)).trans (U1_v0_2 m c)
/-- It leaves the copy of the library. -/
theorem U2_v0_3 : W2 m c main_v0_3 = W0 m c main_arg1 := (U2_of m c main_v0_3 (by decide)).trans (U1_v0_3 m c)
/-- It leaves the picked patch. -/
theorem U2_v0_4 : W2 m c main_v0_4 = mtest0 (W0 m) c := (U2_of m c main_v0_4 (by decide)).trans (U1_v0_4 m c)
/-- It leaves the greatest least distance. -/
theorem U2_v0_7 : W2 m c main_v0_7 = sstar0 (W0 m) c := (U2_of m c main_v0_7 (by decide)).trans (U1_v0_7 m c)
/-- The first call leaves the library. -/
theorem U1_arg1 : U1 m c (Proc.devRef .tc main_arg1) = W0 m c main_arg1 := U1_of m c main_arg1 (by decide)
/-- The operator reaches the second call unchanged. -/
theorem U2_arg2 : W2 m c main_arg2 = W0 m c main_arg2 :=
  (U2_of m c main_arg2 (by decide)).trans (U1_of m c main_arg2 (by decide))

include e0 hx0 in
/-- The patch table holds the real patch rows. -/
theorem patch_real (q d) : (patch0 (W0 m) c (ix2 q d) : EReal) = ((p q d : ℝ) : EReal) :=
  (patch0_eq (W0 m) c q d).trans ((congrFun e0 (ix2 q d)).trans (hx0 q d))
include e1 hx1 in
/-- The library's block n holds real library rows. -/
theorem lib_real (n hn r d) : (lib0 (W0 m) c n (ix2 r d) : EReal) = ((l (lrow n hn r) d : ℝ) : EReal) :=
  (lib0_eq (W0 m) c n hn r d).trans ((congrFun e1 _).trans (hx1 _ d))

include e0 e1 hx0 hx1

/-- The row the host operations pick out of the library. -/
theorem row_eq (d : Fin 1536) : (W2 m c main_v8 (ix2 0 d) : EReal) = ((l (D.ks D.s) d : ℝ) : EReal) := by
  have hj : shapeCast S_ (U1 m c (Proc.devRef .tc main_v0_6)) shapeCasts_S1x1_S_ (Shape.Idx.first h_S_) = BitVec.ofNat 32 (D.ks D.s).val := by
    rw [U1_v0_6, Cert.ReferenceIdeal.Val.ix0_eq (Shape.Idx.first h_S_)]
    exact (cast_word _).trans (jstar_eq (W0 m) c p l (patch_real m c x0 e0 hx0) (lib_real m c x1 e1 hx1) D)
  have h := host1_v8 (U1 m c)
  refine (congrFun h (ix2 0 d)).trans ?_
  refine (Cert.Picks.dynamicSlice_row_word (U1 m c (Proc.devRef .tc main_arg1)) _ _ _ (D.ks D.s) _ (by decide) ?_ ?_ d).trans ?_
  · show Scalar.select (IntOp.cmpi .slt _ 0#32) _ _ = _
    rw [hj]
    exact Cert.ReferenceIdeal.Val.wrap_ofNat _ _ (lt_trans (D.ks D.s).isLt (by decide))
  · rfl
  · rw [U1_arg1]
    exact (congrFun e1 _).trans (hx1 _ d)

/-- The kernel's score. -/
theorem kernel_score : (U4 m c (Proc.devRef .tc main_v11) ix0 : EReal) = D.score := by
  have h := host2_v11 (U3 m c)
  refine (congrFun h ix0).trans ?_
  have e : U3 m c (Proc.devRef .tc main_v10_0) = score (W2 m) c :=
    (Pipeline.afterRegion_arr (d1 m c) (U2 m c) winFacts1.arr_inj 7).trans (arr1_7 (W2 m) c)
  rw [e]
  refine (cast_one _).trans ?_
  have hX := patch_real m c x0 e0 hx0
  have hL := lib_real m c x1 e1 hx1
  refine score_picked (W2 m) c D (fun n hn r d => ?_) (fun n hn r => ?_) (row_eq m c x0 x1 e0 e1 hx0 hx1 D) (fun d => ?_) ?_
  · rw [U2_v0_3]
    exact (congrFun e1 _).trans (hx1 _ d)
  · rw [U2_v0_2]
    have h1 : W0 m c main_arg1 = x1 := e1
    rw [h1]
    show (∑ d : Fin 1536, (x1 (ix2 (brow n hn r) d) : EReal) * x1 (ix2 (brow n hn r) d)) = _
    simp only [hx1, ← EReal.coe_mul, sum_coe]
  · rw [U2_v0_4]
    exact mtest_eq (W0 m) c p l hX hL D d
  · rw [U2_v0_7]
    exact sstar_eq (W0 m) c p l hX hL D

include e2 in
/-- The kernel's score map. -/
theorem kernel_map (a b : Fin 224) : (U4 m c (Proc.devRef .tc main_v12) (ix4 0 0 a b) : EReal)
    = ∑ j : Fin 26, (∑ i : Fin 26, (x2 (ix2 a i) : EReal) * D.mv ⟨i.val * 26 + j.val, by omega⟩) * x2 (ix2 b j) := by
  have h := host2_v12 (U3 m c)
  refine (congrFun h (ix4 0 0 a b)).trans ?_
  have e : U3 m c (Proc.devRef .tc main_v10_1) = smap (W2 m) c :=
    (Pipeline.afterRegion_arr (d1 m c) (U2 m c) winFacts1.arr_inj 8).trans (arr1_8 (W2 m) c)
  rw [e]
  refine (cast_map _ a b).trans ?_
  have hX := patch_real m c x0 e0 hx0
  have hL := lib_real m c x1 e1 hx1
  refine (smap_apply (W2 m) c x2 _ ((U2_arg2 m c).trans e2) rfl a b).trans ?_
  have hM : ∀ i j : Fin 26, (W2 m c main_v9 (ix2 i j) : EReal) = D.mv ⟨i.val * 26 + j.val, by omega⟩ := by
    intro i j
    refine (congrFun (host1_v9 (U1 m c)) (ix2 i j)).trans ?_
    rw [U1_v0_0]
    exact (cast_patch _ i j).trans (minv_eq (W0 m) c p l hX hL D _)
  refine Finset.sum_congr rfl fun j _ => ?_
  congr 1
  exact Finset.sum_congr rfl fun i _ => by rw [hM]

end

end Cert.KernelIdeal.Val

end
-- ==== Proof.PreRead.lean ====
module

public import proofs.«01_k».proof.Pre_separated
public import proofs.«01_k».proof.Proof.Nums
public import Idealize.ShloMosaic.Lib.ReduceAll
public import Idealize.ShloMosaic.Lib.Pointwise
public import Idealize.ShloMosaic.Lib.Decide

/-!
  What the precondition says of the operands: the patch rows and the library rows hold real numbers, and no squared
  distance of a patch row and a library row, or of two library rows, is positive and at most the clamp's literal.
-/

@[expose] public section

set_option maxRecDepth 16384

noncomputable section

namespace Cert.Pre_separated.Hand

open Idealize.ShloMosaic Idealize.ShloMosaic.TcCoe
open Cert.Pre_separated Cert.Picks

/-! ### The shapes fit -/

/-- The precondition's shapes fit. -/
instance facts : Cert.Pre_separated.Facts where
  bcast_S_S676x1536 := by decide
  reducesTo_S676x1536_S_d0_1 := by decide
  h_S_ := by decide
  bcast_S_S16384x1536 := by decide
  reducesTo_S16384x1536_S_d0_1 := by decide
  reducesTo_S676x1536_S676_d1 := by decide
  bcast_S676_S676x1_0 := by decide
  reducesTo_S16384x1536_S16384_d1 := by decide
  bcast_S16384_S16384x1_0 := by decide
  transposes_S16384x1_S1x16384_1_0 := by decide
  bcast_S676x1_S676x16384_0_1 := by decide
  bcast_S1x16384_S676x16384_0_1 := by decide
  transposes_S16384x1536_S1536x16384_1_0 := by decide
  bcast_S_S676x16384 := by decide
  reducesTo_S676x16384_S_d0_1 := by decide
  bcast_S16384x1_S16384x16384_0_1 := by decide
  bcast_S1x16384_S16384x16384_0_1 := by decide
  bcast_S_S16384x16384 := by decide
  reducesTo_S16384x16384_S_d0_1 := by decide
  dot_S676x1536_S1536x16384_S676x16384_1_0_0_1_n_n_wf := by decide
  dot_S16384x1536_S1536x16384_S16384x16384_1_0_0_1_n_n_wf := by decide

/-! ### The squared distances -/

/-- The squared norms of the patch rows, as a column. -/
def norm0 (x0 : FVec Ideal S676x1536 .f32) : FVec Ideal S676x1 .f32 :=
  broadcastInDim S676x1 ![0] Facts.bcast_S676_S676x1_0
    (Host.reduceAdd (mulf x0 x0) (constant S_ .f32 0x00000000#32) Facts.reducesTo_S676x1536_S676_d1 Facts.h_S_)

/-- The squared norms of the library rows, as a column. -/
def norm1 (x1 : FVec Ideal S16384x1536 .f32) : FVec Ideal S16384x1 .f32 :=
  broadcastInDim S16384x1 ![0] Facts.bcast_S16384_S16384x1_0
    (Host.reduceAdd (mulf x1 x1) (constant S_ .f32 0x00000000#32) Facts.reducesTo_S16384x1536_S16384_d1 Facts.h_S_)

/-- The table of squared distances of patch rows and library rows. -/
def dist0 (x0 : FVec Ideal S676x1536 .f32) (x1 : FVec Ideal S16384x1536 .f32) :
    FVec Ideal S676x16384 .f32 :=
  subf
    (addf (broadcastInDim S676x16384 ![0, 1] Facts.bcast_S676x1_S676x16384_0_1 (norm0 x0))
      (broadcastInDim S676x16384 ![0, 1] Facts.bcast_S1x16384_S676x16384_0_1
        (transpose S1x16384 [1, 0] (norm1 x1) Facts.transposes_S16384x1_S1x16384_1_0)))
    (mulf (broadcastInDim S676x16384 ![] Facts.bcast_S_S676x16384 (constant S_ .f32 0x40000000#32))
      (Host.dotGeneral dot_S676x1536_S1536x16384_S676x16384_1_0_0_1_n_n none x0
        (transpose S1536x16384 [1, 0] x1 Facts.transposes_S16384x1536_S1536x16384_1_0)))

/-- The table of squared distances of two library rows. -/
def dist1 (x1 : FVec Ideal S16384x1536 .f32) : FVec Ideal S16384x16384 .f32 :=
  subf
    (addf (broadcastInDim S16384x16384 ![0, 1] Facts.bcast_S16384x1_S16384x16384_0_1 (norm1 x1))
      (broadcastInDim S16384x16384 ![0, 1] Facts.bcast_S1x16384_S16384x16384_0_1
        (transpose S1x16384 [1, 0] (norm1 x1) Facts.transposes_S16384x1_S1x16384_1_0)))
    (mulf (broadcastInDim S16384x16384 ![] Facts.bcast_S_S16384x16384 (constant S_ .f32 0x40000000#32))
      (Host.dotGeneral dot_S16384x1536_S1536x16384_S16384x16384_1_0_0_1_n_n none x1
        (transpose S1536x16384 [1, 0] x1 Facts.transposes_S16384x1536_S1536x16384_1_0)))

/-- An entry of the first table is the squared distance of its two rows. -/
theorem dist0_eq (x0 : FVec Ideal S676x1536 .f32) (x1 : FVec Ideal S16384x1536 .f32)
    {p : Fin 676 → Fin 1536 → ℝ} {l : Fin 16384 → Fin 1536 → ℝ}
    (hx0 : ∀ q d, x0 (ix2 q d) = ((p q d : ℝ) : EReal)) (hx1 : ∀ k d, x1 (ix2 k d) = ((l k d : ℝ) : EReal)) (q : Fin 676) (k : Fin 16384) :
    dist0 x0 x1 (ix2 q k) = ((dsq (p q) (l k) : ℝ) : EReal) := by
  pointwise [dist0, norm0, norm1]
  simp only [hx0, hx1]
  rw [dsqE]

/-- An entry of the second table is the squared distance of its two rows. -/
theorem dist1_eq (x1 : FVec Ideal S16384x1536 .f32) {l : Fin 16384 → Fin 1536 → ℝ}
    (hx1 : ∀ k d, x1 (ix2 k d) = ((l k d : ℝ) : EReal)) (k k' : Fin 16384) :
    dist1 x1 (ix2 k k') = ((dsq (l k) (l k') : ℝ) : EReal) := by
  pointwise [dist1, norm1]
  simp only [hx1]
  rw [dsqE]

/-! ### Words of one bit -/

/-- A real number that tests as at most zero or past the clamp's literal is one the clamp does not blur. -/
theorem sep_of_test {r : ℝ} (h : IntOp.ori (FloatOps.cmpf (F := Ideal) (φ := .f32) .ole (r : EReal) (Ideal.ofBits .f32 0#32))
    (FloatOps.cmpf (F := Ideal) (φ := .f32) .ogt (r : EReal) (Ideal.ofBits .f32 730643660#32)) = 1#1) : Sep r := by
  rw [IntOp.ori_eq_one, Idealize.ShloMosaic.Ideal.cmpf_def, Idealize.ShloMosaic.Ideal.cmpf_def] at h
  unfold Ideal.cmp at h
  rw [lit_zero, lit_eps] at h
  simp only [EReal.coe_le_coe_iff, EReal.coe_lt_coe_iff] at h
  rcases h with h | h
  · exact Or.inl (by by_contra c; simp [c] at h)
  · exact Or.inr (by by_contra c; simp [c] at h)

/-- An extended real whose absolute value tests as less than plus infinity is a real number. -/
theorem real_of_test {x : EReal} (h : FloatOps.cmpf (F := Ideal) (φ := .f32) .olt (FloatOps.absf (F := Ideal) (φ := .f32) x)
    (Ideal.ofBits .f32 2139095040#32) = 1#1) : x = ((x.toReal : ℝ) : EReal) := by
  rw [Idealize.ShloMosaic.Ideal.cmpf_def, Idealize.ShloMosaic.Ideal.absf_def] at h
  unfold Ideal.cmp at h
  rw [lit_top] at h
  have h' : max x (-x) < ⊤ := by by_contra c; simp [c] at h
  rw [max_lt_iff] at h'
  refine (EReal.coe_toReal h'.1.ne ?_).symm
  rintro rfl
  simp at h'

/-! ### The precondition -/

/-- An array without axes has one index. -/
instance : Subsingleton S_.Idx := ⟨fun a b => funext fun i => i.elim0⟩

/-- The whole precondition: both tables hold real numbers, and both tests hold. -/
theorem fn_one (x0 : FVec Ideal S676x1536 .f32) (x1 : FVec Ideal S16384x1536 .f32) (x2 : FVec Ideal S224x26 .f32)
    (h : fn (F := Ideal) x0 x1 x2 ix0 = 1#1) :
    (∀ i, (x0 i : EReal) = (((x0 i : EReal).toReal : ℝ) : EReal)) ∧ (∀ i, (x1 i : EReal) = (((x1 i : EReal).toReal : ℝ) : EReal))
    ∧ (∀ i, IntOp.ori (FloatOps.cmpf (F := Ideal) (φ := .f32) .ole (dist0 x0 x1 i) (Ideal.ofBits .f32 0#32))
      (FloatOps.cmpf (F := Ideal) (φ := .f32) .ogt (dist0 x0 x1 i) (Ideal.ofBits .f32 730643660#32)) = 1#1)
    ∧ ∀ i, IntOp.ori (FloatOps.cmpf (F := Ideal) (φ := .f32) .ole (dist1 x1 i) (Ideal.ofBits .f32 0#32))
      (FloatOps.cmpf (F := Ideal) (φ := .f32) .ogt (dist1 x1 i) (Ideal.ofBits .f32 730643660#32)) = 1#1 := by
  have h' : andi (andi (andi
      (Host.reduce IntOp.andi (cmpf .olt (Host.absf x0) (broadcastInDim S676x1536 ![] Facts.bcast_S_S676x1536 (constant S_ .f32 0x7F800000#32)))
        (constantI S_ 1 1#1) Facts.reducesTo_S676x1536_S_d0_1 Facts.h_S_)
      (Host.reduce IntOp.andi (cmpf .olt (Host.absf x1) (broadcastInDim S16384x1536 ![] Facts.bcast_S_S16384x1536 (constant S_ .f32 0x7F800000#32)))
        (constantI S_ 1 1#1) Facts.reducesTo_S16384x1536_S_d0_1 Facts.h_S_))
      (Host.reduce IntOp.andi (ori
        (cmpf .ole (dist0 x0 x1) (broadcastInDim S676x16384 ![] Facts.bcast_S_S676x16384 (constant S_ .f32 0x00000000#32)))
        (cmpf .ogt (dist0 x0 x1) (broadcastInDim S676x16384 ![] Facts.bcast_S_S676x16384 (constant S_ .f32 0x2B8CBCCC#32))))
        (constantI S_ 1 1#1) Facts.reducesTo_S676x16384_S_d0_1 Facts.h_S_))
      (Host.reduce IntOp.andi (ori
        (cmpf .ole (dist1 x1) (broadcastInDim S16384x16384 ![] Facts.bcast_S_S16384x16384 (constant S_ .f32 0x00000000#32)))
        (cmpf .ogt (dist1 x1) (broadcastInDim S16384x16384 ![] Facts.bcast_S_S16384x16384 (constant S_ .f32 0x2B8CBCCC#32))))
        (constantI S_ 1 1#1) Facts.reducesTo_S16384x16384_S_d0_1 Facts.h_S_) ix0 = 1#1 := h
  obtain ⟨h1, h2⟩ := IntOp.andi_eq_one.mp h'
  obtain ⟨h3, h4⟩ := IntOp.andi_eq_one.mp h1
  obtain ⟨h5, h6⟩ := IntOp.andi_eq_one.mp h3
  exact ⟨fun i => real_of_test (Host.reduce_andi_all _ _ _ _ _ h5 i), fun i => real_of_test (Host.reduce_andi_all _ _ _ _ _ h6 i),
    fun i => Host.reduce_andi_all _ _ _ _ _ h4 i, fun i => Host.reduce_andi_all _ _ _ _ _ h2 i⟩

/-- What the precondition says: real rows whose squared distances the clamp does not blur. -/
theorem separated_real (x0 : FVec Ideal S676x1536 .f32) (x1 : FVec Ideal S16384x1536 .f32) (x2 : FVec Ideal S224x26 .f32)
    (h : fn (F := Ideal) x0 x1 x2 = fun _ => 1#1) :
    ∃ (p : Fin 676 → Fin 1536 → ℝ) (l : Fin 16384 → Fin 1536 → ℝ),
      (∀ q d, (x0 (ix2 q d) : EReal) = ((p q d : ℝ) : EReal)) ∧ (∀ k d, (x1 (ix2 k d) : EReal) = ((l k d : ℝ) : EReal))
      ∧ (∀ q k, Sep (dsq (p q) (l k))) ∧ ∀ k k', Sep (dsq (l k) (l k')) := by
  obtain ⟨h0, h1, h2, h3⟩ := fn_one x0 x1 x2 (congrFun h ix0)
  refine ⟨fun q d => (x0 (ix2 q d) : EReal).toReal, fun k d => (x1 (ix2 k d) : EReal).toReal,
    fun q d => h0 _, fun k d => h1 _, fun q k => ?_, fun k k' => ?_⟩
  · have e := h2 (ix2 q k)
    rw [dist0_eq x0 x1 (fun q d => h0 _) (fun k d => h1 _)] at e
    exact sep_of_test e
  · have e := h3 (ix2 k k')
    rw [dist1_eq x1 (fun k d => h1 _)] at e
    exact sep_of_test e

end Cert.Pre_separated.Hand

end
-- ==== Proof.lean ====
/- The proof of the claim: the frames of the kernel (as printed and idealized) and of the reference, that the
   idealized kernel keeps the printed one but for its named constant, and that over the extended reals, under the
   stated precondition, the idealized kernel and the reference end with the same two results. -/
module

public import proofs.«01_k».proof.Defs
public import proofs.«01_k».proof.Proof.RunAll
public import proofs.«01_k».proof.Proof.BitsRunAll
public import proofs.«01_k».proof.Proof.RefRun
public import proofs.«01_k».proof.Proof.RefRead
public import proofs.«01_k».proof.Proof.RVal
public import proofs.«01_k».proof.Proof.Glue
public import proofs.«01_k».proof.Proof.PreRead
public import Idealize.ShloMosaic.Adequacy
public import Idealize.ShloMosaic.Init

@[expose] public section

noncomputable section

namespace Cert.Proof

open Idealize.ShloMosaic Idealize.ShloMosaic.TcCoe Idealize.SL.Sem

/-- The reference has no semaphore. -/
theorem ref_no_sem : ∀ sm : SemLoc Cert.ReferenceIdeal.sig, False := by decide

/-- The reference's frame: every run terminates with the arguments unchanged and every counter at zero. -/
theorem ref_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun _ h => ⟨fun c => (h c).2.2, funext fun g => (ref_no_sem g.2).elim⟩) (Cert.ReferenceIdeal.Value.run (F := Ideal) m g)

/-- An index of a one by one by `a` by `b` array is its last two coordinates. -/
theorem ix4_eq (j : Cert.ReferenceIdeal.S1x1x224x224.Idx) : ∃ a b : Fin 224, j = ix4 0 0 a b := by
  refine ⟨j 2, j 3, funext fun k => ?_⟩
  match k with
  | 0 => exact Subsingleton.elim (α := Fin 1) _ _
  | 1 => exact Subsingleton.elim (α := Fin 1) _ _
  | 2 => rfl
  | 3 => rfl

section Values

variable (m : (ℓ : Loc Cert.KernelIdeal.nD Cert.KernelIdeal.τ Cert.KernelIdeal.sig) → Buf (Elt Ideal) ℓ)
  (c : Dev Cert.KernelIdeal.nD)
  (x0 : FVec Ideal Cert.ReferenceIdeal.S676x1536 .f32) (x1 : FVec Ideal Cert.ReferenceIdeal.S16384x1536 .f32)
  (x2 : FVec Ideal Cert.ReferenceIdeal.S224x26 .f32)
  (e0 : m ((c.tc : Thread Cert.KernelIdeal.nD Cert.KernelIdeal.τ).loc Cert.KernelIdeal.main_arg0) = x0)
  (e1 : m ((c.tc : Thread Cert.KernelIdeal.nD Cert.KernelIdeal.τ).loc Cert.KernelIdeal.main_arg1) = x1)
  (e2 : m ((c.tc : Thread Cert.KernelIdeal.nD Cert.KernelIdeal.τ).loc Cert.KernelIdeal.main_arg2) = x2)
  (h : Cert.Pre_separated.fn (F := Ideal) x0 x1 x2 = fun _ => 1#1)

include e0 e1 h in
/-- Under the precondition the reference's score is the kernel's. -/
theorem score_same : Cert.ReferenceIdeal.Read.val_main_v86 (F := Ideal) x0 x1
    = Cert.KernelIdeal.Hand.U4 m c (Proc.devRef .tc Cert.KernelIdeal.main_v11) := by
  obtain ⟨p, l, hx0, hx1, sepP, sepL⟩ := Cert.Pre_separated.Hand.separated_real x0 x1 x2 h
  obtain ⟨D⟩ := Cert.Picks.exists_picked sepP sepL
  funext j
  obtain rfl := Cert.ReferenceIdeal.Val.ix0_eq j
  exact (Cert.ReferenceIdeal.Val.score_eq x0 x1 hx0 hx1 D).trans
    (Cert.KernelIdeal.Val.kernel_score m c x0 x1 e0 e1 hx0 hx1 D).symm

include e0 e1 e2 h in
/-- Under the precondition the reference's score map is the kernel's. -/
theorem map_same : Cert.ReferenceIdeal.Read.val_main_v91 (F := Ideal) x0 x1 x2
    = Cert.KernelIdeal.Hand.U4 m c (Proc.devRef .tc Cert.KernelIdeal.main_v12) := by
  obtain ⟨p, l, hx0, hx1, sepP, sepL⟩ := Cert.Pre_separated.Hand.separated_real x0 x1 x2 h
  obtain ⟨D⟩ := Cert.Picks.exists_picked sepP sepL
  funext j
  obtain ⟨a, b, rfl⟩ := ix4_eq j
  exact (Cert.ReferenceIdeal.Val.map_eq x0 x1 hx0 hx1 x2 D a b).trans
    (Cert.KernelIdeal.Val.kernel_map m c x0 x1 x2 e0 e1 e2 hx0 hx1 D a b).symm

end Values

/-- The values: under the precondition, from equal arguments, the idealized kernel and the reference both run to the end and
    leave the same score and the same score map. -/
theorem values : Cert.algebraic_KernelIdeal_ReferenceIdeal_pre_separated (hKernelIdeal := Cert.KernelIdeal.Gen.facts)
    (hReferenceIdeal := Cert.ReferenceIdeal.Gen.facts) (hPre_separated := Cert.Pre_separated.Hand.facts) := by
  intro m g m' g' hm hargs
  refine ⟨fun c => Cert.KernelIdeal.Hand.U4 m c (Proc.devRef .tc Cert.KernelIdeal.main_v11),
    fun c => Cert.KernelIdeal.Hand.U4 m c (Proc.devRef .tc Cert.KernelIdeal.main_v12),
    Cert.KernelIdeal.Hand.run_value m g, (θ_run _ _ _).mono (fun r h c => ?_) (Cert.ReferenceIdeal.Value.run (F := Ideal) m' g')⟩
  obtain ⟨a0, a1, a2⟩ := hargs c
  have hp := hm c
  rw [← a0, ← a1, ← a2] at hp
  exact ⟨(h c).1.trans ((Cert.ReferenceIdeal.Read.val_main_v86_eq (StableHlo.launchContents m' c)).trans
      (score_same m c _ _ _ a0.symm a1.symm hp)),
    (h c).2.1.trans ((Cert.ReferenceIdeal.Read.val_main_v91_eq (StableHlo.launchContents m' c)).trans
      (map_same m c _ _ _ a0.symm a1.symm a2.symm hp)), (h c).2.2⟩

/-- The certificate's claim. -/
theorem claim : Cert.Claim := ⟨Cert.Kernel.Gen.facts, Cert.KernelIdeal.Gen.facts, Cert.ReferenceIdeal.Gen.facts,
  Cert.Pre_separated.Hand.facts,
  fun m g _ => Cert.Kernel.Hand.frame_run m g, fun m g _ => Cert.KernelIdeal.Hand.frame_run m g,
  fun m g _ => Cert.KernelIdeal.Hand.frame_run m g, fun m g _ => ref_frame m g, fun m g _ => ref_frame m g,
  IdealRules.named_const.statement _ _ _ _ _ rfl, values⟩

end Cert.Proof

end
